-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_CmpAttn (m : (ℓ : Loc Cert.CmpAttn.nD Cert.CmpAttn.τ Cert.CmpAttn.sig) → Buf (Elt Bits) ℓ) : Prop :=
  True

def Pre_CmpAttnIdeal (m : (ℓ : Loc Cert.CmpAttnIdeal.nD Cert.CmpAttnIdeal.τ Cert.CmpAttnIdeal.sig) → Buf (Elt Ideal) ℓ) : Prop :=
  True

def Pre_CmpAttnRefIdeal (m : (ℓ : Loc Cert.CmpAttnRefIdeal.nD Cert.CmpAttnRefIdeal.τ Cert.CmpAttnRefIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def Pre_CmpPool [hPre_pages_in_pool : Cert.Pre_pages_in_pool.Facts] (m : (ℓ : Loc Cert.CmpPool.nD Cert.CmpPool.τ Cert.CmpPool.sig) → Buf (Elt Bits) ℓ) : Prop :=
  ∀ c : Dev Cert.CmpPool.nD,
    (Cert.Pre_pages_in_pool.fn (F := Bits) (m ((c.tc : Thread Cert.CmpPool.nD Cert.CmpPool.τ).loc Cert.CmpPool.main_arg0)) (m ((c.tc : Thread Cert.CmpPool.nD Cert.CmpPool.τ).loc Cert.CmpPool.main_arg1)) (m ((c.tc : Thread Cert.CmpPool.nD Cert.CmpPool.τ).loc Cert.CmpPool.main_arg2))) = (fun _ => 1#1)

def Pre_CmpPoolIdeal [hPre_pages_in_pool : Cert.Pre_pages_in_pool.Facts] (m : (ℓ : Loc Cert.CmpPoolIdeal.nD Cert.CmpPoolIdeal.τ Cert.CmpPoolIdeal.sig) → Buf (Elt Ideal) ℓ) : Prop :=
  ∀ c : Dev Cert.CmpPoolIdeal.nD,
    (Cert.Pre_pages_in_pool.fn (F := Ideal) (m ((c.tc : Thread Cert.CmpPoolIdeal.nD Cert.CmpPoolIdeal.τ).loc Cert.CmpPoolIdeal.main_arg0)) (m ((c.tc : Thread Cert.CmpPoolIdeal.nD Cert.CmpPoolIdeal.τ).loc Cert.CmpPoolIdeal.main_arg1)) (m ((c.tc : Thread Cert.CmpPoolIdeal.nD Cert.CmpPoolIdeal.τ).loc Cert.CmpPoolIdeal.main_arg2))) = (fun _ => 1#1)

def Pre_CmpPoolIdeal_pages_in_pool_finite [hPre_pages_in_pool_finite : Cert.Pre_pages_in_pool_finite.Facts] (m : (ℓ : Loc Cert.CmpPoolIdeal.nD Cert.CmpPoolIdeal.τ Cert.CmpPoolIdeal.sig) → Buf (Elt Ideal) ℓ) : Prop :=
  ∀ c : Dev Cert.CmpPoolIdeal.nD,
    (Cert.Pre_pages_in_pool_finite.fn (F := Ideal) (m ((c.tc : Thread Cert.CmpPoolIdeal.nD Cert.CmpPoolIdeal.τ).loc Cert.CmpPoolIdeal.main_arg0)) (m ((c.tc : Thread Cert.CmpPoolIdeal.nD Cert.CmpPoolIdeal.τ).loc Cert.CmpPoolIdeal.main_arg1)) (m ((c.tc : Thread Cert.CmpPoolIdeal.nD Cert.CmpPoolIdeal.τ).loc Cert.CmpPoolIdeal.main_arg2))).1 = (fun _ => 1#1)
    ∧ (Cert.Pre_pages_in_pool_finite.fn (F := Ideal) (m ((c.tc : Thread Cert.CmpPoolIdeal.nD Cert.CmpPoolIdeal.τ).loc Cert.CmpPoolIdeal.main_arg0)) (m ((c.tc : Thread Cert.CmpPoolIdeal.nD Cert.CmpPoolIdeal.τ).loc Cert.CmpPoolIdeal.main_arg1)) (m ((c.tc : Thread Cert.CmpPoolIdeal.nD Cert.CmpPoolIdeal.τ).loc Cert.CmpPoolIdeal.main_arg2))).2.1 = (fun _ => 1#1)
    ∧ (Cert.Pre_pages_in_pool_finite.fn (F := Ideal) (m ((c.tc : Thread Cert.CmpPoolIdeal.nD Cert.CmpPoolIdeal.τ).loc Cert.CmpPoolIdeal.main_arg0)) (m ((c.tc : Thread Cert.CmpPoolIdeal.nD Cert.CmpPoolIdeal.τ).loc Cert.CmpPoolIdeal.main_arg1)) (m ((c.tc : Thread Cert.CmpPoolIdeal.nD Cert.CmpPoolIdeal.τ).loc Cert.CmpPoolIdeal.main_arg2))).2.2 = (fun _ => 1#1)

def Pre_CmpPoolRefIdeal (m : (ℓ : Loc Cert.CmpPoolRefIdeal.nD Cert.CmpPoolRefIdeal.τ Cert.CmpPoolRefIdeal.sig) → Buf (Elt Ideal) ℓ) : Prop :=
  True

def Pre_CmpPoolRefIdeal_pages_in_pool_finite [hPre_pages_in_pool_finite : Cert.Pre_pages_in_pool_finite.Facts] (m : (ℓ : Loc Cert.CmpPoolRefIdeal.nD Cert.CmpPoolRefIdeal.τ Cert.CmpPoolRefIdeal.sig) → Buf (Elt Ideal) ℓ) : Prop :=
  ∀ c : Dev Cert.CmpPoolRefIdeal.nD,
    (Cert.Pre_pages_in_pool_finite.fn (F := Ideal) (m ((c.tc : Thread Cert.CmpPoolRefIdeal.nD Cert.CmpPoolRefIdeal.τ).loc Cert.CmpPoolRefIdeal.main_arg0)) (m ((c.tc : Thread Cert.CmpPoolRefIdeal.nD Cert.CmpPoolRefIdeal.τ).loc Cert.CmpPoolRefIdeal.main_arg1)) (m ((c.tc : Thread Cert.CmpPoolRefIdeal.nD Cert.CmpPoolRefIdeal.τ).loc Cert.CmpPoolRefIdeal.main_arg2))).1 = (fun _ => 1#1)
    ∧ (Cert.Pre_pages_in_pool_finite.fn (F := Ideal) (m ((c.tc : Thread Cert.CmpPoolRefIdeal.nD Cert.CmpPoolRefIdeal.τ).loc Cert.CmpPoolRefIdeal.main_arg0)) (m ((c.tc : Thread Cert.CmpPoolRefIdeal.nD Cert.CmpPoolRefIdeal.τ).loc Cert.CmpPoolRefIdeal.main_arg1)) (m ((c.tc : Thread Cert.CmpPoolRefIdeal.nD Cert.CmpPoolRefIdeal.τ).loc Cert.CmpPoolRefIdeal.main_arg2))).2.1 = (fun _ => 1#1)
    ∧ (Cert.Pre_pages_in_pool_finite.fn (F := Ideal) (m ((c.tc : Thread Cert.CmpPoolRefIdeal.nD Cert.CmpPoolRefIdeal.τ).loc Cert.CmpPoolRefIdeal.main_arg0)) (m ((c.tc : Thread Cert.CmpPoolRefIdeal.nD Cert.CmpPoolRefIdeal.τ).loc Cert.CmpPoolRefIdeal.main_arg1)) (m ((c.tc : Thread Cert.CmpPoolRefIdeal.nD Cert.CmpPoolRefIdeal.τ).loc Cert.CmpPoolRefIdeal.main_arg2))).2.2 = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1)
      ∧ r.2.mem ((c.tc : Thread Cert.NormSample.nD Cert.NormSample.τ).loc Cert.NormSample.main_arg2) = m ((c.tc : Thread Cert.NormSample.nD Cert.NormSample.τ).loc Cert.NormSample.main_arg2)
      ∧ r.2.mem ((c.tc : Thread Cert.NormSample.nD Cert.NormSample.τ).loc Cert.NormSample.main_arg3) = m ((c.tc : Thread Cert.NormSample.nD Cert.NormSample.τ).loc Cert.NormSample.main_arg3))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
      ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2)
      ∧ r.2.mem ((c.tc : Thread Cert.NormSampleIdeal.nD Cert.NormSampleIdeal.τ).loc Cert.NormSampleIdeal.main_arg3) = m ((c.tc : Thread Cert.NormSampleIdeal.nD Cert.NormSampleIdeal.τ).loc Cert.NormSampleIdeal.main_arg3))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1)
      ∧ r.2.mem ((c.tc : Thread Cert.NormSampleRefIdeal.nD Cert.NormSampleRefIdeal.τ).loc Cert.NormSampleRefIdeal.main_arg2) = m ((c.tc : Thread Cert.NormSampleRefIdeal.nD Cert.NormSampleRefIdeal.τ).loc Cert.NormSampleRefIdeal.main_arg2)
      ∧ r.2.mem ((c.tc : Thread Cert.NormSampleRefIdeal.nD Cert.NormSampleRefIdeal.τ).loc Cert.NormSampleRefIdeal.main_arg3) = m ((c.tc : Thread Cert.NormSampleRefIdeal.nD Cert.NormSampleRefIdeal.τ).loc Cert.NormSampleRefIdeal.main_arg3))
      ∧ r.2.sem = fun _ => 0)

def quiescent_CmpAttn [hCmpAttn : Cert.CmpAttn.Facts] : Prop :=
  ∀ (m : (ℓ : Loc Cert.CmpAttn.nD Cert.CmpAttn.τ Cert.CmpAttn.sig) → Buf (Elt Bits) ℓ) (g : Dev Cert.CmpAttn.nD → PrngReg), Pre_CmpAttn m →
    θ_run (Cert.CmpAttn.defs (F := Bits)) (onTc (τ := Cert.CmpAttn.τ) (Cert.CmpAttn.main (F := Bits))) ⟨m, fun _ => 0, g⟩ (fun r => (∀ c : Dev Cert.CmpAttn.nD,
      r.2.mem ((c.tc : Thread Cert.CmpAttn.nD Cert.CmpAttn.τ).loc Cert.CmpAttn.main_arg0) = m ((c.tc : Thread Cert.CmpAttn.nD Cert.CmpAttn.τ).loc Cert.CmpAttn.main_arg0)
      ∧ r.2.mem ((c.tc : Thread Cert.CmpAttn.nD Cert.CmpAttn.τ).loc Cert.CmpAttn.main_arg1) = m ((c.tc : Thread Cert.CmpAttn.nD Cert.CmpAttn.τ).loc Cert.CmpAttn.main_arg1))
      ∧ r.2.sem = fun _ => 0)

def quiescent_CmpAttnIdeal [hCmpAttnIdeal : Cert.CmpAttnIdeal.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg), Pre_CmpAttnIdeal m →
    θ_run (Cert.CmpAttnIdeal.defs (F := Ideal)) (onTc (τ := Cert.CmpAttnIdeal.τ) (Cert.CmpAttnIdeal.main (F := Ideal))) ⟨m, fun _ => 0, g⟩ (fun r => (∀ c : Dev Cert.CmpAttnIdeal.nD,
      r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
      ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1))
      ∧ r.2.sem = fun _ => 0)

def quiescent_CmpAttnRefIdeal [hCmpAttnRefIdeal : Cert.CmpAttnRefIdeal.Facts] : Prop :=
  ∀ (m : (ℓ : Loc Cert.CmpAttnRefIdeal.nD Cert.CmpAttnRefIdeal.τ Cert.CmpAttnRefIdeal.sig) → Buf (Elt Ideal) ℓ) (g : Dev Cert.CmpAttnRefIdeal.nD → PrngReg), Pre_CmpAttnRefIdeal m →
    θ_run (Cert.CmpAttnRefIdeal.defs (F := Ideal)) (onTc (τ := Cert.CmpAttnRefIdeal.τ) (Cert.CmpAttnRefIdeal.main (F := Ideal))) ⟨m, fun _ => 0, g⟩ (fun r => (∀ c : Dev Cert.CmpAttnRefIdeal.nD,
      r.2.mem ((c.tc : Thread Cert.CmpAttnRefIdeal.nD Cert.CmpAttnRefIdeal.τ).loc Cert.CmpAttnRefIdeal.main_arg0) = m ((c.tc : Thread Cert.CmpAttnRefIdeal.nD Cert.CmpAttnRefIdeal.τ).loc Cert.CmpAttnRefIdeal.main_arg0)
      ∧ r.2.mem ((c.tc : Thread Cert.CmpAttnRefIdeal.nD Cert.CmpAttnRefIdeal.τ).loc Cert.CmpAttnRefIdeal.main_arg1) = m ((c.tc : Thread Cert.CmpAttnRefIdeal.nD Cert.CmpAttnRefIdeal.τ).loc Cert.CmpAttnRefIdeal.main_arg1))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2)
      ∧ r.2.mem ((c.tc : Thread Cert.OutProjSample.nD Cert.OutProjSample.τ).loc Cert.OutProjSample.main_arg3) = m ((c.tc : Thread Cert.OutProjSample.nD Cert.OutProjSample.τ).loc Cert.OutProjSample.main_arg3)
      ∧ r.2.mem ((c.tc : Thread Cert.OutProjSample.nD Cert.OutProjSample.τ).loc Cert.OutProjSample.main_arg4) = m ((c.tc : Thread Cert.OutProjSample.nD Cert.OutProjSample.τ).loc Cert.OutProjSample.main_arg4)
      ∧ r.2.mem ((c.tc : Thread Cert.OutProjSample.nD Cert.OutProjSample.τ).loc Cert.OutProjSample.main_arg5) = m ((c.tc : Thread Cert.OutProjSample.nD Cert.OutProjSample.τ).loc Cert.OutProjSample.main_arg5))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
      ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
      ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
      ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2)
      ∧ r.2.mem ((c.tc : Thread Cert.OutProjSampleRefIdeal.nD Cert.OutProjSampleRefIdeal.τ).loc Cert.OutProjSampleRefIdeal.main_arg3) = m ((c.tc : Thread Cert.OutProjSampleRefIdeal.nD Cert.OutProjSampleRefIdeal.τ).loc Cert.OutProjSampleRefIdeal.main_arg3)
      ∧ r.2.mem ((c.tc : Thread Cert.OutProjSampleRefIdeal.nD Cert.OutProjSampleRefIdeal.τ).loc Cert.OutProjSampleRefIdeal.main_arg4) = m ((c.tc : Thread Cert.OutProjSampleRefIdeal.nD Cert.OutProjSampleRefIdeal.τ).loc Cert.OutProjSampleRefIdeal.main_arg4)
      ∧ r.2.mem ((c.tc : Thread Cert.OutProjSampleRefIdeal.nD Cert.OutProjSampleRefIdeal.τ).loc Cert.OutProjSampleRefIdeal.main_arg5) = m ((c.tc : Thread Cert.OutProjSampleRefIdeal.nD Cert.OutProjSampleRefIdeal.τ).loc Cert.OutProjSampleRefIdeal.main_arg5))
      ∧ r.2.sem = fun _ => 0)

def quiescent_CmpPool [hCmpPool : Cert.CmpPool.Facts] [hPre_pages_in_pool : Cert.Pre_pages_in_pool.Facts] : Prop :=
  ∀ (m : (ℓ : Loc Cert.CmpPool.nD Cert.CmpPool.τ Cert.CmpPool.sig) → Buf (Elt Bits) ℓ) (g : Dev Cert.CmpPool.nD → PrngReg), Pre_CmpPool m →
    θ_run (Cert.CmpPool.defs (F := Bits)) (onTc (τ := Cert.CmpPool.τ) (Cert.CmpPool.main (F := Bits))) ⟨m, fun _ => 0, g⟩ (fun r => (∀ c : Dev Cert.CmpPool.nD,
      r.2.mem ((c.tc : Thread Cert.CmpPool.nD Cert.CmpPool.τ).loc Cert.CmpPool.main_arg0) = m ((c.tc : Thread Cert.CmpPool.nD Cert.CmpPool.τ).loc Cert.CmpPool.main_arg0)
      ∧ r.2.mem ((c.tc : Thread Cert.CmpPool.nD Cert.CmpPool.τ).loc Cert.CmpPool.main_arg1) = m ((c.tc : Thread Cert.CmpPool.nD Cert.CmpPool.τ).loc Cert.CmpPool.main_arg1)
      ∧ r.2.mem ((c.tc : Thread Cert.CmpPool.nD Cert.CmpPool.τ).loc Cert.CmpPool.main_arg2) = m ((c.tc : Thread Cert.CmpPool.nD Cert.CmpPool.τ).loc Cert.CmpPool.main_arg2))
      ∧ r.2.sem = fun _ => 0)

def quiescent_CmpPoolIdeal [hCmpPoolIdeal : Cert.CmpPoolIdeal.Facts] [hPre_pages_in_pool : Cert.Pre_pages_in_pool.Facts] : Prop :=
  ∀ (m : (ℓ : Loc Cert.CmpPoolIdeal.nD Cert.CmpPoolIdeal.τ Cert.CmpPoolIdeal.sig) → Buf (Elt Ideal) ℓ) (g : Dev Cert.CmpPoolIdeal.nD → PrngReg), Pre_CmpPoolIdeal m →
    θ_run (Cert.CmpPoolIdeal.defs (F := Ideal)) (onTc (τ := Cert.CmpPoolIdeal.τ) (Cert.CmpPoolIdeal.main (F := Ideal))) ⟨m, fun _ => 0, g⟩ (fun r => (∀ c : Dev Cert.CmpPoolIdeal.nD,
      r.2.mem ((c.tc : Thread Cert.CmpPoolIdeal.nD Cert.CmpPoolIdeal.τ).loc Cert.CmpPoolIdeal.main_arg0) = m ((c.tc : Thread Cert.CmpPoolIdeal.nD Cert.CmpPoolIdeal.τ).loc Cert.CmpPoolIdeal.main_arg0)
      ∧ r.2.mem ((c.tc : Thread Cert.CmpPoolIdeal.nD Cert.CmpPoolIdeal.τ).loc Cert.CmpPoolIdeal.main_arg1) = m ((c.tc : Thread Cert.CmpPoolIdeal.nD Cert.CmpPoolIdeal.τ).loc Cert.CmpPoolIdeal.main_arg1)
      ∧ r.2.mem ((c.tc : Thread Cert.CmpPoolIdeal.nD Cert.CmpPoolIdeal.τ).loc Cert.CmpPoolIdeal.main_arg2) = m ((c.tc : Thread Cert.CmpPoolIdeal.nD Cert.CmpPoolIdeal.τ).loc Cert.CmpPoolIdeal.main_arg2))
      ∧ r.2.sem = fun _ => 0)

def quiescent_CmpPoolIdeal_pre_pages_in_pool_finite [hCmpPoolIdeal : Cert.CmpPoolIdeal.Facts] [hPre_pages_in_pool_finite : Cert.Pre_pages_in_pool_finite.Facts] : Prop :=
  ∀ (m : (ℓ : Loc Cert.CmpPoolIdeal.nD Cert.CmpPoolIdeal.τ Cert.CmpPoolIdeal.sig) → Buf (Elt Ideal) ℓ) (g : Dev Cert.CmpPoolIdeal.nD → PrngReg), Pre_CmpPoolIdeal_pages_in_pool_finite m →
    θ_run (Cert.CmpPoolIdeal.defs (F := Ideal)) (onTc (τ := Cert.CmpPoolIdeal.τ) (Cert.CmpPoolIdeal.main (F := Ideal))) ⟨m, fun _ => 0, g⟩ (fun r => (∀ c : Dev Cert.CmpPoolIdeal.nD,
      r.2.mem ((c.tc : Thread Cert.CmpPoolIdeal.nD Cert.CmpPoolIdeal.τ).loc Cert.CmpPoolIdeal.main_arg0) = m ((c.tc : Thread Cert.CmpPoolIdeal.nD Cert.CmpPoolIdeal.τ).loc Cert.CmpPoolIdeal.main_arg0)
      ∧ r.2.mem ((c.tc : Thread Cert.CmpPoolIdeal.nD Cert.CmpPoolIdeal.τ).loc Cert.CmpPoolIdeal.main_arg1) = m ((c.tc : Thread Cert.CmpPoolIdeal.nD Cert.CmpPoolIdeal.τ).loc Cert.CmpPoolIdeal.main_arg1)
      ∧ r.2.mem ((c.tc : Thread Cert.CmpPoolIdeal.nD Cert.CmpPoolIdeal.τ).loc Cert.CmpPoolIdeal.main_arg2) = m ((c.tc : Thread Cert.CmpPoolIdeal.nD Cert.CmpPoolIdeal.τ).loc Cert.CmpPoolIdeal.main_arg2))
      ∧ r.2.sem = fun _ => 0)

def quiescent_CmpPoolRefIdeal [hCmpPoolRefIdeal : Cert.CmpPoolRefIdeal.Facts] : Prop :=
  ∀ (m : (ℓ : Loc Cert.CmpPoolRefIdeal.nD Cert.CmpPoolRefIdeal.τ Cert.CmpPoolRefIdeal.sig) → Buf (Elt Ideal) ℓ) (g : Dev Cert.CmpPoolRefIdeal.nD → PrngReg), Pre_CmpPoolRefIdeal m →
    θ_run (Cert.CmpPoolRefIdeal.defs (F := Ideal)) (onTc (τ := Cert.CmpPoolRefIdeal.τ) (Cert.CmpPoolRefIdeal.main (F := Ideal))) ⟨m, fun _ => 0, g⟩ (fun r => (∀ c : Dev Cert.CmpPoolRefIdeal.nD,
      r.2.mem ((c.tc : Thread Cert.CmpPoolRefIdeal.nD Cert.CmpPoolRefIdeal.τ).loc Cert.CmpPoolRefIdeal.main_arg0) = m ((c.tc : Thread Cert.CmpPoolRefIdeal.nD Cert.CmpPoolRefIdeal.τ).loc Cert.CmpPoolRefIdeal.main_arg0)
      ∧ r.2.mem ((c.tc : Thread Cert.CmpPoolRefIdeal.nD Cert.CmpPoolRefIdeal.τ).loc Cert.CmpPoolRefIdeal.main_arg1) = m ((c.tc : Thread Cert.CmpPoolRefIdeal.nD Cert.CmpPoolRefIdeal.τ).loc Cert.CmpPoolRefIdeal.main_arg1)
      ∧ r.2.mem ((c.tc : Thread Cert.CmpPoolRefIdeal.nD Cert.CmpPoolRefIdeal.τ).loc Cert.CmpPoolRefIdeal.main_arg2) = m ((c.tc : Thread Cert.CmpPoolRefIdeal.nD Cert.CmpPoolRefIdeal.τ).loc Cert.CmpPoolRefIdeal.main_arg2))
      ∧ r.2.sem = fun _ => 0)

def quiescent_CmpPoolRefIdeal_pre_pages_in_pool_finite [hCmpPoolRefIdeal : Cert.CmpPoolRefIdeal.Facts] [hPre_pages_in_pool_finite : Cert.Pre_pages_in_pool_finite.Facts] : Prop :=
  ∀ (m : (ℓ : Loc Cert.CmpPoolRefIdeal.nD Cert.CmpPoolRefIdeal.τ Cert.CmpPoolRefIdeal.sig) → Buf (Elt Ideal) ℓ) (g : Dev Cert.CmpPoolRefIdeal.nD → PrngReg), Pre_CmpPoolRefIdeal_pages_in_pool_finite m →
    θ_run (Cert.CmpPoolRefIdeal.defs (F := Ideal)) (onTc (τ := Cert.CmpPoolRefIdeal.τ) (Cert.CmpPoolRefIdeal.main (F := Ideal))) ⟨m, fun _ => 0, g⟩ (fun r => (∀ c : Dev Cert.CmpPoolRefIdeal.nD,
      r.2.mem ((c.tc : Thread Cert.CmpPoolRefIdeal.nD Cert.CmpPoolRefIdeal.τ).loc Cert.CmpPoolRefIdeal.main_arg0) = m ((c.tc : Thread Cert.CmpPoolRefIdeal.nD Cert.CmpPoolRefIdeal.τ).loc Cert.CmpPoolRefIdeal.main_arg0)
      ∧ r.2.mem ((c.tc : Thread Cert.CmpPoolRefIdeal.nD Cert.CmpPoolRefIdeal.τ).loc Cert.CmpPoolRefIdeal.main_arg1) = m ((c.tc : Thread Cert.CmpPoolRefIdeal.nD Cert.CmpPoolRefIdeal.τ).loc Cert.CmpPoolRefIdeal.main_arg1)
      ∧ r.2.mem ((c.tc : Thread Cert.CmpPoolRefIdeal.nD Cert.CmpPoolRefIdeal.τ).loc Cert.CmpPoolRefIdeal.main_arg2) = m ((c.tc : Thread Cert.CmpPoolRefIdeal.nD Cert.CmpPoolRefIdeal.τ).loc Cert.CmpPoolRefIdeal.main_arg2))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v4_0)) (v1 : (c : Dev Cert.ScoresIdeal.nD) → Buf (Elt Ideal) ((c.tc : Thread Cert.ScoresIdeal.nD Cert.ScoresIdeal.τ).loc Cert.ScoresIdeal.main_v4_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4_0) = v0 c
          ∧ r.2.mem ((c.tc : Thread Cert.ScoresIdeal.nD Cert.ScoresIdeal.τ).loc Cert.ScoresIdeal.main_v4_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v7) = v0 c
          ∧ r.2.mem ((c.tc : Thread Cert.ScoresRefIdeal.nD Cert.ScoresRefIdeal.τ).loc Cert.ScoresRefIdeal.main_v10) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)) →
    ∃ (v0 : (c : Dev Cert.InProjSampleIdeal.nD) → Buf (Elt Ideal) ((c.tc : Thread Cert.InProjSampleIdeal.nD Cert.InProjSampleIdeal.τ).loc Cert.InProjSampleIdeal.main_v3)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v3) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v2) = v0 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)
      ∧ m' ((c.tc : Thread Cert.NormSampleRefIdeal.nD Cert.NormSampleRefIdeal.τ).loc Cert.NormSampleRefIdeal.main_arg2) = m ((c.tc : Thread Cert.NormSampleIdeal.nD Cert.NormSampleIdeal.τ).loc Cert.NormSampleIdeal.main_arg2)
      ∧ m' ((c.tc : Thread Cert.NormSampleRefIdeal.nD Cert.NormSampleRefIdeal.τ).loc Cert.NormSampleRefIdeal.main_arg3) = m ((c.tc : Thread Cert.NormSampleIdeal.nD Cert.NormSampleIdeal.τ).loc Cert.NormSampleIdeal.main_arg3)) →
    ∃ (v0 : (c : Dev Cert.NormSampleIdeal.nD) → Buf (Elt Ideal) ((c.tc : Thread Cert.NormSampleIdeal.nD Cert.NormSampleIdeal.τ).loc Cert.NormSampleIdeal.main_v4)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v4) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
          ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2)
          ∧ r.2.mem ((c.tc : Thread Cert.NormSampleIdeal.nD Cert.NormSampleIdeal.τ).loc Cert.NormSampleIdeal.main_arg3) = m ((c.tc : Thread Cert.NormSampleIdeal.nD Cert.NormSampleIdeal.τ).loc Cert.NormSampleIdeal.main_arg3))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v27) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1)
          ∧ r.2.mem ((c.tc : Thread Cert.NormSampleRefIdeal.nD Cert.NormSampleRefIdeal.τ).loc Cert.NormSampleRefIdeal.main_arg2) = m' ((c.tc : Thread Cert.NormSampleRefIdeal.nD Cert.NormSampleRefIdeal.τ).loc Cert.NormSampleRefIdeal.main_arg2)
          ∧ r.2.mem ((c.tc : Thread Cert.NormSampleRefIdeal.nD Cert.NormSampleRefIdeal.τ).loc Cert.NormSampleRefIdeal.main_arg3) = m' ((c.tc : Thread Cert.NormSampleRefIdeal.nD Cert.NormSampleRefIdeal.τ).loc Cert.NormSampleRefIdeal.main_arg3))

def preserves_CmpAttn_CmpAttnIdeal : Prop :=
  True

def algebraic_CmpAttnIdeal_CmpAttnRefIdeal [hCmpAttnIdeal : Cert.CmpAttnIdeal.Facts] [hCmpAttnRefIdeal : Cert.CmpAttnRefIdeal.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg)
    (m' : (ℓ : Loc Cert.CmpAttnRefIdeal.nD Cert.CmpAttnRefIdeal.τ Cert.CmpAttnRefIdeal.sig) → Buf (Elt Ideal) ℓ) (g' : Dev Cert.CmpAttnRefIdeal.nD → PrngReg), Pre_CmpAttnIdeal m →
    (∀ c : Dev Cert.CmpAttnIdeal.nD,
      m' ((c.tc : Thread Cert.CmpAttnRefIdeal.nD Cert.CmpAttnRefIdeal.τ).loc Cert.CmpAttnRefIdeal.main_arg0) = m ((c.tc : Thread Cert.CmpAttnIdeal.nD Cert.CmpAttnIdeal.τ).loc Cert.CmpAttnIdeal.main_arg0)
      ∧ m' ((c.tc : Thread Cert.CmpAttnRefIdeal.nD Cert.CmpAttnRefIdeal.τ).loc Cert.CmpAttnRefIdeal.main_arg1) = m ((c.tc : Thread Cert.CmpAttnIdeal.nD Cert.CmpAttnIdeal.τ).loc Cert.CmpAttnIdeal.main_arg1)) →
    ∃ (v0 : (c : Dev Cert.CmpAttnIdeal.nD) → Buf (Elt Ideal) ((c.tc : Thread Cert.CmpAttnIdeal.nD Cert.CmpAttnIdeal.τ).loc Cert.CmpAttnIdeal.main_v5_0)),
      θ_run (Cert.CmpAttnIdeal.defs (F := Ideal)) (onTc (τ := Cert.CmpAttnIdeal.τ) (Cert.CmpAttnIdeal.main (F := Ideal))) ⟨m, fun _ => 0, g⟩ (fun r => ∀ c : Dev Cert.CmpAttnIdeal.nD,
          r.2.mem ((c.tc : Thread Cert.CmpAttnIdeal.nD Cert.CmpAttnIdeal.τ).loc Cert.CmpAttnIdeal.main_v5_0) = v0 c
          ∧ r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
          ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1))
      ∧ θ_run (Cert.CmpAttnRefIdeal.defs (F := Ideal)) (onTc (τ := Cert.CmpAttnRefIdeal.τ) (Cert.CmpAttnRefIdeal.main (F := Ideal))) ⟨m', fun _ => 0, g'⟩ (fun r => ∀ c : Dev Cert.CmpAttnRefIdeal.nD,
          r.2.mem ((c.tc : Thread Cert.CmpAttnRefIdeal.nD Cert.CmpAttnRefIdeal.τ).loc Cert.CmpAttnRefIdeal.main_v44) = v0 c
          ∧ r.2.mem ((c.tc : Thread Cert.CmpAttnRefIdeal.nD Cert.CmpAttnRefIdeal.τ).loc Cert.CmpAttnRefIdeal.main_arg0) = m' ((c.tc : Thread Cert.CmpAttnRefIdeal.nD Cert.CmpAttnRefIdeal.τ).loc Cert.CmpAttnRefIdeal.main_arg0)
          ∧ r.2.mem ((c.tc : Thread Cert.CmpAttnRefIdeal.nD Cert.CmpAttnRefIdeal.τ).loc Cert.CmpAttnRefIdeal.main_arg1) = m' ((c.tc : Thread Cert.CmpAttnRefIdeal.nD Cert.CmpAttnRefIdeal.τ).loc Cert.CmpAttnRefIdeal.main_arg1))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)
      ∧ m' ((c.tc : Thread Cert.OutProjSampleRefIdeal.nD Cert.OutProjSampleRefIdeal.τ).loc Cert.OutProjSampleRefIdeal.main_arg3) = m ((c.tc : Thread Cert.OutProjSampleIdeal.nD Cert.OutProjSampleIdeal.τ).loc Cert.OutProjSampleIdeal.main_arg3)
      ∧ m' ((c.tc : Thread Cert.OutProjSampleRefIdeal.nD Cert.OutProjSampleRefIdeal.τ).loc Cert.OutProjSampleRefIdeal.main_arg4) = m ((c.tc : Thread Cert.OutProjSampleIdeal.nD Cert.OutProjSampleIdeal.τ).loc Cert.OutProjSampleIdeal.main_arg4)
      ∧ m' ((c.tc : Thread Cert.OutProjSampleRefIdeal.nD Cert.OutProjSampleRefIdeal.τ).loc Cert.OutProjSampleRefIdeal.main_arg5) = m ((c.tc : Thread Cert.OutProjSampleIdeal.nD Cert.OutProjSampleIdeal.τ).loc Cert.OutProjSampleIdeal.main_arg5)) →
    ∃ (v0 : (c : Dev Cert.OutProjSampleIdeal.nD) → Buf (Elt Ideal) ((c.tc : Thread Cert.OutProjSampleIdeal.nD Cert.OutProjSampleIdeal.τ).loc Cert.OutProjSampleIdeal.main_v6)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v6) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
          ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
          ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
          ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v29) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2)
          ∧ r.2.mem ((c.tc : Thread Cert.OutProjSampleRefIdeal.nD Cert.OutProjSampleRefIdeal.τ).loc Cert.OutProjSampleRefIdeal.main_arg3) = m' ((c.tc : Thread Cert.OutProjSampleRefIdeal.nD Cert.OutProjSampleRefIdeal.τ).loc Cert.OutProjSampleRefIdeal.main_arg3)
          ∧ r.2.mem ((c.tc : Thread Cert.OutProjSampleRefIdeal.nD Cert.OutProjSampleRefIdeal.τ).loc Cert.OutProjSampleRefIdeal.main_arg4) = m' ((c.tc : Thread Cert.OutProjSampleRefIdeal.nD Cert.OutProjSampleRefIdeal.τ).loc Cert.OutProjSampleRefIdeal.main_arg4)
          ∧ r.2.mem ((c.tc : Thread Cert.OutProjSampleRefIdeal.nD Cert.OutProjSampleRefIdeal.τ).loc Cert.OutProjSampleRefIdeal.main_arg5) = m' ((c.tc : Thread Cert.OutProjSampleRefIdeal.nD Cert.OutProjSampleRefIdeal.τ).loc Cert.OutProjSampleRefIdeal.main_arg5))

def preserves_CmpPool_CmpPoolIdeal : Prop :=
  True

def algebraic_CmpPoolIdeal_CmpPoolRefIdeal_pre_pages_in_pool_finite [hCmpPoolIdeal : Cert.CmpPoolIdeal.Facts] [hCmpPoolRefIdeal : Cert.CmpPoolRefIdeal.Facts] [hPre_pages_in_pool_finite : Cert.Pre_pages_in_pool_finite.Facts] : Prop :=
  ∀ (m : (ℓ : Loc Cert.CmpPoolIdeal.nD Cert.CmpPoolIdeal.τ Cert.CmpPoolIdeal.sig) → Buf (Elt Ideal) ℓ) (g : Dev Cert.CmpPoolIdeal.nD → PrngReg)
    (m' : (ℓ : Loc Cert.CmpPoolRefIdeal.nD Cert.CmpPoolRefIdeal.τ Cert.CmpPoolRefIdeal.sig) → Buf (Elt Ideal) ℓ) (g' : Dev Cert.CmpPoolRefIdeal.nD → PrngReg), Pre_CmpPoolIdeal_pages_in_pool_finite m →
    (∀ c : Dev Cert.CmpPoolIdeal.nD,
      m' ((c.tc : Thread Cert.CmpPoolRefIdeal.nD Cert.CmpPoolRefIdeal.τ).loc Cert.CmpPoolRefIdeal.main_arg0) = m ((c.tc : Thread Cert.CmpPoolIdeal.nD Cert.CmpPoolIdeal.τ).loc Cert.CmpPoolIdeal.main_arg0)
      ∧ m' ((c.tc : Thread Cert.CmpPoolRefIdeal.nD Cert.CmpPoolRefIdeal.τ).loc Cert.CmpPoolRefIdeal.main_arg1) = m ((c.tc : Thread Cert.CmpPoolIdeal.nD Cert.CmpPoolIdeal.τ).loc Cert.CmpPoolIdeal.main_arg1)
      ∧ m' ((c.tc : Thread Cert.CmpPoolRefIdeal.nD Cert.CmpPoolRefIdeal.τ).loc Cert.CmpPoolRefIdeal.main_arg2) = m ((c.tc : Thread Cert.CmpPoolIdeal.nD Cert.CmpPoolIdeal.τ).loc Cert.CmpPoolIdeal.main_arg2)) →
    ∃ (v0 : (c : Dev Cert.CmpPoolIdeal.nD) → Buf (Elt Ideal) ((c.tc : Thread Cert.CmpPoolIdeal.nD Cert.CmpPoolIdeal.τ).loc Cert.CmpPoolIdeal.main_v4)),
      θ_run (Cert.CmpPoolIdeal.defs (F := Ideal)) (onTc (τ := Cert.CmpPoolIdeal.τ) (Cert.CmpPoolIdeal.main (F := Ideal))) ⟨m, fun _ => 0, g⟩ (fun r => ∀ c : Dev Cert.CmpPoolIdeal.nD,
          r.2.mem ((c.tc : Thread Cert.CmpPoolIdeal.nD Cert.CmpPoolIdeal.τ).loc Cert.CmpPoolIdeal.main_v4) = v0 c
          ∧ r.2.mem ((c.tc : Thread Cert.CmpPoolIdeal.nD Cert.CmpPoolIdeal.τ).loc Cert.CmpPoolIdeal.main_arg0) = m ((c.tc : Thread Cert.CmpPoolIdeal.nD Cert.CmpPoolIdeal.τ).loc Cert.CmpPoolIdeal.main_arg0)
          ∧ r.2.mem ((c.tc : Thread Cert.CmpPoolIdeal.nD Cert.CmpPoolIdeal.τ).loc Cert.CmpPoolIdeal.main_arg1) = m ((c.tc : Thread Cert.CmpPoolIdeal.nD Cert.CmpPoolIdeal.τ).loc Cert.CmpPoolIdeal.main_arg1)
          ∧ r.2.mem ((c.tc : Thread Cert.CmpPoolIdeal.nD Cert.CmpPoolIdeal.τ).loc Cert.CmpPoolIdeal.main_arg2) = m ((c.tc : Thread Cert.CmpPoolIdeal.nD Cert.CmpPoolIdeal.τ).loc Cert.CmpPoolIdeal.main_arg2))
      ∧ θ_run (Cert.CmpPoolRefIdeal.defs (F := Ideal)) (onTc (τ := Cert.CmpPoolRefIdeal.τ) (Cert.CmpPoolRefIdeal.main (F := Ideal))) ⟨m', fun _ => 0, g'⟩ (fun r => ∀ c : Dev Cert.CmpPoolRefIdeal.nD,
          r.2.mem ((c.tc : Thread Cert.CmpPoolRefIdeal.nD Cert.CmpPoolRefIdeal.τ).loc Cert.CmpPoolRefIdeal.main_v27) = v0 c
          ∧ r.2.mem ((c.tc : Thread Cert.CmpPoolRefIdeal.nD Cert.CmpPoolRefIdeal.τ).loc Cert.CmpPoolRefIdeal.main_arg0) = m' ((c.tc : Thread Cert.CmpPoolRefIdeal.nD Cert.CmpPoolRefIdeal.τ).loc Cert.CmpPoolRefIdeal.main_arg0)
          ∧ r.2.mem ((c.tc : Thread Cert.CmpPoolRefIdeal.nD Cert.CmpPoolRefIdeal.τ).loc Cert.CmpPoolRefIdeal.main_arg1) = m' ((c.tc : Thread Cert.CmpPoolRefIdeal.nD Cert.CmpPoolRefIdeal.τ).loc Cert.CmpPoolRefIdeal.main_arg1)
          ∧ r.2.mem ((c.tc : Thread Cert.CmpPoolRefIdeal.nD Cert.CmpPoolRefIdeal.τ).loc Cert.CmpPoolRefIdeal.main_arg2) = m' ((c.tc : Thread Cert.CmpPoolRefIdeal.nD Cert.CmpPoolRefIdeal.τ).loc Cert.CmpPoolRefIdeal.main_arg2))

def Claim : Prop :=
  ∃ (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hScores : Cert.Scores.Facts) (hScoresIdeal : Cert.ScoresIdeal.Facts) (hScoresRefIdeal : Cert.ScoresRefIdeal.Facts) (hInProjSample : Cert.InProjSample.Facts) (hInProjSampleIdeal : Cert.InProjSampleIdeal.Facts) (hInProjSampleRefIdeal : Cert.InProjSampleRefIdeal.Facts) (hNorm : Cert.Norm.Facts) (hNormIdeal : Cert.NormIdeal.Facts) (hNormRefIdeal : Cert.NormRefIdeal.Facts) (hNormSample : Cert.NormSample.Facts) (hNormSampleIdeal : Cert.NormSampleIdeal.Facts) (hNormSampleRefIdeal : Cert.NormSampleRefIdeal.Facts) (hCmpAttn : Cert.CmpAttn.Facts) (hCmpAttnIdeal : Cert.CmpAttnIdeal.Facts) (hCmpAttnRefIdeal : Cert.CmpAttnRefIdeal.Facts) (hOutProjSample : Cert.OutProjSample.Facts) (hOutProjSampleIdeal : Cert.OutProjSampleIdeal.Facts) (hOutProjSampleRefIdeal : Cert.OutProjSampleRefIdeal.Facts) (hCmpPool : Cert.CmpPool.Facts) (hCmpPoolIdeal : Cert.CmpPoolIdeal.Facts) (hCmpPoolRefIdeal : Cert.CmpPoolRefIdeal.Facts) (hPre_pages_in_pool : Cert.Pre_pages_in_pool.Facts) (hPre_pages_in_pool_finite : Cert.Pre_pages_in_pool_finite.Facts),
    quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Scores (hScores := hScores)
    ∧ quiescent_ScoresIdeal (hScoresIdeal := hScoresIdeal)
    ∧ quiescent_ScoresRefIdeal (hScoresRefIdeal := hScoresRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_Norm (hNorm := hNorm)
    ∧ quiescent_NormIdeal (hNormIdeal := hNormIdeal)
    ∧ quiescent_NormRefIdeal (hNormRefIdeal := hNormRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_CmpAttn (hCmpAttn := hCmpAttn)
    ∧ quiescent_CmpAttnIdeal (hCmpAttnIdeal := hCmpAttnIdeal)
    ∧ quiescent_CmpAttnRefIdeal (hCmpAttnRefIdeal := hCmpAttnRefIdeal)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ quiescent_CmpPool (hCmpPool := hCmpPool) (hPre_pages_in_pool := hPre_pages_in_pool)
    ∧ quiescent_CmpPoolIdeal (hCmpPoolIdeal := hCmpPoolIdeal) (hPre_pages_in_pool := hPre_pages_in_pool)
    ∧ quiescent_CmpPoolIdeal_pre_pages_in_pool_finite (hCmpPoolIdeal := hCmpPoolIdeal) (hPre_pages_in_pool_finite := hPre_pages_in_pool_finite)
    ∧ quiescent_CmpPoolRefIdeal (hCmpPoolRefIdeal := hCmpPoolRefIdeal)
    ∧ quiescent_CmpPoolRefIdeal_pre_pages_in_pool_finite (hCmpPoolRefIdeal := hCmpPoolRefIdeal) (hPre_pages_in_pool_finite := hPre_pages_in_pool_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Scores_ScoresIdeal
    ∧ algebraic_ScoresIdeal_ScoresRefIdeal (hScoresIdeal := hScoresIdeal) (hScoresRefIdeal := hScoresRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_Norm_NormIdeal
    ∧ algebraic_NormIdeal_NormRefIdeal (hNormIdeal := hNormIdeal) (hNormRefIdeal := hNormRefIdeal)
    ∧ preserves_NormSample_NormSampleIdeal
    ∧ algebraic_NormSampleIdeal_NormSampleRefIdeal (hNormSampleIdeal := hNormSampleIdeal) (hNormSampleRefIdeal := hNormSampleRefIdeal)
    ∧ preserves_CmpAttn_CmpAttnIdeal
    ∧ algebraic_CmpAttnIdeal_CmpAttnRefIdeal (hCmpAttnIdeal := hCmpAttnIdeal) (hCmpAttnRefIdeal := hCmpAttnRefIdeal)
    ∧ preserves_OutProjSample_OutProjSampleIdeal
    ∧ algebraic_OutProjSampleIdeal_OutProjSampleRefIdeal (hOutProjSampleIdeal := hOutProjSampleIdeal) (hOutProjSampleRefIdeal := hOutProjSampleRefIdeal)
    ∧ preserves_CmpPool_CmpPoolIdeal
    ∧ algebraic_CmpPoolIdeal_CmpPoolRefIdeal_pre_pages_in_pool_finite (hCmpPoolIdeal := hCmpPoolIdeal) (hCmpPoolRefIdeal := hCmpPoolRefIdeal) (hPre_pages_in_pool_finite := hPre_pages_in_pool_finite)
-- ==== Pre_pages_in_pool.lean ====
abbrev S2x1280x128x2x4x64 : Shape := ⟨6, ![2, 1280, 128, 2, 4, 64]⟩
abbrev S8x128 : Shape := ⟨2, ![8, 128]⟩
abbrev S2x32 : Shape := ⟨2, ![2, 32]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : FVec F S2x1280x128x2x4x64 .f32) (main_arg1 : IVec S8x128 32) (main_arg2 : FVec F S2x32 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg1 main_v0
  let main_c_0 : IVec S_ 32 := constantI S_ 32 1280#32
  let main_v2 : IVec S8x128 32 := broadcastInDim S8x128 ![] bcast_S_S8x128 main_c_0
  let main_v3 : IVec S8x128 1 := cmpi .slt main_arg1 main_v2
  let main_v4 : IVec S8x128 1 := andi main_v1 main_v3
  main_v4
-- ==== Pre_pages_in_pool_finite.lean ====
abbrev S2x1280x128x2x4x64 : Shape := ⟨6, ![2, 1280, 128, 2, 4, 64]⟩
abbrev S8x128 : Shape := ⟨2, ![8, 128]⟩
abbrev S2x32 : Shape := ⟨2, ![2, 32]⟩
abbrev S_ : Shape := ⟨0, ![]⟩

class Facts : Prop where
  bcast_S_S8x128 : S_.BroadcastsInDim S8x128 (![] : Fin 0 → Fin S8x128.rank)
  bcast_S_S2x1280x128x2x4x64 : S_.BroadcastsInDim S2x1280x128x2x4x64 (![] : Fin 0 → Fin S2x1280x128x2x4x64.rank)
  bcast_S_S2x32 : S_.BroadcastsInDim S2x32 (![] : Fin 0 → Fin S2x32.rank)

variable [Facts]

def fn {F : FTy → Type} [FloatOps F] (main_arg0 : FVec F S2x1280x128x2x4x64 .f32) (main_arg1 : IVec S8x128 32) (main_arg2 : FVec F S2x32 .f32) : IVec S8x128 1 × IVec S2x1280x128x2x4x64 1 × IVec S2x32 1 :=
  let main_c : IVec S_ 32 := constantI S_ 32 0#32
  let main_v0 : IVec S8x128 32 := broadcastInDim S8x128 ![] bcast_S_S8x128 main_c
  let main_v1 : IVec S8x128 1 := cmpi .sge main_arg1 main_v0
  let main_c_0 : IVec S_ 32 := constantI S_ 32 1280#32
  let main_v2 : IVec S8x128 32 := broadcastInDim S8x128 ![] bcast_S_S8x128 main_c_0
  let main_v3 : IVec S8x128 1 := cmpi .slt main_arg1 main_v2
  let main_v4 : IVec S8x128 1 := andi main_v1 main_v3
  let main_v5 : FVec F S2x1280x128x2x4x64 .f32 := subf main_arg0 main_arg0
  let main_cst : FVec F S_ .f32 := constant S_ .f32 0x00000000#32
  let main_v6 : FVec F S2x1280x128x2x4x64 .f32 := broadcastInDim S2x1280x128x2x4x64 ![] bcast_S_S2x1280x128x2x4x64 main_cst
  let main_v7 : IVec S2x1280x128x2x4x64 1 := cmpf .oeq main_v5 main_v6
  let main_v8 : FVec F S2x32 .f32 := subf main_arg2 main_arg2
  let main_cst_1 : FVec F S_ .f32 := constant S_ .f32 0x00000000#32
  let main_v9 : FVec F S2x32 .f32 := broadcastInDim S2x32 ![] bcast_S_S2x32 main_cst_1
  let main_v10 : IVec S2x32 1 := cmpf .oeq main_v8 main_v9
  (main_v4, main_v7, main_v10)
-- ==== InProj.lean ====
abbrev S4x2048x2048 : Shape := ⟨3, ![4, 2048, 2048]⟩
abbrev S2048x5968 : Shape := ⟨2, ![2048, 5968]⟩
abbrev S_ : Shape := ⟨0, ![]⟩
abbrev S2048x6144 : Shape := ⟨2, ![2048, 6144]⟩
abbrev S8192x2048 : Shape := ⟨2, ![8192, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x5968, .f32⟩
  | .hbm, ⟨2, _⟩ => ⟨S2048x5968, .bf16⟩
  | .hbm, ⟨3, _⟩ => ⟨S_, .i32⟩
  | .hbm, ⟨4, _⟩ => ⟨S_, .bf16⟩
  | .hbm, ⟨5, _⟩ => ⟨S2048x6144, .bf16⟩
  | .hbm, ⟨6, _⟩ => ⟨S8192x2048, .f32⟩
  | .hbm, ⟨7, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdeal.lean ====
abbrev S4x2048x2048 : Shape := ⟨3, ![4, 2048, 2048]⟩
abbrev S2048x5968 : Shape := ⟨2, ![2048, 5968]⟩
abbrev S_ : Shape := ⟨0, ![]⟩
abbrev S2048x6144 : Shape := ⟨2, ![2048, 6144]⟩
abbrev S8192x2048 : Shape := ⟨2, ![8192, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x5968, .f32⟩
  | .hbm, ⟨2, _⟩ => ⟨S2048x5968, .bf16⟩
  | .hbm, ⟨3, _⟩ => ⟨S_, .i32⟩
  | .hbm, ⟨4, _⟩ => ⟨S_, .bf16⟩
  | .hbm, ⟨5, _⟩ => ⟨S2048x6144, .bf16⟩
  | .hbm, ⟨6, _⟩ => ⟨S8192x2048, .f32⟩
  | .hbm, ⟨7, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4x2048x2048 : Shape := ⟨3, ![4, 2048, 2048]⟩
abbrev S2048x5968 : Shape := ⟨2, ![2048, 5968]⟩
abbrev S4x2048x5968 : Shape := ⟨3, ![4, 2048, 5968]⟩
abbrev S_ : Shape := ⟨0, ![]⟩
abbrev S4x2048x6144 : Shape := ⟨3, ![4, 2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x5968, .f32⟩
  | .hbm, ⟨2, _⟩ => ⟨S4x2048x5968, .f32⟩
  | .hbm, ⟨3, _⟩ => ⟨S_, .i32⟩
  | .hbm, ⟨4, _⟩ => ⟨S_, .f32⟩
  | .hbm, ⟨5, _⟩ => ⟨S4x2048x6144, .f32⟩
  | .hbm, ⟨6, _⟩ => ⟨S8192x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutProj.lean ====
abbrev S4x2048x1024 : Shape := ⟨3, ![4, 2048, 1024]⟩
abbrev S4x2048x2048 : Shape := ⟨3, ![4, 2048, 2048]⟩
abbrev S2048x2048 : Shape := ⟨2, ![2048, 2048]⟩
abbrev S2048 : Shape := ⟨1, ![2048]⟩
abbrev S8192x1024 : Shape := ⟨2, ![8192, 1024]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjIdeal.lean ====
abbrev S4x2048x1024 : Shape := ⟨3, ![4, 2048, 1024]⟩
abbrev S4x2048x2048 : Shape := ⟨3, ![4, 2048, 2048]⟩
abbrev S2048x2048 : Shape := ⟨2, ![2048, 2048]⟩
abbrev S2048 : Shape := ⟨1, ![2048]⟩
abbrev S8192x1024 : Shape := ⟨2, ![8192, 1024]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S4x2048x1024 : Shape := ⟨3, ![4, 2048, 1024]⟩
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Scores.lean ====
abbrev S4x2048x2048 : Shape := ⟨3, ![4, 2048, 2048]⟩
abbrev S2048x2048 : Shape := ⟨2, ![2048, 2048]⟩
abbrev S8x2x128x128 : Shape := ⟨4, ![8, 2, 128, 128]⟩
abbrev S8192x2048 : Shape := ⟨2, ![8192, 2048]⟩
abbrev S16x128x128 : Shape := ⟨3, ![16, 128, 128]⟩
abbrev S8x128x8192 : Shape := ⟨3, ![8, 128, 8192]⟩
abbrev S4x8x8192 : Shape := ⟨3, ![4, 8, 8192]⟩
abbrev S256x2048 : Shape := ⟨2, ![256, 2048]⟩
abbrev S8x128x256 : Shape := ⟨3, ![8, 128, 256]⟩
abbrev S4x8x256 : Shape := ⟨3, ![4, 8, 256]⟩
abbrev S16x128x256 : Shape := ⟨3, ![16, 128, 256]⟩
abbrev S8x56x256 : Shape := ⟨3, ![8, 56, 256]⟩
abbrev S16x16x256 : Shape := ⟨3, ![16, 16, 256]⟩
abbrev S8x16x256 : Shape := ⟨3, ![8, 16, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩
abbrev S1x1x256 : Shape := ⟨3, ![1, 1, 256]⟩
abbrev S1x16x256 : Shape := ⟨3, ![1, 16, 256]⟩
abbrev S16x256 : Shape := ⟨2, ![16, 256]⟩
abbrev S1x8x256 : Shape := ⟨3, ![1, 8, 256]⟩
abbrev S8x256 : Shape := ⟨2, ![8, 256]⟩
abbrev S1x5x256 : Shape := ⟨3, ![1, 5, 256]⟩
abbrev S5x256 : Shape := ⟨2, ![5, 256]⟩
abbrev S1x4x256 : Shape := ⟨3, ![1, 4, 256]⟩
abbrev S4x256 : Shape := ⟨2, ![4, 256]⟩
abbrev S1x3x256 : Shape := ⟨3, ![1, 3, 256]⟩
abbrev S3x256 : Shape := ⟨2, ![3, 256]⟩
abbrev S1x2x256 : Shape := ⟨3, ![1, 2, 256]⟩
abbrev S2x256 : Shape := ⟨2, ![2, 256]⟩
abbrev S6x256 : Shape := ⟨2, ![6, 256]⟩
abbrev S56x256 : Shape := ⟨2, ![56, 256]⟩
abbrev S1x56x256 : Shape := ⟨3, ![1, 56, 256]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S8x2x128x128, .f32⟩
  | .hbm, ⟨3, _⟩ => ⟨S8192x2048, .f32⟩
  | .hbm, ⟨4, _⟩ => ⟨S2048x2048, .bf16⟩
  | .hbm, ⟨5, _⟩ => ⟨S16x128x128, .f32⟩
  | .hbm, ⟨6, _⟩ => ⟨S16x128x128, .bf16⟩
  | .hbm, ⟨7, _⟩ => ⟨S8x128x8192, .f32⟩
  | .hbm, ⟨8, _⟩ => ⟨S8x128x8192, .f32⟩
  | .hbm, ⟨9, _⟩ => ⟨S4x8x8192, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S16x128x128, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S4x8x256, .f32⟩
  | .local _ .vmem, ⟨9, _⟩ => ⟨S4x8x256, .f32⟩
  | .local _ .vmem, ⟨10, _⟩ => ⟨S16x128x256, .f32⟩
  | .local _ .vmem, ⟨11, _⟩ => ⟨S8x56x256, .f32⟩
  | .local _ .vmem, ⟨12, _⟩ => ⟨S16x16x256, .f32⟩
  | .local _ .vmem, ⟨13, _⟩ => ⟨S8x16x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v168 : BitVec 32 := Scalar.addi c0_i32 c16_i32
  let c1_i32 : BitVec 32 := 1#32
  ⟨c0_i32, v168, c1_i32⟩
def k0_off1 (k0_t1 : Fin k0_t1_loop.trips) : Fin 3 → Nat :=
  let c0_1194 : Index := 0#32
  let c0_i32 : BitVec 32 := 0#32
  let c1_i32 : BitVec 32 := 1#32
  let arg11 : BitVec 32 := Scf.iv c0_i32 c1_i32 k0_t1
  let v1164 : Index := Scalar.indexCast arg11
  let c0_1195 : Index := 0#32
  ![0, v1164.toNat, 0]
def k0_off2 (k0_t1 : Fin k0_t1_loop.trips) : Fin 3 → Nat :=
  let c1_1206 : Index := 1#32
  let c0_i32 : BitVec 32 := 0#32
  let c1_i32 : BitVec 32 := 1#32
  let arg11 : BitVec 32 := Scf.iv c0_i32 c1_i32 k0_t1
  let v1185 : Index := Scalar.indexCast arg11
  let c0_1207 : Index := 0#32
  ![1, v1185.toNat, 0]
def k0_off3 (k0_t1 : Fin k0_t1_loop.trips) : Fin 3 → Nat :=
  let c2_1218 : Index := 2#32
  let c0_i32 : BitVec 32 := 0#32
  let c1_i32 : BitVec 32 := 1#32
  let arg11 : BitVec 32 := Scf.iv c0_i32 c1_i32 k0_t1
  let v1206 : Index := Scalar.indexCast arg11
  let c0_1219 : Index := 0#32
  ![2, v1206.toNat, 0]
def k0_off4 (k0_t1 : Fin k0_t1_loop.trips) : Fin 3 → Nat :=
  let c3_1230 : Index := 3#32
  let c0_i32 : BitVec 32 := 0#32
  let c1_i32 : BitVec 32 := 1#32
  let arg11 : BitVec 32 := Scf.iv c0_i32 c1_i32 k0_t1
  let v1227 : Index := Scalar.indexCast arg11
  let c0_1231 : Index := 0#32
  ![3, v1227.toNat, 0]
def k0_off5 (k0_t1 : Fin k0_t1_loop.trips) : Fin 3 → Nat :=
  let c4_1242 : Index := 4#32
  let c0_i32 : BitVec 32 := 0#32
  let c1_i32 : BitVec 32 := 1#32
  let arg11 : BitVec 32 := Scf.iv c0_i32 c1_i32 k0_t1
  let v1248 : Index := Scalar.indexCast arg11
  let c0_1243 : Index := 0#32
  ![4, v1248.toNat, 0]
def k0_off6 (k0_t1 : Fin k0_t1_loop.trips) : Fin 3 → Nat :=
  let c5_1254 : Index := 5#32
  let c0_i32 : BitVec 32 := 0#32
  let c1_i32 : BitVec 32 := 1#32
  let arg11 : BitVec 32 := Scf.iv c0_i32 c1_i32 k0_t1
  let v1269 : Index := Scalar.indexCast arg11
  let c0_1255 : Index := 0#32
  ![5, v1269.toNat, 0]
def k0_off7 (k0_t1 : Fin k0_t1_loop.trips) : Fin 3 → Nat :=
  let c6_1266 : Index := 6#32
  let c0_i32 : BitVec 32 := 0#32
  let c1_i32 : BitVec 32 := 1#32
  let arg11 : BitVec 32 := Scf.iv c0_i32 c1_i32 k0_t1
  let v1290 : Index := Scalar.indexCast arg11
  let c0_1267 : Index := 0#32
  ![6, v1290.toNat, 0]
def k0_off8 (k0_t1 : Fin k0_t1_loop.trips) : Fin 3 → Nat :=
  let c7_1278 : Index := 7#32
  let c0_i32 : BitVec 32 := 0#32
  let c1_i32 : BitVec 32 := 1#32
  let arg11 : BitVec 32 := Scf.iv c0_i32 c1_i32 k0_t1
  let v1311 : Index := Scalar.indexCast arg11
  let c0_1279 : Index := 0#32
  ![7, v1311.toNat, 0]
def k0_off9 (k0_t1 : Fin k0_t1_loop.trips) : Fin 3 → Nat :=
  let c8_1290 : Index := 8#32
  let c0_i32 : BitVec 32 := 0#32
  let c1_i32 : BitVec 32 := 1#32
  let arg11 : BitVec 32 := Scf.iv c0_i32 c1_i32 k0_t1
  let v1332 : Index := Scalar.indexCast arg11
  let c0_1291 : Index := 0#32
  ![8, v1332.toNat, 0]
def k0_off10 (k0_t1 : Fin k0_t1_loop.trips) : Fin 3 → Nat :=
  let c9_1302 : Index := 9#32
  let c0_i32 : BitVec 32 := 0#32
  let c1_i32 : BitVec 32 := 1#32
  let arg11 : BitVec 32 := Scf.iv c0_i32 c1_i32 k0_t1
  let v1353 : Index := Scalar.indexCast arg11
  let c0_1303 : Index := 0#32
  ![9, v1353.toNat, 0]
def k0_off11 (k0_t1 : Fin k0_t1_loop.trips) : Fin 3 → Nat :=
  let c10_1314 : Index := 10#32
  let c0_i32 : BitVec 32 := 0#32
  let c1_i32 : BitVec 32 := 1#32
  let arg11 : BitVec 32 := Scf.iv c0_i32 c1_i32 k0_t1
  let v1374 : Index := Scalar.indexCast arg11
  let c0_1315 : Index := 0#32
  ![10, v1374.toNat, 0]
def k0_off12 (k0_t1 : Fin k0_t1_loop.trips) : Fin 3 → Nat :=
  let c11_1326 : Index := 11#32
  let c0_i32 : BitVec 32 := 0#32
  let c1_i32 : BitVec 32 := 1#32
  let arg11 : BitVec 32 := Scf.iv c0_i32 c1_i32 k0_t1
  let v1395 : Index := Scalar.indexCast arg11
  let c0_1327 : Index := 0#32
  ![11, v1395.toNat, 0]
def k0_off13 (k0_t1 : Fin k0_t1_loop.trips) : Fin 3 → Nat :=
  let c12_1338 : Index := 12#32
  let c0_i32 : BitVec 32 := 0#32
  let c1_i32 : BitVec 32 := 1#32
  let arg11 : BitVec 32 := Scf.iv c0_i32 c1_i32 k0_t1
  let v1416 : Index := Scalar.indexCast arg11
  let c0_1339 : Index := 0#32
  ![12, v1416.toNat, 0]
def k0_off14 (k0_t1 : Fin k0_t1_loop.trips) : Fin 3 → Nat :=
  let c13_1350 : Index := 13#32
  let c0_i32 : BitVec 32 := 0#32
  let c1_i32 : BitVec 32 := 1#32
  let arg11 : BitVec 32 := Scf.iv c0_i32 c1_i32 k0_t1
  let v1437 : Index := Scalar.indexCast arg11
  let c0_1351 : Index := 0#32
  ![13, v1437.toNat, 0]
def k0_off15 (k0_t1 : Fin k0_t1_loop.trips) : Fin 3 → Nat :=
  let c14_1362 : Index := 14#32
  let c0_i32 : BitVec 32 := 0#32
  let c1_i32 : BitVec 32 := 1#32
  let arg11 : BitVec 32 := Scf.iv c0_i32 c1_i32 k0_t1
  let v1458 : Index := Scalar.indexCast arg11
  let c0_1363 : Index := 0#32
  ![14, v1458.toNat, 0]
def k0_off16 (k0_t1 : Fin k0_t1_loop.trips) : Fin 3 → Nat :=
  let c15_1374 : Index := 15#32
  let c0_i32 : BitVec 32 := 0#32
  let c1_i32 : BitVec 32 := 1#32
  let arg11 : BitVec 32 := Scf.iv c0_i32 c1_i32 k0_t1
  let v1479 : Index := Scalar.indexCast arg11
  let c0_1375 : Index := 0#32
  ![15, v1479.toNat, 0]
@[reducible] def k0_t2_loop : Scf.Loop 32 :=
  let c0_i32_949 : BitVec 32 := 0#32
  let c16_i32_950 : BitVec 32 := 16#32
  let v914 : BitVec 32 := Scalar.addi c0_i32_949 c16_i32_950
  let c1_i32_951 : BitVec 32 := 1#32
  ⟨c0_i32_949, v914, c1_i32_951⟩
def k0_off17 (k0_t2 : Fin k0_t2_loop.trips) : Fin 3 → Nat :=
  let c0_1194 : Index := 0#32
  let c0_i32_949 : BitVec 32 := 0#32
  let c1_i32_951 : BitVec 32 := 1#32
  let arg11 : BitVec 32 := Scf.iv c0_i32_949 c1_i32_951 k0_t2
  let v1164 : Index := Scalar.indexCast arg11
  let c0_1195 : Index := 0#32
  ![0, v1164.toNat, 0]
def k0_off18 (k0_t2 : Fin k0_t2_loop.trips) : Fin 3 → Nat :=
  let c1_1206 : Index := 1#32
  let c0_i32_949 : BitVec 32 := 0#32
  let c1_i32_951 : BitVec 32 := 1#32
  let arg11 : BitVec 32 := Scf.iv c0_i32_949 c1_i32_951 k0_t2
  let v1185 : Index := Scalar.indexCast arg11
  let c0_1207 : Index := 0#32
  ![1, v1185.toNat, 0]
def k0_off19 (k0_t2 : Fin k0_t2_loop.trips) : Fin 3 → Nat :=
  let c2_1218 : Index := 2#32
  let c0_i32_949 : BitVec 32 := 0#32
  let c1_i32_951 : BitVec 32 := 1#32
  let arg11 : BitVec 32 := Scf.iv c0_i32_949 c1_i32_951 k0_t2
  let v1206 : Index := Scalar.indexCast arg11
  let c0_1219 : Index := 0#32
  ![2, v1206.toNat, 0]
def k0_off20 (k0_t2 : Fin k0_t2_loop.trips) : Fin 3 → Nat :=
  let c3_1230 : Index := 3#32
  let c0_i32_949 : BitVec 32 := 0#32
  let c1_i32_951 : BitVec 32 := 1#32
  let arg11 : BitVec 32 := Scf.iv c0_i32_949 c1_i32_951 k0_t2
  let v1227 : Index := Scalar.indexCast arg11
  let c0_1231 : Index := 0#32
  ![3, v1227.toNat, 0]
def k0_off21 (k0_t2 : Fin k0_t2_loop.trips) : Fin 3 → Nat :=
  let c4_1242 : Index := 4#32
  let c0_i32_949 : BitVec 32 := 0#32
  let c1_i32_951 : BitVec 32 := 1#32
  let arg11 : BitVec 32 := Scf.iv c0_i32_949 c1_i32_951 k0_t2
  let v1248 : Index := Scalar.indexCast arg11
  let c0_1243 : Index := 0#32
  ![4, v1248.toNat, 0]
def k0_off22 (k0_t2 : Fin k0_t2_loop.trips) : Fin 3 → Nat :=
  let c5_1254 : Index := 5#32
  let c0_i32_949 : BitVec 32 := 0#32
  let c1_i32_951 : BitVec 32 := 1#32
  let arg11 : BitVec 32 := Scf.iv c0_i32_949 c1_i32_951 k0_t2
  let v1269 : Index := Scalar.indexCast arg11
  let c0_1255 : Index := 0#32
  ![5, v1269.toNat, 0]
def k0_off23 (k0_t2 : Fin k0_t2_loop.trips) : Fin 3 → Nat :=
  let c6_1266 : Index := 6#32
  let c0_i32_949 : BitVec 32 := 0#32
  let c1_i32_951 : BitVec 32 := 1#32
  let arg11 : BitVec 32 := Scf.iv c0_i32_949 c1_i32_951 k0_t2
  let v1290 : Index := Scalar.indexCast arg11
  let c0_1267 : Index := 0#32
  ![6, v1290.toNat, 0]
def k0_off24 (k0_t2 : Fin k0_t2_loop.trips) : Fin 3 → Nat :=
  let c7_1278 : Index := 7#32
  let c0_i32_949 : BitVec 32 := 0#32
  let c1_i32_951 : BitVec 32 := 1#32
  let arg11 : BitVec 32 := Scf.iv c0_i32_949 c1_i32_951 k0_t2
  let v1311 : Index := Scalar.indexCast arg11
  let c0_1279 : Index := 0#32
  ![7, v1311.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScoresRefIdeal.lean ====
abbrev S4x2048x2048 : Shape := ⟨3, ![4, 2048, 2048]⟩
abbrev S2048x2048 : Shape := ⟨2, ![2048, 2048]⟩
abbrev S8x2x128x128 : Shape := ⟨4, ![8, 2, 128, 128]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S8x2x128x128, .f32⟩
  | .hbm, ⟨3, _⟩ => ⟨S8192x2048, .f32⟩
  | .hbm, ⟨4, _⟩ => ⟨S8192x2048, .f32⟩
  | .hbm, ⟨5, _⟩ => ⟨S8192x8x2x128, .f32⟩
  | .hbm, ⟨6, _⟩ => ⟨S8x2x128x8192, .f32⟩
  | .hbm, ⟨7, _⟩ => ⟨S8192x8x2x128, .f32⟩
  | .hbm, ⟨8, _⟩ => ⟨S8192x8x1x128, .f32⟩
  | .hbm, ⟨9, _⟩ => ⟨S8192x8x128, .f32⟩
  | .hbm, ⟨10, _⟩ => ⟨S8x128x8192, .f32⟩
  | .hbm, ⟨11, _⟩ => ⟨S8192x8x1x128, .f32⟩
  | .hbm, ⟨12, _⟩ => ⟨S8192x8x128, .f32⟩
  | .hbm, ⟨13, _⟩ => ⟨S8x128x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InProjSample.lean ====
abbrev S8x4x2048 : Shape := ⟨3, ![8, 4, 2048]⟩
abbrev S2048x5968 : Shape := ⟨2, ![2048, 5968]⟩
abbrev S_ : Shape := ⟨0, ![]⟩
abbrev S2048x6144 : Shape := ⟨2, ![2048, 6144]⟩
abbrev S32x2048 : Shape := ⟨2, ![32, 2048]⟩
abbrev S32x6144 : Shape := ⟨2, ![32, 6144]⟩
abbrev S2048x1024 : Shape := ⟨2, ![2048, 1024]⟩
abbrev S32x1024 : Shape := ⟨2, ![32, 1024]⟩

abbrev nBuf : Space → Nat
  | .hbm => 8
  | .vmem => 5
  | .smem => 0
  | _ => 0

abbrev bufTy : (tb : Table) → Fin (tcTables nBuf tb) → BufTy
  | .hbm, ⟨0, _⟩ => ⟨S8x4x2048, .f32⟩
  | .hbm, ⟨1, _⟩ => ⟨S2048x5968, .f32⟩
  | .hbm, ⟨2, _⟩ => ⟨S2048x5968, .bf16⟩
  | .hbm, ⟨3, _⟩ => ⟨S_, .i32⟩
  | .hbm, ⟨4, _⟩ => ⟨S_, .bf16⟩
  | .hbm, ⟨5, _⟩ => ⟨S2048x6144, .bf16⟩
  | .hbm, ⟨6, _⟩ => ⟨S32x2048, .f32⟩
  | .hbm, ⟨7, _⟩ => ⟨S32x6144, .f32⟩
  | .local _ .vmem, ⟨0, _⟩ => ⟨S32x2048, .f32⟩
  | .local _ .vmem, ⟨1, _⟩ => ⟨S2048x1024, .bf16⟩
  | .local _ .vmem, ⟨2, _⟩ => ⟨S2048x1024, .bf16⟩
  | .local _ .vmem, ⟨3, _⟩ => ⟨S32x1024, .f32⟩
  | .local _ .vmem, ⟨4, _⟩ => ⟨S32x1024, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSampleRefIdeal.lean ====
abbrev S8x4x2048 : Shape := ⟨3, ![8, 4, 2048]⟩
abbrev S2048x5968 : Shape := ⟨2, ![2048, 5968]⟩
abbrev S8x4x5968 : Shape := ⟨3, ![8, 4, 5968]⟩
abbrev S_ : Shape := ⟨0, ![]⟩
abbrev S8x4x6144 : Shape := ⟨3, ![8, 4, 6144]⟩
abbrev S32x6144 : Shape := ⟨2, ![32, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S2048x5968, .f32⟩
  | .hbm, ⟨2, _⟩ => ⟨S8x4x5968, .f32⟩
  | .hbm, ⟨3, _⟩ => ⟨S_, .i32⟩
  | .hbm, ⟨4, _⟩ => ⟨S_, .f32⟩
  | .hbm, ⟨5, _⟩ => ⟨S8x4x6144, .f32⟩
  | .hbm, ⟨6, _⟩ => ⟨S32x6144, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Norm.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormIdeal.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S1x1x2048, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== NormSample.lean ====
abbrev S8x4x2048 : Shape := ⟨3, ![8, 4, 2048]⟩
abbrev S2048 : Shape := ⟨1, ![2048]⟩
abbrev S32x2048 : Shape := ⟨2, ![32, 2048]⟩
abbrev S1x2048 : Shape := ⟨2, ![1, 2048]⟩
abbrev S32 : Shape := ⟨1, ![32]⟩
abbrev S32x1 : Shape := ⟨2, ![32, 1]⟩

abbrev nBuf : Space → Nat
  | .hbm => 9
  | .vmem => 5
  | .smem => 0
  | _ => 0

abbrev bufTy : (tb : Table) → Fin (tcTables nBuf tb) → BufTy
  | .hbm, ⟨0, _⟩ => ⟨S8x4x2048, .f32⟩
  | .hbm, ⟨1, _⟩ => ⟨S8x4x2048, .f32⟩
  | .hbm, ⟨2, _⟩ => ⟨S2048, .f32⟩
  | .hbm, ⟨3, _⟩ => ⟨S2048, .f32⟩
  | .hbm, ⟨4, _⟩ => ⟨S32x2048, .f32⟩
  | .hbm, ⟨5, _⟩ => ⟨S32x2048, .f32⟩
  | .hbm, ⟨6, _⟩ => ⟨S1x2048, .f32⟩
  | .hbm, ⟨7, _⟩ => ⟨S1x2048, .f32⟩
  | .hbm, ⟨8, _⟩ => ⟨S32x2048, .f32⟩
  | .local _ .vmem, ⟨0, _⟩ => ⟨S32x2048, .f32⟩
  | .local _ .vmem, ⟨1, _⟩ => ⟨S32x2048, .f32⟩
  | .local _ .vmem, ⟨2, _⟩ => ⟨S1x2048, .f32⟩
  | .local _ .vmem, ⟨3, _⟩ => ⟨S1x2048, .f32⟩
  | .local _ .vmem, ⟨4, _⟩ => ⟨S32x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== NormSampleRefIdeal.lean ====
abbrev S8x4x2048 : Shape := ⟨3, ![8, 4, 2048]⟩
abbrev S2048 : Shape := ⟨1, ![2048]⟩
abbrev S_ : Shape := ⟨0, ![]⟩
abbrev S8x4 : Shape := ⟨2, ![8, 4]⟩
abbrev S8x4x1 : Shape := ⟨3, ![8, 4, 1]⟩
abbrev S1x1x2048 : Shape := ⟨3, ![1, 1, 2048]⟩
abbrev S32x2048 : Shape := ⟨2, ![32, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S8x4x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S_, .f32⟩
  | .hbm, ⟨9, _⟩ => ⟨S8x4, .f32⟩
  | .hbm, ⟨10, _⟩ => ⟨S8x4x1, .f32⟩
  | .hbm, ⟨11, _⟩ => ⟨S_, .f32⟩
  | .hbm, ⟨12, _⟩ => ⟨S8x4x1, .f32⟩
  | .hbm, ⟨13, _⟩ => ⟨S8x4x1, .f32⟩
  | .hbm, ⟨14, _⟩ => ⟨S8x4x2048, .f32⟩
  | .hbm, ⟨15, _⟩ => ⟨S8x4x2048, .f32⟩
  | .hbm, ⟨16, _⟩ => ⟨S8x4x2048, .f32⟩
  | .hbm, ⟨17, _⟩ => ⟨S_, .f32⟩
  | .hbm, ⟨18, _⟩ => ⟨S8x4, .f32⟩
  | .hbm, ⟨19, _⟩ => ⟨S8x4x1, .f32⟩
  | .hbm, ⟨20, _⟩ => ⟨S_, .f32⟩
  | .hbm, ⟨21, _⟩ => ⟨S8x4x1, .f32⟩
  | .hbm, ⟨22, _⟩ => ⟨S8x4x1, .f32⟩
  | .hbm, ⟨23, _⟩ => ⟨S8x4x2048, .f32⟩
  | .hbm, ⟨24, _⟩ => ⟨S8x4x2048, .f32⟩
  | .hbm, ⟨25, _⟩ => ⟨S_, .f32⟩
  | .hbm, ⟨26, _⟩ => ⟨S8x4x1, .f32⟩
  | .hbm, ⟨27, _⟩ => ⟨S8x4x1, .f32⟩
  | .hbm, ⟨28, _⟩ => ⟨S8x4x1, .f32⟩
  | .hbm, ⟨29, _⟩ => ⟨S8x4x2048, .f32⟩
  | .hbm, ⟨30, _⟩ => ⟨S8x4x2048, .f32⟩
  | .hbm, ⟨31, _⟩ => ⟨S1x1x2048, .f32⟩
  | .hbm, ⟨32, _⟩ => ⟨S8x4x2048, .f32⟩
  | .hbm, ⟨33, _⟩ => ⟨S8x4x2048, .f32⟩
  | .hbm, ⟨34, _⟩ => ⟨S1x1x2048, .f32⟩
  | .hbm, ⟨35, _⟩ => ⟨S8x4x2048, .f32⟩
  | .hbm, ⟨36, _⟩ => ⟨S8x4x2048, .f32⟩
  | .hbm, ⟨37, _⟩ => ⟨S32x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== CmpAttn.lean ====
abbrev S8x4x1024 : Shape := ⟨3, ![8, 4, 1024]⟩
abbrev S8x512x512 : Shape := ⟨3, ![8, 512, 512]⟩
abbrev S_ : Shape := ⟨0, ![]⟩
abbrev S8x4x4x4x64 : Shape := ⟨5, ![8, 4, 4, 4, 64]⟩
abbrev S8x64x64 : Shape := ⟨3, ![8, 64, 64]⟩
abbrev S8x128x384 : Shape := ⟨3, ![8, 128, 384]⟩
abbrev S1x64x64 : Shape := ⟨3, ![1, 64, 64]⟩
abbrev S1x512x512 : Shape := ⟨3, ![1, 512, 512]⟩
abbrev S1x128x384 : Shape := ⟨3, ![1, 128, 384]⟩
abbrev S4x128x128 : Shape := ⟨3, ![4, 128, 128]⟩
abbrev S264x128 : Shape := ⟨2, ![264, 128]⟩
abbrev S64x1 : Shape := ⟨2, ![64, 1]⟩
abbrev S1x512 : Shape := ⟨2, ![1, 512]⟩
abbrev S64x512 : Shape := ⟨2, ![64, 512]⟩
abbrev S64x64 : Shape := ⟨2, ![64, 64]⟩
abbrev S1x64x512 : Shape := ⟨3, ![1, 64, 512]⟩
abbrev S16x64 : Shape := ⟨2, ![16, 64]⟩
abbrev S16x512 : Shape := ⟨2, ![16, 512]⟩
abbrev S16 : Shape := ⟨1, ![16]⟩
abbrev S16x1 : Shape := ⟨2, ![16, 1]⟩
abbrev S4x512 : Shape := ⟨2, ![4, 512]⟩
abbrev S128x512 : Shape := ⟨2, ![128, 512]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S8x128 : Shape := ⟨2, ![8, 128]⟩
abbrev S1x128 : Shape := ⟨2, ![1, 128]⟩
abbrev S120x128 : Shape := ⟨2, ![120, 128]⟩
abbrev S384x128 : Shape := ⟨2, ![384, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x4x1024, .f32⟩
  | .hbm, ⟨1, _⟩ => ⟨S8x512x512, .f32⟩
  | .hbm, ⟨2, _⟩ => ⟨S_, .f32⟩
  | .hbm, ⟨3, _⟩ => ⟨S8x4x1024, .f32⟩
  | .hbm, ⟨4, _⟩ => ⟨S8x4x1024, .f32⟩
  | .hbm, ⟨5, _⟩ => ⟨S8x4x4x4x64, .f32⟩
  | .hbm, ⟨6, _⟩ => ⟨S8x4x4x4x64, .f32⟩
  | .hbm, ⟨7, _⟩ => ⟨S8x64x64, .f32⟩
  | .hbm, ⟨8, _⟩ => ⟨S8x64x64, .f32⟩
  | .hbm, ⟨9, _⟩ => ⟨S8x128x384, .f32⟩
  | .local _ .vmem, ⟨0, _⟩ => ⟨S1x64x64, .f32⟩
  | .local _ .vmem, ⟨1, _⟩ => ⟨S1x64x64, .f32⟩
  | .local _ .vmem, ⟨2, _⟩ => ⟨S1x512x512, .f32⟩
  | .local _ .vmem, ⟨3, _⟩ => ⟨S1x512x512, .f32⟩
  | .local _ .vmem, ⟨4, _⟩ => ⟨S1x64x64, .f32⟩
  | .local _ .vmem, ⟨5, _⟩ => ⟨S1x64x64, .f32⟩
  | .local _ .vmem, ⟨6, _⟩ => ⟨S1x128x384, .f32⟩
  | .local _ .vmem, ⟨7, _⟩ => ⟨S1x128x384, .f32⟩
  | .local _ .vmem, ⟨8, _⟩ => ⟨S4x128x128, .f32⟩
  | .local _ .vmem, ⟨9, _⟩ => ⟨S264x128, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_118 : BitVec 32 := 0#32
  let c257_i32_119 : BitVec 32 := 257#32
  let v286 : BitVec 32 := Scalar.addi c0_i32_118 c257_i32_119
  let c1_i32_120 : BitVec 32 := 1#32
  ⟨c0_i32_118, v286, c1_i32_120⟩
def k0_off1 (k0_t1 : Fin k0_t1_loop.trips) : Fin 2 → Nat :=
  let c0_i32_118 : BitVec 32 := 0#32
  let c1_i32_120 : BitVec 32 := 1#32
  let arg7 : BitVec 32 := Scf.iv c0_i32_118 c1_i32_120 k0_t1
  let v313 : Index := Scalar.indexCast arg7
  let c0_135 : Index := 0#32
  ![v313.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CmpAttnRefIdeal.lean ====
abbrev S8x4x1024 : Shape := ⟨3, ![8, 4, 1024]⟩
abbrev S8x512x512 : Shape := ⟨3, ![8, 512, 512]⟩
abbrev S8x2x4x64x512 : Shape := ⟨5, ![8, 2, 4, 64, 512]⟩
abbrev S8x1x4x64x512 : Shape := ⟨5, ![8, 1, 4, 64, 512]⟩
abbrev S8x4x64x512 : Shape := ⟨4, ![8, 4, 64, 512]⟩
abbrev S8x512x4x64 : Shape := ⟨4, ![8, 512, 4, 64]⟩
abbrev S8x4x4x4x64 : Shape := ⟨5, ![8, 4, 4, 4, 64]⟩
abbrev S_ : Shape := ⟨0, ![]⟩
abbrev S4 : Shape := ⟨1, ![4]⟩
abbrev S512 : Shape := ⟨1, ![512]⟩
abbrev S8x4x512x4x4 : Shape := ⟨5, ![8, 4, 512, 4, 4]⟩
abbrev S8x4x4x4x512 : Shape := ⟨5, ![8, 4, 4, 4, 512]⟩
abbrev S1x512 : Shape := ⟨2, ![1, 512]⟩
abbrev S4x1 : Shape := ⟨2, ![4, 1]⟩
abbrev S4x512 : Shape := ⟨2, ![4, 512]⟩
abbrev S1x4x1x1x512 : Shape := ⟨5, ![1, 4, 1, 1, 512]⟩
abbrev S8x4x4x4 : Shape := ⟨4, ![8, 4, 4, 4]⟩
abbrev S8x4x4x4x1 : Shape := ⟨5, ![8, 4, 4, 4, 1]⟩
abbrev S8x4x64x4x4 : Shape := ⟨5, ![8, 4, 64, 4, 4]⟩
abbrev S8x64x64 : Shape := ⟨3, ![8, 64, 64]⟩

abbrev nBuf : Space → Nat
  | .hbm => 63
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S8x512x512, .f32⟩
  | .hbm, ⟨2, _⟩ => ⟨S8x2x4x64x512, .f32⟩
  | .hbm, ⟨3, _⟩ => ⟨S8x1x4x64x512, .f32⟩
  | .hbm, ⟨4, _⟩ => ⟨S8x4x64x512, .f32⟩
  | .hbm, ⟨5, _⟩ => ⟨S8x512x4x64, .f32⟩
  | .hbm, ⟨6, _⟩ => ⟨S8x1x4x64x512, .f32⟩
  | .hbm, ⟨7, _⟩ => ⟨S8x4x64x512, .f32⟩
  | .hbm, ⟨8, _⟩ => ⟨S8x512x4x64, .f32⟩
  | .hbm, ⟨9, _⟩ => ⟨S8x4x4x4x64, .f32⟩
  | .hbm, ⟨10, _⟩ => ⟨S_, .f32⟩
  | .hbm, ⟨11, _⟩ => ⟨S8x4x4x4x64, .f32⟩
  | .hbm, ⟨12, _⟩ => ⟨S8x4x4x4x64, .f32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S8x4x512x4x4, .f32⟩
  | .hbm, ⟨28, _⟩ => ⟨S8x4x4x4x512, .f32⟩
  | .hbm, ⟨29, _⟩ => ⟨S1x512, .i32⟩
  | .hbm, ⟨30, _⟩ => ⟨S4x1, .i32⟩
  | .hbm, ⟨31, _⟩ => ⟨S4x512, .i32⟩
  | .hbm, ⟨32, _⟩ => ⟨S4x512, .i32⟩
  | .hbm, ⟨33, _⟩ => ⟨S4x512, .i1⟩
  | .hbm, ⟨34, _⟩ => ⟨S1x4x1x1x512, .i1⟩
  | .hbm, ⟨35, _⟩ => ⟨S_, .f32⟩
  | .hbm, ⟨36, _⟩ => ⟨S_, .f32⟩
  | .hbm, ⟨37, _⟩ => ⟨S8x4x4x4x512, .i1⟩
  | .hbm, ⟨38, _⟩ => ⟨S8x4x4x4x512, .f32⟩
  | .hbm, ⟨39, _⟩ => ⟨S8x4x4x4x512, .f32⟩
  | .hbm, ⟨40, _⟩ => ⟨S_, .f32⟩
  | .hbm, ⟨41, _⟩ => ⟨S8x4x4x4, .f32⟩
  | .hbm, ⟨42, _⟩ => ⟨S_, .f32⟩
  | .hbm, ⟨43, _⟩ => ⟨S8x4x4x4, .f32⟩
  | .hbm, ⟨44, _⟩ => ⟨S8x4x4x4, .f32⟩
  | .hbm, ⟨45, _⟩ => ⟨S8x4x4x4x1, .f32⟩
  | .hbm, ⟨46, _⟩ => ⟨S8x4x4x4x512, .f32⟩
  | .hbm, ⟨47, _⟩ => ⟨S8x4x4x4x512, .f32⟩
  | .hbm, ⟨48, _⟩ => ⟨S8x4x4x4x512, .f32⟩
  | .hbm, ⟨49, _⟩ => ⟨S_, .f32⟩
  | .hbm, ⟨50, _⟩ => ⟨S8x4x4x4, .f32⟩
  | .hbm, ⟨51, _⟩ => ⟨S8x4x4x4x1, .f32⟩
  | .hbm, ⟨52, _⟩ => ⟨S8x4x4x4x512, .f32⟩
  | .hbm, ⟨53, _⟩ => ⟨S8x4x4x4x512, .f32⟩
  | .hbm, ⟨54, _⟩ => ⟨S_, .f32⟩
  | .hbm, ⟨55, _⟩ => ⟨S_, .f32⟩
  | .hbm, ⟨56, _⟩ => ⟨S8x4x4x4x512, .i1⟩
  | .hbm, ⟨57, _⟩ => ⟨S8x4x4x4x512, .f32⟩
  | .hbm, ⟨58, _⟩ => ⟨S8x4x4x4x512, .f32⟩
  | .hbm, ⟨59, _⟩ => ⟨S8x4x64x4x4, .f32⟩
  | .hbm, ⟨60, _⟩ => ⟨S8x4x4x4x64, .f32⟩
  | .hbm, ⟨61, _⟩ => ⟨S8x4x4x4x64, .f32⟩
  | .hbm, ⟨62, _⟩ => ⟨S8x64x64, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== OutProjSample.lean ====
abbrev S8x4x1024 : Shape := ⟨3, ![8, 4, 1024]⟩
abbrev S8x4x2048 : Shape := ⟨3, ![8, 4, 2048]⟩
abbrev S2048x2048 : Shape := ⟨2, ![2048, 2048]⟩
abbrev S2048 : Shape := ⟨1, ![2048]⟩
abbrev S32x1024 : Shape := ⟨2, ![32, 1024]⟩
abbrev S32x2048 : Shape := ⟨2, ![32, 2048]⟩
abbrev S1x2048 : Shape := ⟨2, ![1, 2048]⟩
abbrev S1024x2048 : Shape := ⟨2, ![1024, 2048]⟩
abbrev S32 : Shape := ⟨1, ![32]⟩
abbrev S32x1 : Shape := ⟨2, ![32, 1]⟩

abbrev nBuf : Space → Nat
  | .hbm => 13
  | .vmem => 7
  | .smem => 0
  | _ => 0

abbrev bufTy : (tb : Table) → Fin (tcTables nBuf tb) → BufTy
  | .hbm, ⟨0, _⟩ => ⟨S8x4x1024, .f32⟩
  | .hbm, ⟨1, _⟩ => ⟨S8x4x1024, .f32⟩
  | .hbm, ⟨2, _⟩ => ⟨S8x4x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S32x1024, .f32⟩
  | .hbm, ⟨7, _⟩ => ⟨S32x1024, .f32⟩
  | .hbm, ⟨8, _⟩ => ⟨S32x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x2048, .f32⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S32x2048, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutProjSampleRefIdeal.lean ====
abbrev S8x4x1024 : Shape := ⟨3, ![8, 4, 1024]⟩
abbrev S8x4x2048 : Shape := ⟨3, ![8, 4, 2048]⟩
abbrev S2048x2048 : Shape := ⟨2, ![2048, 2048]⟩
abbrev S2048 : Shape := ⟨1, ![2048]⟩
abbrev S_ : Shape := ⟨0, ![]⟩
abbrev S8x4 : Shape := ⟨2, ![8, 4]⟩
abbrev S8x4x1 : Shape := ⟨3, ![8, 4, 1]⟩
abbrev S1x1x2048 : Shape := ⟨3, ![1, 1, 2048]⟩
abbrev S32x2048 : Shape := ⟨2, ![32, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S8x4x1024, .f32⟩
  | .hbm, ⟨2, _⟩ => ⟨S8x4x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x4x2048, .f32⟩
  | .hbm, ⟨7, _⟩ => ⟨S8x4x2048, .f32⟩
  | .hbm, ⟨8, _⟩ => ⟨S_, .f32⟩
  | .hbm, ⟨9, _⟩ => ⟨S8x4x2048, .f32⟩
  | .hbm, ⟨10, _⟩ => ⟨S8x4x2048, .f32⟩
  | .hbm, ⟨11, _⟩ => ⟨S8x4x2048, .f32⟩
  | .hbm, ⟨12, _⟩ => ⟨S_, .f32⟩
  | .hbm, ⟨13, _⟩ => ⟨S8x4, .f32⟩
  | .hbm, ⟨14, _⟩ => ⟨S8x4x1, .f32⟩
  | .hbm, ⟨15, _⟩ => ⟨S_, .f32⟩
  | .hbm, ⟨16, _⟩ => ⟨S8x4x1, .f32⟩
  | .hbm, ⟨17, _⟩ => ⟨S8x4x1, .f32⟩
  | .hbm, ⟨18, _⟩ => ⟨S8x4x2048, .f32⟩
  | .hbm, ⟨19, _⟩ => ⟨S8x4x2048, .f32⟩
  | .hbm, ⟨20, _⟩ => ⟨S8x4x2048, .f32⟩
  | .hbm, ⟨21, _⟩ => ⟨S_, .f32⟩
  | .hbm, ⟨22, _⟩ => ⟨S8x4, .f32⟩
  | .hbm, ⟨23, _⟩ => ⟨S8x4x1, .f32⟩
  | .hbm, ⟨24, _⟩ => ⟨S_, .f32⟩
  | .hbm, ⟨25, _⟩ => ⟨S8x4x1, .f32⟩
  | .hbm, ⟨26, _⟩ => ⟨S8x4x1, .f32⟩
  | .hbm, ⟨27, _⟩ => ⟨S8x4x2048, .f32⟩
  | .hbm, ⟨28, _⟩ => ⟨S8x4x2048, .f32⟩
  | .hbm, ⟨29, _⟩ => ⟨S_, .f32⟩
  | .hbm, ⟨30, _⟩ => ⟨S8x4x1, .f32⟩
  | .hbm, ⟨31, _⟩ => ⟨S8x4x1, .f32⟩
  | .hbm, ⟨32, _⟩ => ⟨S8x4x1, .f32⟩
  | .hbm, ⟨33, _⟩ => ⟨S8x4x2048, .f32⟩
  | .hbm, ⟨34, _⟩ => ⟨S8x4x2048, .f32⟩
  | .hbm, ⟨35, _⟩ => ⟨S1x1x2048, .f32⟩
  | .hbm, ⟨36, _⟩ => ⟨S8x4x2048, .f32⟩
  | .hbm, ⟨37, _⟩ => ⟨S8x4x2048, .f32⟩
  | .hbm, ⟨38, _⟩ => ⟨S1x1x2048, .f32⟩
  | .hbm, ⟨39, _⟩ => ⟨S8x4x2048, .f32⟩
  | .hbm, ⟨40, _⟩ => ⟨S8x4x2048, .f32⟩
  | .hbm, ⟨41, _⟩ => ⟨S32x2048, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== CmpPool.lean ====
abbrev S2x1280x128x2x4x64 : Shape := ⟨6, ![2, 1280, 128, 2, 4, 64]⟩
abbrev S8x128 : Shape := ⟨2, ![8, 128]⟩
abbrev S2x32 : Shape := ⟨2, ![2, 32]⟩
abbrev S2x1280x2x4x64x128 : Shape := ⟨6, ![2, 1280, 2, 4, 64, 128]⟩
abbrev S1x2x1x32 : Shape := ⟨4, ![1, 2, 1, 32]⟩
abbrev S1x2x4x32 : Shape := ⟨4, ![1, 2, 4, 32]⟩
abbrev S2x128 : Shape := ⟨2, ![2, 128]⟩
abbrev S8x512x512 : Shape := ⟨3, ![8, 512, 512]⟩
abbrev S1x1x2x4x64x128 : Shape := ⟨6, ![1, 1, 2, 4, 64, 128]⟩
abbrev S1x1 : Shape := ⟨2, ![1, 1]⟩
abbrev S1x512x128 : Shape := ⟨3, ![1, 512, 128]⟩
abbrev S128x128 : Shape := ⟨2, ![128, 128]⟩
abbrev S256x128 : Shape := ⟨2, ![256, 128]⟩
abbrev S1x1x1x4x64x128 : Shape := ⟨6, ![1, 1, 1, 4, 64, 128]⟩
abbrev S4x64x128 : Shape := ⟨3, ![4, 64, 128]⟩
abbrev S1x128 : Shape := ⟨2, ![1, 128]⟩
abbrev S1x256x128 : Shape := ⟨3, ![1, 256, 128]⟩

abbrev nBuf : Space → Nat
  | .hbm => 7
  | .vmem => 67
  | .smem => 1
  | _ => 0

abbrev bufTy : (tb : Table) → Fin (tcTables nBuf tb) → BufTy
  | .hbm, ⟨0, _⟩ => ⟨S2x1280x128x2x4x64, .f32⟩
  | .hbm, ⟨1, _⟩ => ⟨S2x32, .f32⟩
  | .hbm, ⟨2, _⟩ => ⟨S2x1280x2x4x64x128, .f32⟩
  | .hbm, ⟨3, _⟩ => ⟨S1x2x1x32, .f32⟩
  | .hbm, ⟨4, _⟩ => ⟨S1x2x4x32, .f32⟩
  | .hbm, ⟨5, _⟩ => ⟨S2x128, .f32⟩
  | .hbm, ⟨6, _⟩ => ⟨S8x512x512, .f32⟩
  | .local _ .vmem, ⟨0, _⟩ => ⟨S1x1x2x4x64x128, .f32⟩
  | .local _ .vmem, ⟨1, _⟩ => ⟨S1x1x2x4x64x128, .f32⟩
  | .local _ .vmem, ⟨2, _⟩ => ⟨S1x1x2x4x64x128, .f32⟩
  | .local _ .vmem, ⟨3, _⟩ => ⟨S1x1x2x4x64x128, .f32⟩
  | .local _ .vmem, ⟨4, _⟩ => ⟨S1x1x2x4x64x128, .f32⟩
  | .local _ .vmem, ⟨5, _⟩ => ⟨S1x1x2x4x64x128, .f32⟩
  | .local _ .vmem, ⟨6, _⟩ => ⟨S1x1x2x4x64x128, .f32⟩
  | .local _ .vmem, ⟨7, _⟩ => ⟨S1x1x2x4x64x128, .f32⟩
  | .local _ .vmem, ⟨8, _⟩ => ⟨S1x1x2x4x64x128, .f32⟩
  | .local _ .vmem, ⟨9, _⟩ => ⟨S1x1x2x4x64x128, .f32⟩
  | .local _ .vmem, ⟨10, _⟩ => ⟨S1x1x2x4x64x128, .f32⟩
  | .local _ .vmem, ⟨11, _⟩ => ⟨S1x1x2x4x64x128, .f32⟩
  | .local _ .vmem, ⟨12, _⟩ => ⟨S1x1x2x4x64x128, .f32⟩
  | .local _ .vmem, ⟨13, _⟩ => ⟨S1x1x2x4x64x128, .f32⟩
  | .local _ .vmem, ⟨14, _⟩ => ⟨S1x1x2x4x64x128, .f32⟩
  | .local _ .vmem, ⟨15, _⟩ => ⟨S1x1x2x4x64x128, .f32⟩
  | .local _ .vmem, ⟨16, _⟩ => ⟨S1x1x2x4x64x128, .f32⟩
  | .local _ .vmem, ⟨17, _⟩ => ⟨S1x1x2x4x64x128, .f32⟩
  | .local _ .vmem, ⟨18, _⟩ => ⟨S1x1x2x4x64x128, .f32⟩
  | .local _ .vmem, ⟨19, _⟩ => ⟨S1x1x2x4x64x128, .f32⟩
  | .local _ .vmem, ⟨20, _⟩ => ⟨S1x1x2x4x64x128, .f32⟩
  | .local _ .vmem, ⟨21, _⟩ => ⟨S1x1x2x4x64x128, .f32⟩
  | .local _ .vmem, ⟨22, _⟩ => ⟨S1x1x2x4x64x128, .f32⟩
  | .local _ .vmem, ⟨23, _⟩ => ⟨S1x1x2x4x64x128, .f32⟩
  | .local _ .vmem, ⟨24, _⟩ => ⟨S1x1x2x4x64x128, .f32⟩
  | .local _ .vmem, ⟨25, _⟩ => ⟨S1x1x2x4x64x128, .f32⟩
  | .local _ .vmem, ⟨26, _⟩ => ⟨S1x1x2x4x64x128, .f32⟩
  | .local _ .vmem, ⟨27, _⟩ => ⟨S1x1x2x4x64x128, .f32⟩
  | .local _ .vmem, ⟨28, _⟩ => ⟨S1x1x2x4x64x128, .f32⟩
  | .local _ .vmem, ⟨29, _⟩ => ⟨S1x1x2x4x64x128, .f32⟩
  | .local _ .vmem, ⟨30, _⟩ => ⟨S1x1x2x4x64x128, .f32⟩
  | .local _ .vmem, ⟨31, _⟩ => ⟨S1x1x2x4x64x128, .f32⟩
  | .local _ .vmem, ⟨32, _⟩ => ⟨S1x1x2x4x64x128, .f32⟩
  | .local _ .vmem, ⟨33, _⟩ => ⟨S1x1x2x4x64x128, .f32⟩
  | .local _ .vmem, ⟨34, _⟩ => ⟨S1x1x2x4x64x128, .f32⟩
  | .local _ .vmem, ⟨35, _⟩ => ⟨S1x1x2x4x64x128, .f32⟩
  | .local _ .vmem, ⟨36, _⟩ => ⟨S1x1x2x4x64x128, .f32⟩
  | .local _ .vmem, ⟨37, _⟩ => ⟨S1x1x2x4x64x128, .f32⟩
  | .local _ .vmem, ⟨38, _⟩ => ⟨S1x1x2x4x64x128, .f32⟩
  | .local _ .vmem, ⟨39, _⟩ => ⟨S1x1x2x4x64x128, .f32⟩
  | .local _ .vmem, ⟨40, _⟩ => ⟨S1x1x2x4x64x128, .f32⟩
  | .local _ .vmem, ⟨41, _⟩ => ⟨S1x1x2x4x64x128, .f32⟩
  | .local _ .vmem, ⟨42, _⟩ => ⟨S1x1x2x4x64x128, .f32⟩
  | .local _ .vmem, ⟨43, _⟩ => ⟨S1x1x2x4x64x128, .f32⟩
  | .local _ .vmem, ⟨44, _⟩ => ⟨S1x1x2x4x64x128, .f32⟩
  | .local _ .vmem, ⟨45, _⟩ => ⟨S1x1x2x4x64x128, .f32⟩
  | .local _ .vmem, ⟨46, _⟩ => ⟨S1x1x2x4x64x128, .f32⟩
  | .local _ .vmem, ⟨47, _⟩ => ⟨S1x1x2x4x64x128, .f32⟩
  | .local _ .vmem, ⟨48, _⟩ => ⟨S1x1x2x4x64x128, .f32⟩
  | .local _ .vmem, ⟨49, _⟩ => ⟨S1x1x2x4x64x128, .f32⟩
  | .local _ .vmem, ⟨50, _⟩ => ⟨S1x1x2x4x64x128, .f32⟩
  | .local _ .vmem, ⟨51, _⟩ => ⟨S1x1x2x4x64x128, .f32⟩
  | .local _ .vmem, ⟨52, _⟩ => ⟨S1x1x2x4x64x128, .f32⟩
  | .local _ .vmem, ⟨53, _⟩ => ⟨S1x1x2x4x64x128, .f32⟩
  | .local _ .vmem, ⟨54, _⟩ => ⟨S1x1x2x4x64x128, .f32⟩
  | .local _ .vmem, ⟨55, _⟩ => ⟨S1x1x2x4x64x128, .f32⟩
  | .local _ .vmem, ⟨56, _⟩ => ⟨S1x1x2x4x64x128, .f32⟩
  | .local _ .vmem, ⟨57, _⟩ => ⟨S1x1x2x4x64x128, .f32⟩
  | .local _ .vmem, ⟨58, _⟩ => ⟨S1x1x2x4x64x128, .f32⟩
  | .local _ .vmem, ⟨59, _⟩ => ⟨S1x1x2x4x64x128, .f32⟩
  | .local _ .vmem, ⟨60, _⟩ => ⟨S1x1x2x4x64x128, .f32⟩
  | .local _ .vmem, ⟨61, _⟩ => ⟨S1x1x2x4x64x128, .f32⟩
  | .local _ .vmem, ⟨62, _⟩ => ⟨S1x1x2x4x64x128, .f32⟩
  | .local _ .vmem, ⟨63, _⟩ => ⟨S1x1x2x4x64x128, .f32⟩
  | .local _ .vmem, ⟨64, _⟩ => ⟨S2x128, .f32⟩
  | .local _ .vmem, ⟨65, _⟩ => ⟨S1x512x128, .f32⟩
  | .local _ .vmem, ⟨66, _⟩ => ⟨S1x512x128, .f32⟩
  | .local _ .smem, ⟨0, _⟩ => ⟨S8x128, .i32⟩
  | _, _ => ⟨S2x1280x128x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg33_0 : Ref sig .tc := ⟨.vmem, 65, rfl⟩
abbrev cc0_stg33_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem33_0 : DmaSem sig := 65
abbrev cc0_sem33_1 : DmaSem sig := 66

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c32_i32 : BitVec 32 := 32#32
  let v0 : BitVec 32 := Scalar.muli arg1 c32_i32
  let v1 : BitVec 32 := Scalar.addi v0 c0_i32
  let v3 : Index := Scalar.indexCast v1
  ![v2.toNat, v3.toNat]
def cc0_transform_0 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S8x128) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32_0.toNat, v4.toNat, c0_i32_1.toNat, c0_i32_2.toNat, c0_i32_3.toNat, c0_i32_4.toNat]

def cc0_transform_1 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S8x128) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_2 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S8x128) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_3 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S8x128) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_4 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S8x128) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_5 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S8x128) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_6 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S8x128) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_7 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S8x128) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_8 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S8x128) ![v2.toNat, v3.toNat] S1x1.size (k0_off1_inb i 8)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_9 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S8x128) ![v2.toNat, v3.toNat] S1x1.size (k0_off1_inb i 9)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_10 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S8x128) ![v2.toNat, v3.toNat] S1x1.size (k0_off1_inb i 10)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_11 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S8x128) ![v2.toNat, v3.toNat] S1x1.size (k0_off1_inb i 11)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_12 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S8x128) ![v2.toNat, v3.toNat] S1x1.size (k0_off1_inb i 12)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_13 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S8x128) ![v2.toNat, v3.toNat] S1x1.size (k0_off1_inb i 13)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_14 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S8x128) ![v2.toNat, v3.toNat] S1x1.size (k0_off1_inb i 14)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_15 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S8x128) ![v2.toNat, v3.toNat] S1x1.size (k0_off1_inb i 15)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_16 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c16_i32 : BitVec 32 := 16#32
  let v1 : BitVec 32 := Scalar.addi v0 c16_i32
  let v2 : Index := Scalar.indexCast arg0
  let v3 : Index := Scalar.indexCast v1
  let v4 : BitVec 32 := pf.at 0 (Rect.unit (s := S8x128) ![v2.toNat, v3.toNat] S1x1.size (k0_off1_inb i 16)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_17 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c17_i32 : BitVec 32 := 17#32
  let v1 : BitVec 32 := Scalar.addi v0 c17_i32
  let v2 : Index := Scalar.indexCast arg0
  let v3 : Index := Scalar.indexCast v1
  let v4 : BitVec 32 := pf.at 0 (Rect.unit (s := S8x128) ![v2.toNat, v3.toNat] S1x1.size (k0_off1_inb i 17)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_18 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c18_i32 : BitVec 32 := 18#32
  let v1 : BitVec 32 := Scalar.addi v0 c18_i32
  let v2 : Index := Scalar.indexCast arg0
  let v3 : Index := Scalar.indexCast v1
  let v4 : BitVec 32 := pf.at 0 (Rect.unit (s := S8x128) ![v2.toNat, v3.toNat] S1x1.size (k0_off1_inb i 18)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_19 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c19_i32 : BitVec 32 := 19#32
  let v1 : BitVec 32 := Scalar.addi v0 c19_i32
  let v2 : Index := Scalar.indexCast arg0
  let v3 : Index := Scalar.indexCast v1
  let v4 : BitVec 32 := pf.at 0 (Rect.unit (s := S8x128) ![v2.toNat, v3.toNat] S1x1.size (k0_off1_inb i 19)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_20 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c20_i32 : BitVec 32 := 20#32
  let v1 : BitVec 32 := Scalar.addi v0 c20_i32
  let v2 : Index := Scalar.indexCast arg0
  let v3 : Index := Scalar.indexCast v1
  let v4 : BitVec 32 := pf.at 0 (Rect.unit (s := S8x128) ![v2.toNat, v3.toNat] S1x1.size (k0_off1_inb i 20)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_21 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c21_i32 : BitVec 32 := 21#32
  let v1 : BitVec 32 := Scalar.addi v0 c21_i32
  let v2 : Index := Scalar.indexCast arg0
  let v3 : Index := Scalar.indexCast v1
  let v4 : BitVec 32 := pf.at 0 (Rect.unit (s := S8x128) ![v2.toNat, v3.toNat] S1x1.size (k0_off1_inb i 21)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_22 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c22_i32 : BitVec 32 := 22#32
  let v1 : BitVec 32 := Scalar.addi v0 c22_i32
  let v2 : Index := Scalar.indexCast arg0
  let v3 : Index := Scalar.indexCast v1
  let v4 : BitVec 32 := pf.at 0 (Rect.unit (s := S8x128) ![v2.toNat, v3.toNat] S1x1.size (k0_off1_inb i 22)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_23 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c23_i32 : BitVec 32 := 23#32
  let v1 : BitVec 32 := Scalar.addi v0 c23_i32
  let v2 : Index := Scalar.indexCast arg0
  let v3 : Index := Scalar.indexCast v1
  let v4 : BitVec 32 := pf.at 0 (Rect.unit (s := S8x128) ![v2.toNat, v3.toNat] S1x1.size (k0_off1_inb i 23)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_24 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c24_i32 : BitVec 32 := 24#32
  let v1 : BitVec 32 := Scalar.addi v0 c24_i32
  let v2 : Index := Scalar.indexCast arg0
  let v3 : Index := Scalar.indexCast v1
  let v4 : BitVec 32 := pf.at 0 (Rect.unit (s := S8x128) ![v2.toNat, v3.toNat] S1x1.size (k0_off1_inb i 24)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_25 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c25_i32 : BitVec 32 := 25#32
  let v1 : BitVec 32 := Scalar.addi v0 c25_i32
  let v2 : Index := Scalar.indexCast arg0
  let v3 : Index := Scalar.indexCast v1
  let v4 : BitVec 32 := pf.at 0 (Rect.unit (s := S8x128) ![v2.toNat, v3.toNat] S1x1.size (k0_off1_inb i 25)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_26 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c26_i32 : BitVec 32 := 26#32
  let v1 : BitVec 32 := Scalar.addi v0 c26_i32
  let v2 : Index := Scalar.indexCast arg0
  let v3 : Index := Scalar.indexCast v1
  let v4 : BitVec 32 := pf.at 0 (Rect.unit (s := S8x128) ![v2.toNat, v3.toNat] S1x1.size (k0_off1_inb i 26)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_27 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c27_i32 : BitVec 32 := 27#32
  let v1 : BitVec 32 := Scalar.addi v0 c27_i32
  let v2 : Index := Scalar.indexCast arg0
  let v3 : Index := Scalar.indexCast v1
  let v4 : BitVec 32 := pf.at 0 (Rect.unit (s := S8x128) ![v2.toNat, v3.toNat] S1x1.size (k0_off1_inb i 27)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_28 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c28_i32 : BitVec 32 := 28#32
  let v1 : BitVec 32 := Scalar.addi v0 c28_i32
  let v2 : Index := Scalar.indexCast arg0
  let v3 : Index := Scalar.indexCast v1
  let v4 : BitVec 32 := pf.at 0 (Rect.unit (s := S8x128) ![v2.toNat, v3.toNat] S1x1.size (k0_off1_inb i 28)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_29 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c29_i32 : BitVec 32 := 29#32
  let v1 : BitVec 32 := Scalar.addi v0 c29_i32
  let v2 : Index := Scalar.indexCast arg0
  let v3 : Index := Scalar.indexCast v1
  let v4 : BitVec 32 := pf.at 0 (Rect.unit (s := S8x128) ![v2.toNat, v3.toNat] S1x1.size (k0_off1_inb i 29)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_30 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c30_i32 : BitVec 32 := 30#32
  let v1 : BitVec 32 := Scalar.addi v0 c30_i32
  let v2 : Index := Scalar.indexCast arg0
  let v3 : Index := Scalar.indexCast v1
  let v4 : BitVec 32 := pf.at 0 (Rect.unit (s := S8x128) ![v2.toNat, v3.toNat] S1x1.size (k0_off1_inb i 30)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_31 (k0_off1_inb : ∀ i : grid0.Coords, ∀ (r : Fin 32), ∀ a, (k0_off1 i (BitVec.ofNat 32 r.val)) a + S1x1.size a ≤ S8x128.size a) (numel1_S1x1 : S1x1.numel = 1) (pf : pre0.Contents (Elt F)) (i : grid0.Coords) : Fin 6 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c31_i32 : BitVec 32 := 31#32
  let v1 : BitVec 32 := Scalar.addi v0 c31_i32
  let v2 : Index := Scalar.indexCast arg0
  let v3 : Index := Scalar.indexCast v1
  let v4 : BitVec 32 := pf.at 0 (Rect.unit (s := S8x128) ![v2.toNat, v3.toNat] S1x1.size (k0_off1_inb i 31)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, v4.toNat, c0_i32_0.toNat, c0_i32_1.toNat, c0_i32_2.toNat, c0_i32_3.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2x4x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x4x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x2x4x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x2x4x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x2x4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x2x4x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x2x4x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x2x4x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x2x4x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x2x4x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x2x4x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x2x4x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x2x4x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x2x4x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x2x4x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1x2x4x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1x2x4x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x1x2x4x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x1x2x4x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x1x2x4x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 1 → Memref sig .tc .vmem S2x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 2 → Memref sig .tc .vmem S1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]
-- ==== CmpPoolRefIdeal.lean ====
abbrev S2x1280x128x2x4x64 : Shape := ⟨6, ![2, 1280, 128, 2, 4, 64]⟩
abbrev S8x128 : Shape := ⟨2, ![8, 128]⟩
abbrev S2x32 : Shape := ⟨2, ![2, 32]⟩
abbrev S_ : Shape := ⟨0, ![]⟩
abbrev S8x128x1 : Shape := ⟨3, ![8, 128, 1]⟩
abbrev S8x128x2 : Shape := ⟨3, ![8, 128, 2]⟩
abbrev S8x128x128x2x4x64 : Shape := ⟨6, ![8, 128, 128, 2, 4, 64]⟩
abbrev S8x16384x2x4x64 : Shape := ⟨5, ![8, 16384, 2, 4, 64]⟩
abbrev S8x512x32x2x4x64 : Shape := ⟨6, ![8, 512, 32, 2, 4, 64]⟩
abbrev S8x512x32x1x4x64 : Shape := ⟨6, ![8, 512, 32, 1, 4, 64]⟩
abbrev S8x512x32x4x64 : Shape := ⟨5, ![8, 512, 32, 4, 64]⟩
abbrev S1x32 : Shape := ⟨2, ![1, 32]⟩
abbrev S32 : Shape := ⟨1, ![32]⟩
abbrev S8x512x4x64 : Shape := ⟨4, ![8, 512, 4, 64]⟩
abbrev S8x1x512x4x64 : Shape := ⟨5, ![8, 1, 512, 4, 64]⟩
abbrev S8x2x512x4x64 : Shape := ⟨5, ![8, 2, 512, 4, 64]⟩
abbrev S8x2x4x64x512 : Shape := ⟨5, ![8, 2, 4, 64, 512]⟩
abbrev S8x512x512 : Shape := ⟨3, ![8, 512, 512]⟩

abbrev nBuf : Space → Nat
  | .hbm => 34
  | .vmem => 0
  | .smem => 0
  | _ => 0

abbrev bufTy : (tb : Table) → Fin (tcTables nBuf tb) → BufTy
  | .hbm, ⟨0, _⟩ => ⟨S2x1280x128x2x4x64, .f32⟩
  | .hbm, ⟨1, _⟩ => ⟨S8x128, .i32⟩
  | .hbm, ⟨2, _⟩ => ⟨S2x32, .f32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x1, .i32⟩
  | .hbm, ⟨15, _⟩ => ⟨S8x128x2, .i32⟩
  | .hbm, ⟨16, _⟩ => ⟨S8x128x128x2x4x64, .f32⟩
  | .hbm, ⟨17, _⟩ => ⟨S8x16384x2x4x64, .f32⟩
  | .hbm, ⟨18, _⟩ => ⟨S8x512x32x2x4x64, .f32⟩
  | .hbm, ⟨19, _⟩ => ⟨S8x512x32x1x4x64, .f32⟩
  | .hbm, ⟨20, _⟩ => ⟨S8x512x32x4x64, .f32⟩
  | .hbm, ⟨21, _⟩ => ⟨S1x32, .f32⟩
  | .hbm, ⟨22, _⟩ => ⟨S32, .f32⟩
  | .hbm, ⟨23, _⟩ => ⟨S8x512x4x64, .f32⟩
  | .hbm, ⟨24, _⟩ => ⟨S8x512x32x1x4x64, .f32⟩
  | .hbm, ⟨25, _⟩ => ⟨S8x512x32x4x64, .f32⟩
  | .hbm, ⟨26, _⟩ => ⟨S1x32, .f32⟩
  | .hbm, ⟨27, _⟩ => ⟨S32, .f32⟩
  | .hbm, ⟨28, _⟩ => ⟨S8x512x4x64, .f32⟩
  | .hbm, ⟨29, _⟩ => ⟨S8x1x512x4x64, .f32⟩
  | .hbm, ⟨30, _⟩ => ⟨S8x1x512x4x64, .f32⟩
  | .hbm, ⟨31, _⟩ => ⟨S8x2x512x4x64, .f32⟩
  | .hbm, ⟨32, _⟩ => ⟨S8x2x4x64x512, .f32⟩
  | .hbm, ⟨33, _⟩ => ⟨S8x512x512, .f32⟩
  | _, _ => ⟨S2x1280x128x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.CmpAttn.lean ====
/- The attention of a layer's new tokens over the compressed past, for the sample batch. Every point of the kernel's grid takes
   one sequence: sixteen query rows a key head against that head's 512 pooled blocks. -/
module

public import proofs.«01_k».proof.Defs
public import proofs.«01_k».proof.Proof.Gen.CmpAttnIdeal.Value
public import proofs.«01_k».proof.Proof.Gen.CmpAttnRefIdeal.Run
public import Idealize.ShloMosaic.Lib.Pipeline.ValueKit
public import Idealize.ShloMosaic.Lib.Pointwise

@[expose] public section

set_option maxRecDepth 16384

noncomputable section

namespace Cert.Proof.CmpAttn

open Idealize.ShloMosaic Idealize.SL.Sem Idealize.ShloMosaic.TcCoe
open Cert.CmpAttnIdeal Cert.CmpAttnIdeal.Gen
open Idealize.ShloMosaic.Pipeline (Dat)

variable (m : (ℓ : Loc nD τ sig) → Buf (Elt Ideal) ℓ) (ρ : Dev nD → PrngReg)

/-- A choice whose mask holds everywhere. -/
theorem select_held {s : Shape} {φ : FTy} (k : IVec s 1) (a b : FVec Ideal s φ) (h : ∀ i, k i = 1#1) : select k a b = a := by
  funext i
  pointwise [h]

/-- The softmax of each row of scores, as a tile's payloads spell it. -/
def soft (s : FVec Ideal S16x512 .f32) : FVec Ideal S16x512 .f32 :=
  divf (exp (subf s (broadcastTo S16x512 (shapeCast S16x1 (multiReduction .maximumf [1] S16 s 0xFF800000#32 reduces_S16x512_S16
      (.inl rfl) rfl) shapeCasts_S16_S16x1) broadcasts_S16x1_S16x512)))
    (broadcastTo S16x512 (shapeCast S16x1 (multiReduction .add [1] S16
      (exp (subf s (broadcastTo S16x512 (shapeCast S16x1 (multiReduction .maximumf [1] S16 s 0xFF800000#32 reduces_S16x512_S16
        (.inl rfl) rfl) shapeCasts_S16_S16x1) broadcasts_S16x1_S16x512))) 0x00000000#32 reduces_S16x512_S16
      (.inl rfl) rfl) shapeCasts_S16_S16x1) broadcasts_S16x1_S16x512)

/-- The softmax of a row of scores. -/
def row (s : Fin 512 → EReal) (n : Fin 512) : EReal :=
  Ideal.div (Ideal.exp (s n - Finset.fold max (Ideal.ofBits FTy.f32 0xFF800000#32) s Finset.univ))
    (∑ k, Ideal.exp (s k - Finset.fold max (Ideal.ofBits FTy.f32 0xFF800000#32) s Finset.univ))

theorem soft_at (s : FVec Ideal S16x512 .f32) (r : Fin 16) (n : Fin 512) : soft s (ix2 r n) = row (fun k => s (ix2 r k)) n := by
  unfold soft
  pointwise []
  rfl

/-- Every pooled block of the past ends before every new token. -/
theorem before_tokens : ∀ n : Fin 512,
    (IntOp.subi (IntOp.muli (IntOp.addi (BitVec.ofNat 32 ↑n) 1#32) 32#32) 1#32).toInt ≤ 16383 := by decide +kernel

theorem held_of_le {a b : BitVec 32} (ha : a.toInt ≤ 16383) (hb : 16384 ≤ b.toInt) : IntOp.cmpi .sle a b = 1#1 := by
  have h : a.sle b = true := by
    simp only [BitVec.sle, decide_eq_true_eq]; omega
  simp [IntOp.cmpi, h]

theorem mask_at (i : Fin 64) (n : Fin 512) : k0_pay2 (ix2 i n) = 1#1 := by
  unfold k0_pay2
  pointwise []
  exact held_of_le (before_tokens n) (by revert i; decide +kernel)

theorem mask_held (i : S64x512.Idx) : k0_pay2 i = 1#1 := by
  rw [eq_ix2 i]
  exact mask_at _ _

/-- A cut of a mask that holds everywhere holds everywhere. -/
theorem cut_held (k : IVec S64x512 1) (o : ℕ) (hs : S64x512.Slices ![o, 0] S16x512) (h : ∀ i, k i = 1#1) (i : S16x512.Idx) :
    extractStridedSlice S16x512 ![o, 0] k hs i = 1#1 := h _

/-- A head's output: its rows' scores softened against its values. -/
def headOut (s : FVec Ideal S16x512 .f32) (v : Vec Ideal S1x64x512 .f32) : FVec Ideal S16x64 .f32 :=
  matmul dot_S16x512_S64x512_S16x64_1_1_0_0_n_n none (truncf .bf16 (soft s) bitsLt_bf16_f32)
    (truncf .bf16 (shapeCast S64x512 v shapeCasts_S1x64x512_S64x512) bitsLt_bf16_f32 : FVec Ideal S64x512 .bf16)
    (constant S16x64 .f32 0x00000000#32)

theorem headOut_at (s : FVec Ideal S16x512 .f32) (v : Vec Ideal S1x64x512 .f32) (r : Fin 16) (d : Fin 64) :
    headOut s v (ix2 r d) = ∑ n : Fin 512, row (fun k => s (ix2 r k)) n * v (ix3 0 d n) := by
  unfold headOut
  pointwise [soft_at]

/-- A head's scores. -/
def headScores (o : ℕ) (hs : S64x64.Slices ![o, 0] S16x64) (q : Vec Ideal S1x64x64 .f32) (k : Vec Ideal S1x64x512 .f32) :
    FVec Ideal S16x512 .f32 :=
  matmul dot_S16x64_S64x512_S16x512_1_0_0_1_n_n (some .fp32)
    (extractStridedSlice S16x64 ![o, 0] (shapeCast S64x64 q shapeCasts_S1x64x64_S64x64 : FVec Ideal S64x64 .f32) hs)
    (shapeCast S64x512 k shapeCasts_S1x64x512_S64x512 : FVec Ideal S64x512 .f32) (constant S16x512 .f32 0x00000000#32)

theorem headScores_at (o : ℕ) (hs : S64x64.Slices ![o, 0] S16x64) (ho : o + 16 ≤ 64) (q : Vec Ideal S1x64x64 .f32)
    (k : Vec Ideal S1x64x512 .f32) (r : Fin 16) (n : Fin 512) :
    headScores o hs q k (ix2 r n) = ∑ d : Fin 64, q (ix3 0 ⟨o + r.val, by omega⟩ d) * k (ix3 0 d n) := by
  unfold headScores
  pointwise []

/-- Where the mask holds everywhere, a head's payloads are its output. -/
theorem head0 (M : IVec S64x512 1) (hM : ∀ i, M i = 1#1) (M' : IVec S16x512 1) (hM' : ∀ i, M' i = 1#1)
    (q : Vec Ideal S1x64x64 .f32) (k v : Vec Ideal S1x64x512 .f32) :
    k0_pay8 M (k0_pay4 v) (k0_pay5 q k) M' = headOut (headScores 0 slices_S64x64_o0_0_S16x64 q k) v := by
  unfold k0_pay8 k0_pay7
  dsimp only
  rw [select_held _ _ _ hM', select_held _ _ _ (cut_held M 0 _ hM)]
  rfl

theorem head1 (M : IVec S64x512 1) (hM : ∀ i, M i = 1#1) (q : Vec Ideal S1x64x64 .f32) (k v : Vec Ideal S1x64x512 .f32) :
    k0_pay15 (k0_pay10 v) (k0_pay11 M) (k0_pay12 M (k0_pay3 q) k) (k0_pay13 (F := Ideal))
      = headOut (headScores 16 slices_S64x64_o16_0_S16x64 q k) v := by
  unfold k0_pay15 k0_pay14 k0_pay12 k0_pay11
  dsimp only
  rw [select_held _ _ _ (cut_held M 16 _ hM), select_held _ _ _ (cut_held M 16 _ hM)]
  rfl

theorem head2 (M : IVec S64x512 1) (hM : ∀ i, M i = 1#1) (q : Vec Ideal S1x64x64 .f32) (k v : Vec Ideal S1x64x512 .f32) :
    k0_pay18 M (k0_pay3 q) k v = headOut (headScores 32 slices_S64x64_o32_0_S16x64 q k) v := by
  unfold k0_pay18 k0_pay17
  dsimp only
  rw [select_held _ _ _ (cut_held M 32 _ hM), select_held _ _ _ (cut_held M 32 _ hM)]
  rfl

theorem head3 (M : IVec S64x512 1) (hM : ∀ i, M i = 1#1) (q : Vec Ideal S1x64x64 .f32) (k v : Vec Ideal S1x64x512 .f32)
    (a b d : FVec Ideal S16x64 .f32) :
    k0_pay22 M (k0_pay3 q) a b d (k0_pay20 k) v
      = shapeCast S1x64x64 (concatenate S64x64 0 [⟨S16x64, a⟩, ⟨S16x64, b⟩, ⟨S16x64, d⟩,
          ⟨S16x64, headOut (headScores 48 slices_S64x64_o48_0_S16x64 q k) v⟩]
          concatenates_S16x64_S16x64_S16x64_S16x64_S64x64_d0) shapeCasts_S64x64_S1x64x64 := by
  unfold k0_pay22 k0_pay21
  dsimp only
  rw [select_held _ _ _ (cut_held M 48 _ hM), select_held _ _ _ (cut_held M 48 _ hM)]
  rfl

/-- A row's output: `q` its query, `k` and `v` its head's keys and values, by block. -/
def attended (q : Fin 64 → EReal) (k : Fin 64 → Fin 512 → EReal) (v : Fin 512 → EReal) : EReal :=
  ∑ n : Fin 512, row (fun n' => ∑ d : Fin 64, q d * k d n') n * v n

theorem head_at (o : ℕ) (hs : S64x64.Slices ![o, 0] S16x64) (ho : o + 16 ≤ 64) (q : Vec Ideal S1x64x64 .f32)
    (k v : Vec Ideal S1x64x512 .f32) (r r' : Fin 16) (d : Fin 64) (i : Fin 64) (hr : r' = r) (hi : i.val = o + r.val) :
    headOut (headScores o hs q k) v (ix2 r' d)
      = attended (fun e => q (ix3 0 i e)) (fun e n => k (ix3 0 e n)) (fun n => v (ix3 0 d n)) := by
  subst hr
  have e : (⟨o + r'.val, by omega⟩ : Fin 64) = i := Fin.ext hi.symm
  rw [headOut_at, ← e]
  simp only [headScores_at o hs ho]
  rfl

/-- The four heads' outputs, one above the other, at row `r` of head `h`. -/
theorem heads_at (q : Vec Ideal S1x64x64 .f32) (k0 v0 k1 v1 k2 v2 k3 v3 : Vec Ideal S1x64x512 .f32) (z : Fin 1)
    (h : Fin 4) (r : Fin 16) (d : Fin 64) :
    shapeCast S1x64x64 (concatenate S64x64 0 [
        ⟨S16x64, headOut (headScores 0 slices_S64x64_o0_0_S16x64 q k0) v0⟩,
        ⟨S16x64, headOut (headScores 16 slices_S64x64_o16_0_S16x64 q k1) v1⟩,
        ⟨S16x64, headOut (headScores 32 slices_S64x64_o32_0_S16x64 q k2) v2⟩,
        ⟨S16x64, headOut (headScores 48 slices_S64x64_o48_0_S16x64 q k3) v3⟩]
        concatenates_S16x64_S16x64_S16x64_S16x64_S64x64_d0) shapeCasts_S64x64_S1x64x64
        (ix3 z ⟨h.val * 16 + r.val, by omega⟩ d)
      = attended (fun e => q (ix3 0 ⟨h.val * 16 + r.val, by omega⟩ e)) (fun e n => ![k0, k1, k2, k3] h (ix3 0 e n))
          (fun n => ![v0, v1, v2, v3] h (ix3 0 d n)) := by
  have hr := r.isLt
  fin_cases h <;> pointwise []
  · exact head_at 0 _ (by omega) q k0 v0 r _ d _ rfl (by simp)
  · exact head_at 16 _ (by omega) q k1 v1 r _ d _ rfl (by simp)
  · rw [dif_neg (by omega), dif_neg (by omega), dif_pos (by omega)]
    exact head_at 32 _ (by omega) q k2 v2 r _ d _ (Fin.ext (by dsimp only; omega)) (by simp)
  · rw [dif_neg (by omega), dif_neg (by omega), dif_neg (by omega)]
    exact head_at 48 _ (by omega) q k3 v3 r _ d _ (Fin.ext (by dsimp only; omega)) (by simp)

/-- Rows `o` on of a point's pooled block. -/
theorem rows_at (x : Vec Ideal S1x512x512 .f32) (o : ℕ) (ho : o + 64 ≤ 512)
    (hin : ∀ a, (![0, o, 0] : Fin 3 → ℕ) a + S1x64x512.size a ≤ S1x512x512.size a) (d : Fin 64) (n : Fin 512) :
    View.ld x (Rect.unit (s := S1x512x512) ![0, o, 0] S1x64x512.size hin) (ix3 0 d n) = x (ix3 0 ⟨o + d.val, by omega⟩ n) := by
  refine congrArg x ?_
  blk_ext [] <;> exact (Rect.idx_unit_val _ _ _ _ _).trans (by simp [ix3])

/-- The block a point leaves, from its queries and pooled block. -/
theorem block_at (q : Vec Ideal S1x64x64 .f32) (x : Vec Ideal S1x512x512 .f32) (z : Fin 1) (h : Fin 4) (r : Fin 16) (d : Fin 64) :
    k0_pay22 k0_pay2 (k0_pay3 q)
      (k0_pay8 k0_pay2
        (k0_pay4 (View.ld x (Rect.unit ![0, 256, 0] ![1, 64, 512] inb_S1x512x512_S1x64x512_0_256_0)))
        (k0_pay5 q (View.ld x (Rect.unit ![0, 0, 0] ![1, 64, 512] inb_S1x512x512_S1x64x512_0_0_0))) k0_pay6)
      (k0_pay15
        (k0_pay10 (View.ld x (Rect.unit ![0, 320, 0] ![1, 64, 512] inb_S1x512x512_S1x64x512_0_320_0))) (k0_pay11 k0_pay2)
        (k0_pay12 k0_pay2 (k0_pay3 q) (View.ld x (Rect.unit ![0, 64, 0] ![1, 64, 512] inb_S1x512x512_S1x64x512_0_64_0)))
        k0_pay13)
      (k0_pay18 k0_pay2 (k0_pay3 q) (View.ld x (Rect.unit ![0, 128, 0] ![1, 64, 512] inb_S1x512x512_S1x64x512_0_128_0))
        (View.ld x (Rect.unit ![0, 384, 0] ![1, 64, 512] inb_S1x512x512_S1x64x512_0_384_0)))
      (k0_pay20 (View.ld x (Rect.unit ![0, 192, 0] ![1, 64, 512] inb_S1x512x512_S1x64x512_0_192_0)))
      (View.ld x (Rect.unit ![0, 448, 0] ![1, 64, 512] inb_S1x512x512_S1x64x512_0_448_0))
      (ix3 z ⟨h.val * 16 + r.val, by omega⟩ d)
      = attended (fun e => q (ix3 0 ⟨h.val * 16 + r.val, by omega⟩ e))
          (fun e n => x (ix3 0 ⟨h.val * 64 + e.val, by omega⟩ n)) (fun n => x (ix3 0 ⟨256 + h.val * 64 + d.val, by omega⟩ n)) := by
  have h6 : ∀ i, k0_pay6 i = 1#1 := cut_held k0_pay2 0 slices_S64x512_o0_0_S16x512 mask_held
  generalize k0_pay6 = M' at h6
  have h2 := mask_held
  generalize k0_pay2 = M at h2
  rw [head3 M h2, head0 M h2 M' h6, head1 M h2, head2 M h2]
  refine (heads_at q _ _ _ _ _ _ _ _ z h r d).trans ?_
  fin_cases h <;> refine congrArg₂ (attended _) (funext fun e => funext fun n => ?_) (funext fun n => ?_)
  · exact rows_at x 0 (by omega) inb_S1x512x512_S1x64x512_0_0_0 e n
  · exact rows_at x 256 (by omega) inb_S1x512x512_S1x64x512_0_256_0 d n
  · exact rows_at x 64 (by omega) inb_S1x512x512_S1x64x512_0_64_0 e n
  · exact rows_at x 320 (by omega) inb_S1x512x512_S1x64x512_0_320_0 d n
  · exact rows_at x 128 (by omega) inb_S1x512x512_S1x64x512_0_128_0 e n
  · exact rows_at x 384 (by omega) inb_S1x512x512_S1x64x512_0_384_0 d n
  · exact rows_at x 192 (by omega) inb_S1x512x512_S1x64x512_0_192_0 e n
  · exact rows_at x 448 (by omega) inb_S1x512x512_S1x64x512_0_448_0 d n

/-- The scaled queries, by row: head, group, token. -/
def queries (q : FVec Ideal S8x4x1024 .f32) (b : Fin 8) (h g t : Fin 4) (d : Fin 64) : EReal :=
  q (ix3 b t ⟨h.val * 256 + g.val * 64 + d.val, by omega⟩) * Ideal.ofBits .f32 0x3E000000#32

/-- The reference's queries, -/
def refQueries (q : FVec Ideal S8x4x1024 .f32) : FVec Ideal Cert.CmpAttnRefIdeal.S8x4x4x4x64 .f32 :=
  mulf (shapeCast Cert.CmpAttnRefIdeal.S8x4x4x4x64 q Cert.CmpAttnRefIdeal.Gen.shapeCasts_S8x4x1024_S8x4x4x4x64)
    (broadcastInDim Cert.CmpAttnRefIdeal.S8x4x4x4x64 ![] Cert.CmpAttnRefIdeal.Gen.bcast_S_S8x4x4x4x64 (constant Cert.CmpAttnRefIdeal.S_ .f32 0x3E000000#32))

/-- its keys, -/
def refKeys (x : FVec Ideal S8x512x512 .f32) : FVec Ideal Cert.CmpAttnRefIdeal.S8x512x4x64 .f32 :=
  transpose Cert.CmpAttnRefIdeal.S8x512x4x64 [0, 3, 1, 2] (shapeCast Cert.CmpAttnRefIdeal.S8x4x64x512 (extractStridedSlice Cert.CmpAttnRefIdeal.S8x1x4x64x512 ![0, 0, 0, 0, 0]
    (shapeCast Cert.CmpAttnRefIdeal.S8x2x4x64x512 x Cert.CmpAttnRefIdeal.Gen.shapeCasts_S8x512x512_S8x2x4x64x512) Cert.CmpAttnRefIdeal.Gen.slices_S8x2x4x64x512_S8x1x4x64x512_0_0_0_0_0)
    Cert.CmpAttnRefIdeal.Gen.shapeCasts_S8x1x4x64x512_S8x4x64x512) Cert.CmpAttnRefIdeal.Gen.transposes_S8x4x64x512_S8x512x4x64_0_3_1_2

/-- its values, -/
def refValues (x : FVec Ideal S8x512x512 .f32) : FVec Ideal Cert.CmpAttnRefIdeal.S8x512x4x64 .f32 :=
  transpose Cert.CmpAttnRefIdeal.S8x512x4x64 [0, 3, 1, 2] (shapeCast Cert.CmpAttnRefIdeal.S8x4x64x512 (extractStridedSlice Cert.CmpAttnRefIdeal.S8x1x4x64x512 ![0, 1, 0, 0, 0]
    (shapeCast Cert.CmpAttnRefIdeal.S8x2x4x64x512 x Cert.CmpAttnRefIdeal.Gen.shapeCasts_S8x512x512_S8x2x4x64x512) Cert.CmpAttnRefIdeal.Gen.slices_S8x2x4x64x512_S8x1x4x64x512_0_1_0_0_0)
    Cert.CmpAttnRefIdeal.Gen.shapeCasts_S8x1x4x64x512_S8x4x64x512) Cert.CmpAttnRefIdeal.Gen.transposes_S8x4x64x512_S8x512x4x64_0_3_1_2

/-- its scores, -/
def refScores (q : FVec Ideal Cert.CmpAttnRefIdeal.S8x4x4x4x64 .f32) (k : FVec Ideal Cert.CmpAttnRefIdeal.S8x512x4x64 .f32) : FVec Ideal Cert.CmpAttnRefIdeal.S8x4x4x4x512 .f32 :=
  transpose Cert.CmpAttnRefIdeal.S8x4x4x4x512 [0, 3, 1, 4, 2] (Host.dotGeneral Cert.CmpAttnRefIdeal.dot_S8x512x4x64_S8x4x4x4x64_S8x4x512x4x4_3_4_1_13_02_02 none k q)
    Cert.CmpAttnRefIdeal.Gen.transposes_S8x4x512x4x4_S8x4x4x4x512_0_3_1_4_2

/-- its mask, -/
def refMask : IVec Cert.CmpAttnRefIdeal.S8x4x4x4x512 1 :=
  broadcastInDim Cert.CmpAttnRefIdeal.S8x4x4x4x512 ![0, 1, 2, 3, 4] Cert.CmpAttnRefIdeal.Gen.bcast_S1x4x1x1x512_S8x4x4x4x512_0_1_2_3_4
    (broadcastInDim Cert.CmpAttnRefIdeal.S1x4x1x1x512 ![1, 4] Cert.CmpAttnRefIdeal.Gen.bcast_S4x512_S1x4x1x1x512_1_4 (cmpi .sle
      (broadcastInDim Cert.CmpAttnRefIdeal.S4x512 ![0, 1] Cert.CmpAttnRefIdeal.Gen.bcast_S1x512_S4x512_0_1 (broadcastInDim Cert.CmpAttnRefIdeal.S1x512 ![1] Cert.CmpAttnRefIdeal.Gen.bcast_S512_S1x512_1
        (subi (muli (addi (iotaInDim Cert.CmpAttnRefIdeal.S512 32 0) (broadcastInDim Cert.CmpAttnRefIdeal.S512 ![] Cert.CmpAttnRefIdeal.Gen.bcast_S_S512 (constantI Cert.CmpAttnRefIdeal.S_ 32 1#32)))
          (broadcastInDim Cert.CmpAttnRefIdeal.S512 ![] Cert.CmpAttnRefIdeal.Gen.bcast_S_S512 (constantI Cert.CmpAttnRefIdeal.S_ 32 32#32)))
          (broadcastInDim Cert.CmpAttnRefIdeal.S512 ![] Cert.CmpAttnRefIdeal.Gen.bcast_S_S512 (constantI Cert.CmpAttnRefIdeal.S_ 32 1#32)))))
      (broadcastInDim Cert.CmpAttnRefIdeal.S4x512 ![0, 1] Cert.CmpAttnRefIdeal.Gen.bcast_S4x1_S4x512_0_1 (broadcastInDim Cert.CmpAttnRefIdeal.S4x1 ![0] Cert.CmpAttnRefIdeal.Gen.bcast_S4_S4x1_0
        (addi (broadcastInDim Cert.CmpAttnRefIdeal.S4 ![] Cert.CmpAttnRefIdeal.Gen.bcast_S_S4 (constantI Cert.CmpAttnRefIdeal.S_ 32 16384#32)) (iotaInDim Cert.CmpAttnRefIdeal.S4 32 0))))))

/-- its softmax of masked scores, -/
def refSoft (s : FVec Ideal Cert.CmpAttnRefIdeal.S8x4x4x4x512 .f32) : FVec Ideal Cert.CmpAttnRefIdeal.S8x4x4x4x512 .f32 :=
  let e := Host.exp (subf s (broadcastInDim Cert.CmpAttnRefIdeal.S8x4x4x4x512 ![0, 1, 2, 3, 4] Cert.CmpAttnRefIdeal.Gen.bcast_S8x4x4x4x1_S8x4x4x4x512_0_1_2_3_4
    (broadcastInDim Cert.CmpAttnRefIdeal.S8x4x4x4x1 ![0, 1, 2, 3] Cert.CmpAttnRefIdeal.Gen.bcast_S8x4x4x4_S8x4x4x4x1_0_1_2_3
      (maximumf (broadcastInDim Cert.CmpAttnRefIdeal.S8x4x4x4 ![] Cert.CmpAttnRefIdeal.Gen.bcast_S_S8x4x4x4 (constant Cert.CmpAttnRefIdeal.S_ .f32 0xFF800000#32))
        (Host.reduce FloatOps.maximumf s (constant Cert.CmpAttnRefIdeal.S_ .f32 0xFF800000#32) Cert.CmpAttnRefIdeal.Gen.reducesTo_S8x4x4x4x512_S8x4x4x4_d4 Cert.CmpAttnRefIdeal.Gen.h_S_)))))
  Host.divf e (broadcastInDim Cert.CmpAttnRefIdeal.S8x4x4x4x512 ![0, 1, 2, 3, 4] Cert.CmpAttnRefIdeal.Gen.bcast_S8x4x4x4x1_S8x4x4x4x512_0_1_2_3_4
    (broadcastInDim Cert.CmpAttnRefIdeal.S8x4x4x4x1 ![0, 1, 2, 3] Cert.CmpAttnRefIdeal.Gen.bcast_S8x4x4x4_S8x4x4x4x1_0_1_2_3
      (Host.reduceAdd e (constant Cert.CmpAttnRefIdeal.S_ .f32 0x00000000#32) Cert.CmpAttnRefIdeal.Gen.reducesTo_S8x4x4x4x512_S8x4x4x4_d4 Cert.CmpAttnRefIdeal.Gen.h_S_)))

/-- and its output of weights and values. -/
def refOut (p : FVec Ideal Cert.CmpAttnRefIdeal.S8x4x4x4x512 .f32) (v : FVec Ideal Cert.CmpAttnRefIdeal.S8x512x4x64 .f32) : FVec Ideal S8x64x64 .f32 :=
  shapeCast S8x64x64 (transpose Cert.CmpAttnRefIdeal.S8x4x4x4x64 [0, 2, 3, 1, 4] (transpose Cert.CmpAttnRefIdeal.S8x4x4x4x64 [0, 3, 1, 4, 2]
    (Host.dotGeneral Cert.CmpAttnRefIdeal.dot_S8x512x4x64_S8x4x4x4x512_S8x4x64x4x4_1_4_3_13_02_02 none v p)
    Cert.CmpAttnRefIdeal.Gen.transposes_S8x4x64x4x4_S8x4x4x4x64_0_3_1_4_2) Cert.CmpAttnRefIdeal.Gen.transposes_S8x4x4x4x64_S8x4x4x4x64_0_2_3_1_4)
    Cert.CmpAttnRefIdeal.Gen.shapeCasts_S8x4x4x4x64_S8x64x64

/-- The reference's result. -/
def reference (q : FVec Ideal S8x4x1024 .f32) (x : FVec Ideal S8x512x512 .f32) : FVec Ideal S8x64x64 .f32 :=
  refOut (select refMask (refSoft (select refMask (refScores (refQueries q) (refKeys x))
      (broadcastInDim Cert.CmpAttnRefIdeal.S8x4x4x4x512 ![] Cert.CmpAttnRefIdeal.Gen.bcast_S_S8x4x4x4x512 (id (constant Cert.CmpAttnRefIdeal.S_ .f32 0xF149F2CA#32)))))
    (broadcastInDim Cert.CmpAttnRefIdeal.S8x4x4x4x512 ![] Cert.CmpAttnRefIdeal.Gen.bcast_S_S8x4x4x4x512 (id (constant Cert.CmpAttnRefIdeal.S_ .f32 0x00000000#32)))) (refValues x)

theorem refMask_held (i : Cert.CmpAttnRefIdeal.S8x4x4x4x512.Idx) : refMask i = 1#1 := by
  obtain ⟨b, t, h, g, n, rfl⟩ : ∃ (b : Fin 8) (t h g : Fin 4) (n : Fin 512), i = ix5 b t h g n :=
    ⟨i 0, i 1, i 2, i 3, i 4, eq_ix5 i⟩
  unfold refMask
  pointwise []
  exact held_of_le (before_tokens n) (by revert t; decide +kernel)

theorem refQueries_at (q : FVec Ideal S8x4x1024 .f32) (b : Fin 8) (t h g : Fin 4) (d : Fin 64) :
    refQueries q (ix5 b t h g d) = queries q b h g t d := by
  unfold refQueries queries
  pointwise []

theorem refKeys_at (x : FVec Ideal S8x512x512 .f32) (b : Fin 8) (n : Fin 512) (h : Fin 4) (d : Fin 64) :
    refKeys x (ix4 b n h d) = x (ix3 b ⟨h.val * 64 + d.val, by omega⟩ n) := by
  unfold refKeys
  pointwise []

theorem refValues_at (x : FVec Ideal S8x512x512 .f32) (b : Fin 8) (n : Fin 512) (h : Fin 4) (d : Fin 64) :
    refValues x (ix4 b n h d) = x (ix3 b ⟨256 + h.val * 64 + d.val, by omega⟩ n) := by
  unfold refValues
  pointwise []

theorem refScores_at (q : FVec Ideal Cert.CmpAttnRefIdeal.S8x4x4x4x64 .f32) (k : FVec Ideal Cert.CmpAttnRefIdeal.S8x512x4x64 .f32) (b : Fin 8) (t h g : Fin 4) (n : Fin 512) :
    refScores q k (ix5 b t h g n) = ∑ d : Fin 64, k (ix4 b n h d) * q (ix5 b t h g d) := by
  unfold refScores
  pointwise []

/-- A maximum already holds the number it starts from. -/
theorem max_fold (a : EReal) (f : Fin 512 → EReal) : max a (Finset.fold max a f Finset.univ) = Finset.fold max a f Finset.univ :=
  max_eq_right ((Finset.le_fold_max a).2 (.inl le_rfl))

theorem refSoft_at (s : FVec Ideal Cert.CmpAttnRefIdeal.S8x4x4x4x512 .f32) (b : Fin 8) (t h g : Fin 4) (n : Fin 512) :
    refSoft s (ix5 b t h g n) = row (fun k => s (ix5 b t h g k)) n := by
  unfold refSoft row
  pointwise []
  simp only [max_fold]

theorem refOut_at (p : FVec Ideal Cert.CmpAttnRefIdeal.S8x4x4x4x512 .f32) (v : FVec Ideal Cert.CmpAttnRefIdeal.S8x512x4x64 .f32) (b : Fin 8) (h g t : Fin 4) (d : Fin 64) :
    refOut p v (ix3 b ⟨h.val * 16 + g.val * 4 + t.val, by omega⟩ d) = ∑ n : Fin 512, v (ix4 b n h d) * p (ix5 b t h g n) := by
  unfold refOut
  pointwise []

theorem reference_at (q : FVec Ideal S8x4x1024 .f32) (x : FVec Ideal S8x512x512 .f32) (b : Fin 8) (h g t : Fin 4) (d : Fin 64) :
    reference q x (ix3 b ⟨h.val * 16 + g.val * 4 + t.val, by omega⟩ d)
      = attended (queries q b h g t) (fun e n => x (ix3 b ⟨h.val * 64 + e.val, by omega⟩ n))
          (fun n => x (ix3 b ⟨256 + h.val * 64 + d.val, by omega⟩ n)) := by
  unfold reference attended
  rw [select_held _ _ _ refMask_held, select_held _ _ _ refMask_held, refOut_at]
  refine Finset.sum_congr (M := EReal) rfl fun n _ => ?_
  rw [refSoft_at, refValues_at, mul_comm]
  refine congrArg (fun s => row s n * _) (funext fun n' => ?_)
  rw [refScores_at]
  refine Finset.sum_congr (M := EReal) rfl fun e _ => ?_
  rw [refKeys_at, refQueries_at, mul_comm]

/-- The windows' block indices. -/
theorem idx : ∀ t : Fin cfg0.N, win0_0.index t = ![t.val, 0, 0] ∧ win0_1.index t = ![t.val, 0, 0]
    ∧ win0_2.index t = ![t.val, 0, 0] :=
  (by decide +kernel : ∀ t : Fin grid0.N, _)

/-- The queries as the region finds them. -/
def laid (q : FVec Ideal S8x4x1024 .f32) : FVec Ideal S8x64x64 .f32 :=
  shapeCast S8x64x64 (transpose S8x4x4x4x64 [0, 2, 3, 1, 4] (shapeCast S8x4x4x4x64
    (mulf q (broadcastInDim S8x4x1024 ![] bcast_S_S8x4x1024 (constant S_ .f32 0x3E000000#32))) shapeCasts_S8x4x1024_S8x4x4x4x64)
    transposes_S8x4x4x4x64_S8x4x4x4x64_0_2_3_1_4) shapeCasts_S8x4x4x4x64_S8x64x64

theorem entry (c : Dev nD) : V m c main_v4 = laid (m ((c : Thread nD τ).loc main_arg0)) := by
  unfold V
  after_results <;> rfl

theorem laid_at (q : FVec Ideal S8x4x1024 .f32) (b : Fin 8) (h g t : Fin 4) (d : Fin 64) :
    laid q (ix3 b ⟨h.val * 16 + g.val * 4 + t.val, by omega⟩ d) = queries q b h g t d := by
  unfold laid queries
  pointwise []

/-- A point's queries are one sequence's, -/
theorem q_at (c : Dev nD) (t : Fin cfg0.N) (b : Fin 8) (hb : b.val = t.val) (r d : Fin 64) :
    iblk m c 0 t (ix3 0 r d) = laid (m ((c : Thread nD τ).loc main_arg0)) (ix3 b r d) := by
  blk_simp [iblk]
  rw [← entry]
  congr 1
  blk_ext [idx t]

/-- and its pooled block is that sequence's. -/
theorem kv_at (c : Dev nD) (t : Fin cfg0.N) (b : Fin 8) (hb : b.val = t.val) (r n : Fin 512) :
    iblk m c 1 t (ix3 0 r n) = m ((c : Thread nD τ).loc main_arg1) (ix3 b r n) := by
  have e : iblk m c 1 t (ix3 0 r n) = V m c main_arg1 (ix3 b r n) := by
    blk_simp [iblk]
    congr 1
    blk_ext [idx t]
  exact e.trans (congrFun (V_main_arg1 m c) _)

/-- The array the kernel leaves is the reference's result. -/
theorem final (c : Dev nD) : (dats m 0 c).arrAt 2 cfg0.N
    = reference (m ((c : Thread nD τ).loc main_arg0)) (m ((c : Thread nD τ).loc main_arg1)) := by
  refine (dats m 0 c).arrAt_eq_of_covers 2 _ (by decide +kernel) fun t hf y => ?_
  blk_simp
  obtain ⟨z, r, s, rfl⟩ : ∃ (z : Fin 1) (r : Fin 64) (s : Fin 64), y = ix3 z r s := ⟨y 0, y 1, y 2, eq_ix3 y⟩
  rw [after0_2]
  unfold outsAt0
  frame_out
  have ht : t.val < 8 := t.isLt
  obtain ⟨h, g, k, rfl⟩ : ∃ h g k : Fin 4, r = ⟨h.val * 16 + (⟨g.val * 4 + k.val, by omega⟩ : Fin 16).val, by dsimp only; omega⟩ :=
    ⟨⟨r.val / 16, by omega⟩, ⟨r.val / 4 % 4, by omega⟩, ⟨r.val % 4, by omega⟩, Fin.ext (by dsimp only; omega)⟩
  have hh := h.isLt
  have hg := g.isLt
  have hk := k.isLt
  have e : ((View.whole main_v5_0).slice (win0_2.rect t)).emb (ix3 z ⟨h.val * 16 + (g.val * 4 + k.val), by omega⟩ s)
      = ix3 (⟨t.val, ht⟩ : Fin 8) (⟨h.val * 16 + g.val * 4 + k.val, by omega⟩ : Fin 64) s := by blk_ext [idx t]
  refine (block_at _ _ z h ⟨g.val * 4 + k.val, by omega⟩ s).trans ?_
  refine Eq.trans ?_ ((reference_at _ _ ⟨t.val, ht⟩ h g k s).symm.trans (congrArg (reference _ _) e.symm))
  have hq : ∀ d, iblk m c 0 t (ix3 0 ⟨h.val * 16 + (g.val * 4 + k.val), by omega⟩ d)
      = queries (m ((c : Thread nD τ).loc main_arg0)) ⟨t.val, ht⟩ h g k d := fun d =>
    (q_at m c t ⟨t.val, ht⟩ rfl _ d).trans
      ((congrArg (laid _) (by congr 2; omega)).trans (laid_at _ ⟨t.val, ht⟩ h g k d))
  simp only [hq, kv_at m c t ⟨t.val, ht⟩ rfl]

/-- The attention that the kernel leaves is the reference's. -/
theorem algebraic : Cert.algebraic_CmpAttnIdeal_CmpAttnRefIdeal := by
  intro m ρ m' ρ' _ hagree
  refine ⟨_, (θ_run Cert.CmpAttnIdeal.defs _ _).mono (fun _ h c => ⟨(h c).1, (h c).2.2⟩)
    (Cert.CmpAttnIdeal.Value.run_blocks (F := Ideal) m ρ), ?_⟩
  refine (θ_run Cert.CmpAttnRefIdeal.defs _ _).mono (fun _ h c => ⟨(h c).1.trans ?_, (h c).2⟩)
    (Cert.CmpAttnRefIdeal.Value.run (F := Ideal) m' ρ')
  rw [final, ← (hagree c).1, ← (hagree c).2]
  rfl

end Cert.Proof.CmpAttn

end
-- ==== Proof.CmpPoolIdealRun.lean ====
/- The pooling call at the ideal values: one run of its body. Its block is named by a sum over the 32 pages of a point, page after page. -/
module

public import proofs.«01_k».proof.Proof.Gen.CmpPoolIdeal.Frame.Runs

@[expose] public section

set_option maxRecDepth 16384

noncomputable section

namespace Cert.Proof.CmpPoolIdealRun

open Cert.CmpPoolIdeal Cert.CmpPoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The boxes the body reads and writes: a page's keys and its values, -/
abbrev rKeys : Rect S1x1x2x4x64x128 := Rect.unit (s := S1x1x2x4x64x128) ![0, 0, 0, 0, 0, 0] S1x1x1x4x64x128.size inb_S1x1x2x4x64x128_S1x1x1x4x64x128_0_0_0_0_0_0
abbrev rVals : Rect S1x1x2x4x64x128 := Rect.unit (s := S1x1x2x4x64x128) ![0, 0, 1, 0, 0, 0] S1x1x1x4x64x128.size inb_S1x1x2x4x64x128_S1x1x1x4x64x128_0_0_1_0_0_0
/-! the weights of either, -/
abbrev rKeyW : Rect S2x128 := Rect.unit (s := S2x128) ![0, 0] S1x128.size inb_S2x128_S1x128_0_0
abbrev rValW : Rect S2x128 := Rect.unit (s := S2x128) ![1, 0] S1x128.size inb_S2x128_S1x128_1_0
/-! and the upper and the lower half of the result. -/
abbrev rUp : Rect S1x512x128 := Rect.unit (s := S1x512x128) ![0, 0, 0] S1x256x128.size inb_S1x512x128_S1x256x128_0_0_0
abbrev rLow : Rect S1x512x128 := Rect.unit (s := S1x512x128) ![0, 256, 0] S1x256x128.size inb_S1x512x128_S1x256x128_0_256_0

/-- Which column of the result a row of page `j` is summed into: one where it is that column, zero elsewhere. -/
def sel (j : BitVec 32) : FVec F S128x128 .bf16 :=
  truncf .bf16 (select (cmpi .eq (iota .tc S128x128 32 [1] iota_S128x128_d1_w32) (addi (broadcast S128x128 j) k0_pay3))
    (broadcast S128x128 (Scalar.ofBits .f32 0x3F800000#32)) (broadcast S128x128 (Scalar.ofBits .f32 0x00000000#32))) bitsLt_bf16_f32

/-- A page's rows by their weights. -/
def weighted (p : Vec F S1x1x1x4x64x128 .f32) (w : Vec F S1x128 .f32) : FVec F S256x128 .f32 :=
  mulf (shapeCast S256x128 (shapeCast S4x64x128 p shapeCasts_S1x1x1x4x64x128_S4x64x128) shapeCasts_S4x64x128_S256x128)
    (broadcastTo S256x128 w broadcasts_S1x128_S256x128)

/-- One page added: the weighted rows' rounded part and what rounding left, each through the page's columns. -/
def addPage (s : FVec F S128x128 .bf16) (y acc : FVec F S256x128 .f32) : FVec F S256x128 .f32 :=
  addf (addf acc (matmul dot_S256x128_S128x128_S256x128_1_0_0_1_n_n none (truncf .bf16 y bitsLt_bf16_f32) s (constant S256x128 .f32 0x00000000#32)))
    (matmul dot_S256x128_S128x128_S256x128_1_0_0_1_n_n none
      (truncf .bf16 (subf y (extf .f32 (truncf .bf16 y bitsLt_bf16_f32) bitsLt_bf16_f32)) bitsLt_bf16_f32) s (constant S256x128 .f32 0x00000000#32))

/-- The first `n` pages added up. -/
def pooled (p : ℕ → Vec F S1x1x1x4x64x128 .f32) (w : Vec F S1x128 .f32) : ℕ → FVec F S256x128 .f32
  | 0 => broadcast S256x128 (Scalar.ofBits .f32 0x00000000#32)
  | n + 1 => addPage (sel (BitVec.ofNat 32 (4 * n))) (weighted (p n) w) (pooled p w n)

/-- The 32 pages of a point by their number. -/
def pages (x0 x1 x2 x3 x4 x5 x6 x7 x8 x9 x10 x11 x12 x13 x14 x15 x16 x17 x18 x19 x20 x21 x22 x23 x24 x25 x26 x27 x28 x29 x30 x31 : Vec F S1x1x2x4x64x128 .f32) : ℕ → Vec F S1x1x2x4x64x128 .f32
  | 0 => x0 | 1 => x1 | 2 => x2 | 3 => x3 | 4 => x4 | 5 => x5 | 6 => x6 | 7 => x7 | 8 => x8 | 9 => x9 | 10 => x10 | 11 => x11 | 12 => x12 | 13 => x13 | 14 => x14 | 15 => x15 | 16 => x16 | 17 => x17 | 18 => x18 | 19 => x19 | 20 => x20 | 21 => x21 | 22 => x22 | 23 => x23 | 24 => x24 | 25 => x25 | 26 => x26 | 27 => x27 | 28 => x28 | 29 => x29 | 30 => x30 | _ => x31

/-- The block as the body leaves it: the pooled keys above the pooled values. -/
def pool (p : ℕ → Vec F S1x1x2x4x64x128 .f32) (w : Vec F S2x128 .f32) : Vec F S1x512x128 .f32 :=
  View.canon [
    ⟨rLow, shapeCast S1x256x128 (pooled (fun n => View.ld (p n) rVals) (View.ld w rValW) 32) shapeCasts_S256x128_S1x256x128⟩,
    ⟨rUp, shapeCast S1x256x128 (pooled (fun n => View.ld (p n) rKeys) (View.ld w rKeyW) 32) shapeCasts_S256x128_S1x256x128⟩]

/-- The two halves leave no entry of the block unwritten. -/
theorem halves_cover (u l : Vec F S1x256x128 .f32) (y : S1x512x128.Idx) :
    ∃ pc ∈ ([⟨rLow, l⟩, ⟨rUp, u⟩] : List (View.Piece (Elt F) S1x512x128 .f32)), y ∈ pc.1.set :=
  View.cover_of_tiled [⟨rLow, l⟩, ⟨rUp, u⟩] S1x256x128.size (by rfl) y

set_option maxHeartbeats 20000000 in
/-- One run of the body from any contents of its result: the pages, the weights and the table are kept, the block ends at `pool` of them. -/
theorem body_run (c : Dev nD) (i : grid0.Coords) (arg3 : Memref sig .tc .vmem S1x1x2x4x64x128 .f32) (harg3 : arg3.IsWhole) (arg4 : Memref sig .tc .vmem S1x1x2x4x64x128 .f32) (harg4 : arg4.IsWhole) (arg5 : Memref sig .tc .vmem S1x1x2x4x64x128 .f32) (harg5 : arg5.IsWhole) (arg6 : Memref sig .tc .vmem S1x1x2x4x64x128 .f32) (harg6 : arg6.IsWhole) (arg7 : Memref sig .tc .vmem S1x1x2x4x64x128 .f32) (harg7 : arg7.IsWhole) (arg8 : Memref sig .tc .vmem S1x1x2x4x64x128 .f32) (harg8 : arg8.IsWhole) (arg9 : Memref sig .tc .vmem S1x1x2x4x64x128 .f32) (harg9 : arg9.IsWhole) (arg10 : Memref sig .tc .vmem S1x1x2x4x64x128 .f32) (harg10 : arg10.IsWhole) (arg11 : Memref sig .tc .vmem S1x1x2x4x64x128 .f32) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x1x2x4x64x128 .f32) (harg28 : arg28.IsWhole) (arg29 : Memref sig .tc .vmem S1x1x2x4x64x128 .f32) (harg29 : arg29.IsWhole) (arg30 : Memref sig .tc .vmem S1x1x2x4x64x128 .f32) (harg30 : arg30.IsWhole) (arg31 : Memref sig .tc .vmem S1x1x2x4x64x128 .f32) (harg31 : arg31.IsWhole) (arg32 : Memref sig .tc .vmem S1x1x2x4x64x128 .f32) (harg32 : arg32.IsWhole) (arg33 : Memref sig .tc .vmem S1x1x2x4x64x128 .f32) (harg33 : arg33.IsWhole) (arg34 : Memref sig .tc .vmem S1x1x2x4x64x128 .f32) (harg34 : arg34.IsWhole) (arg35 : Memref sig .tc .vmem S2x128 .f32) (harg35 : arg35.IsWhole) (arg36 : Memref sig .tc .vmem S1x512x128 .f32) (harg36 : arg36.IsWhole)
    (x0 x1 x2 x3 x4 x5 x6 x7 x8 x9 x10 x11 x12 x13 x14 x15 x16 x17 x18 x19 x20 x21 x22 x23 x24 x25 x26 x27 x28 x29 x30 x31 : Vec F S1x1x2x4x64x128 .f32) (w : Vec F S2x128 .f32) (tab : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare w ∗ (∃ d, owns (c : Thread nD τ) arg36 fullShare d) ∗ tbPt0 c tbM0_0 tab
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare w
            ∗ owns (c : Thread nD τ) arg36 fullShare (pool (pages x0 x1 x2 x3 x4 x5 x6 x7 x8 x9 x10 x11 x12 x13 x14 x15 x16 x17 x18 x19 x20 x21 x22 x23 x24 x25 x26 x27 x28 x29 x30 x31) w) ∗ tbPt0 c tbM0_0 tab) -∗ K ⟨⟩))
      ⊢ wp frame (wpE (defs₀ (F := F)) Variants.none c none) E
        (cc0_nsa_cmp_pool i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_nsa_cmp_pool_eq_skeleton]; unfold cc0_nsa_cmp_pool_skel
  simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%d, %f, -, HO⟩, HT, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [HO]
  · iexists _; isplitr; swap; · iexact HO
    ipureintro
    exact View.read_writes_eq_canon _ _ _ (halves_cover _ _)
  iexact HT

end Cert.Proof.CmpPoolIdealRun

end
-- ==== Proof.CmpPoolIdealLaunch.lean ====
/- The pooling call at the ideal values: the whole launch. Every point of its grid runs the body on that point's 32 pages, under the side condition
   that each page the table names lies in the pool. -/
module

public import proofs.«01_k».proof.Proof.CmpPoolIdealRun
public import Idealize.ShloMosaic.Lib.Claim

@[expose] public section

set_option maxRecDepth 16384

noncomputable section

namespace Cert.Proof.CmpPoolIdealRun

open Cert.CmpPoolIdeal Cert.CmpPoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pages of a point, as the region finds them. -/
def pagesAt (hO : Ok m) (c : Dev nD) (t : Fin (cfgM m hO).N) : ℕ → Vec F S1x1x2x4x64x128 .f32 :=
  pages (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t)

/-- What each window's buffer holds after the body at a point: its block, and the last window the pooled pages. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => pool (pagesAt m hO c t) (iblk m hO c 32 t)
    | ⟨_ + 34, h⟩ => absurd h (Nat.not_lt.2 (Nat.le_add_left _ _))
  Φ _ := iprop(Pipeline.ΦA spec0 c ∗ Pipeline.ΦT pre0 (tbl m) c)
  q w := Pipeline.shareOf spec0 w
  owed _ := 0

theorem arrays_eq (hO : Ok m) (c : Dev nD) (w : Fin (cfgM m hO).W) : (dats m hO 0 c).A w = V m c (Pipeline.arrRef spec0 w) := by
  dsimp only [dats]

theorem after33 (hO : Ok m) (c : Dev nD) (t : Fin (cfgM m hO).N) :
    (dats m hO 0 c).after 33 t = pool (pagesAt m hO c t) (iblk m hO c 32 t) := by dsimp only [dats]; try rfl

theorem after0 (hO : Ok m) (c : Dev nD) (t : Fin (cfgM m hO).N) : (dats m hO 0 c).after 0 t = iblk m hO c 0 t := by dsimp only [dats]; try rfl
theorem before0 (hO : Ok m) (c : Dev nD) (t : Fin (cfgM m hO).N) (d) : (dats m hO 0 c).before 0 t d = iblk m hO c 0 t :=
  before0_0_of m hO (dats m hO 0 c) (arrays_eq m hO c 0) (after0 m hO c) t d
theorem after1 (hO : Ok m) (c : Dev nD) (t : Fin (cfgM m hO).N) : (dats m hO 0 c).after 1 t = iblk m hO c 1 t := by dsimp only [dats]; try rfl
theorem before1 (hO : Ok m) (c : Dev nD) (t : Fin (cfgM m hO).N) (d) : (dats m hO 0 c).before 1 t d = iblk m hO c 1 t :=
  before0_1_of m hO (dats m hO 0 c) (arrays_eq m hO c 1) (after1 m hO c) t d
theorem after2 (hO : Ok m) (c : Dev nD) (t : Fin (cfgM m hO).N) : (dats m hO 0 c).after 2 t = iblk m hO c 2 t := by dsimp only [dats]; try rfl
theorem before2 (hO : Ok m) (c : Dev nD) (t : Fin (cfgM m hO).N) (d) : (dats m hO 0 c).before 2 t d = iblk m hO c 2 t :=
  before0_2_of m hO (dats m hO 0 c) (arrays_eq m hO c 2) (after2 m hO c) t d
theorem after3 (hO : Ok m) (c : Dev nD) (t : Fin (cfgM m hO).N) : (dats m hO 0 c).after 3 t = iblk m hO c 3 t := by dsimp only [dats]; try rfl
theorem before3 (hO : Ok m) (c : Dev nD) (t : Fin (cfgM m hO).N) (d) : (dats m hO 0 c).before 3 t d = iblk m hO c 3 t :=
  before0_3_of m hO (dats m hO 0 c) (arrays_eq m hO c 3) (after3 m hO c) t d
theorem after4 (hO : Ok m) (c : Dev nD) (t : Fin (cfgM m hO).N) : (dats m hO 0 c).after 4 t = iblk m hO c 4 t := by dsimp only [dats]; try rfl
theorem before4 (hO : Ok m) (c : Dev nD) (t : Fin (cfgM m hO).N) (d) : (dats m hO 0 c).before 4 t d = iblk m hO c 4 t :=
  before0_4_of m hO (dats m hO 0 c) (arrays_eq m hO c 4) (after4 m hO c) t d
theorem after5 (hO : Ok m) (c : Dev nD) (t : Fin (cfgM m hO).N) : (dats m hO 0 c).after 5 t = iblk m hO c 5 t := by dsimp only [dats]; try rfl
theorem before5 (hO : Ok m) (c : Dev nD) (t : Fin (cfgM m hO).N) (d) : (dats m hO 0 c).before 5 t d = iblk m hO c 5 t :=
  before0_5_of m hO (dats m hO 0 c) (arrays_eq m hO c 5) (after5 m hO c) t d
theorem after6 (hO : Ok m) (c : Dev nD) (t : Fin (cfgM m hO).N) : (dats m hO 0 c).after 6 t = iblk m hO c 6 t := by dsimp only [dats]; try rfl
theorem before6 (hO : Ok m) (c : Dev nD) (t : Fin (cfgM m hO).N) (d) : (dats m hO 0 c).before 6 t d = iblk m hO c 6 t :=
  before0_6_of m hO (dats m hO 0 c) (arrays_eq m hO c 6) (after6 m hO c) t d
theorem after7 (hO : Ok m) (c : Dev nD) (t : Fin (cfgM m hO).N) : (dats m hO 0 c).after 7 t = iblk m hO c 7 t := by dsimp only [dats]; try rfl
theorem before7 (hO : Ok m) (c : Dev nD) (t : Fin (cfgM m hO).N) (d) : (dats m hO 0 c).before 7 t d = iblk m hO c 7 t :=
  before0_7_of m hO (dats m hO 0 c) (arrays_eq m hO c 7) (after7 m hO c) t d
theorem after8 (hO : Ok m) (c : Dev nD) (t : Fin (cfgM m hO).N) : (dats m hO 0 c).after 8 t = iblk m hO c 8 t := by dsimp only [dats]; try rfl
theorem before8 (hO : Ok m) (c : Dev nD) (t : Fin (cfgM m hO).N) (d) : (dats m hO 0 c).before 8 t d = iblk m hO c 8 t :=
  before0_8_of m hO (dats m hO 0 c) (arrays_eq m hO c 8) (after8 m hO c) t d
theorem after9 (hO : Ok m) (c : Dev nD) (t : Fin (cfgM m hO).N) : (dats m hO 0 c).after 9 t = iblk m hO c 9 t := by dsimp only [dats]; try rfl
theorem before9 (hO : Ok m) (c : Dev nD) (t : Fin (cfgM m hO).N) (d) : (dats m hO 0 c).before 9 t d = iblk m hO c 9 t :=
  before0_9_of m hO (dats m hO 0 c) (arrays_eq m hO c 9) (after9 m hO c) t d
theorem after10 (hO : Ok m) (c : Dev nD) (t : Fin (cfgM m hO).N) : (dats m hO 0 c).after 10 t = iblk m hO c 10 t := by dsimp only [dats]; try rfl
theorem before10 (hO : Ok m) (c : Dev nD) (t : Fin (cfgM m hO).N) (d) : (dats m hO 0 c).before 10 t d = iblk m hO c 10 t :=
  before0_10_of m hO (dats m hO 0 c) (arrays_eq m hO c 10) (after10 m hO c) t d
theorem after11 (hO : Ok m) (c : Dev nD) (t : Fin (cfgM m hO).N) : (dats m hO 0 c).after 11 t = iblk m hO c 11 t := by dsimp only [dats]; try rfl
theorem before11 (hO : Ok m) (c : Dev nD) (t : Fin (cfgM m hO).N) (d) : (dats m hO 0 c).before 11 t d = iblk m hO c 11 t :=
  before0_11_of m hO (dats m hO 0 c) (arrays_eq m hO c 11) (after11 m hO c) t d
theorem after12 (hO : Ok m) (c : Dev nD) (t : Fin (cfgM m hO).N) : (dats m hO 0 c).after 12 t = iblk m hO c 12 t := by dsimp only [dats]; try rfl
theorem before12 (hO : Ok m) (c : Dev nD) (t : Fin (cfgM m hO).N) (d) : (dats m hO 0 c).before 12 t d = iblk m hO c 12 t :=
  before0_12_of m hO (dats m hO 0 c) (arrays_eq m hO c 12) (after12 m hO c) t d
theorem after13 (hO : Ok m) (c : Dev nD) (t : Fin (cfgM m hO).N) : (dats m hO 0 c).after 13 t = iblk m hO c 13 t := by dsimp only [dats]; try rfl
theorem before13 (hO : Ok m) (c : Dev nD) (t : Fin (cfgM m hO).N) (d) : (dats m hO 0 c).before 13 t d = iblk m hO c 13 t :=
  before0_13_of m hO (dats m hO 0 c) (arrays_eq m hO c 13) (after13 m hO c) t d
theorem after14 (hO : Ok m) (c : Dev nD) (t : Fin (cfgM m hO).N) : (dats m hO 0 c).after 14 t = iblk m hO c 14 t := by dsimp only [dats]; try rfl
theorem before14 (hO : Ok m) (c : Dev nD) (t : Fin (cfgM m hO).N) (d) : (dats m hO 0 c).before 14 t d = iblk m hO c 14 t :=
  before0_14_of m hO (dats m hO 0 c) (arrays_eq m hO c 14) (after14 m hO c) t d
theorem after15 (hO : Ok m) (c : Dev nD) (t : Fin (cfgM m hO).N) : (dats m hO 0 c).after 15 t = iblk m hO c 15 t := by dsimp only [dats]; try rfl
theorem before15 (hO : Ok m) (c : Dev nD) (t : Fin (cfgM m hO).N) (d) : (dats m hO 0 c).before 15 t d = iblk m hO c 15 t :=
  before0_15_of m hO (dats m hO 0 c) (arrays_eq m hO c 15) (after15 m hO c) t d
theorem after16 (hO : Ok m) (c : Dev nD) (t : Fin (cfgM m hO).N) : (dats m hO 0 c).after 16 t = iblk m hO c 16 t := by dsimp only [dats]; try rfl
theorem before16 (hO : Ok m) (c : Dev nD) (t : Fin (cfgM m hO).N) (d) : (dats m hO 0 c).before 16 t d = iblk m hO c 16 t :=
  before0_16_of m hO (dats m hO 0 c) (arrays_eq m hO c 16) (after16 m hO c) t d
theorem after17 (hO : Ok m) (c : Dev nD) (t : Fin (cfgM m hO).N) : (dats m hO 0 c).after 17 t = iblk m hO c 17 t := by dsimp only [dats]; try rfl
theorem before17 (hO : Ok m) (c : Dev nD) (t : Fin (cfgM m hO).N) (d) : (dats m hO 0 c).before 17 t d = iblk m hO c 17 t :=
  before0_17_of m hO (dats m hO 0 c) (arrays_eq m hO c 17) (after17 m hO c) t d
theorem after18 (hO : Ok m) (c : Dev nD) (t : Fin (cfgM m hO).N) : (dats m hO 0 c).after 18 t = iblk m hO c 18 t := by dsimp only [dats]; try rfl
theorem before18 (hO : Ok m) (c : Dev nD) (t : Fin (cfgM m hO).N) (d) : (dats m hO 0 c).before 18 t d = iblk m hO c 18 t :=
  before0_18_of m hO (dats m hO 0 c) (arrays_eq m hO c 18) (after18 m hO c) t d
theorem after19 (hO : Ok m) (c : Dev nD) (t : Fin (cfgM m hO).N) : (dats m hO 0 c).after 19 t = iblk m hO c 19 t := by dsimp only [dats]; try rfl
theorem before19 (hO : Ok m) (c : Dev nD) (t : Fin (cfgM m hO).N) (d) : (dats m hO 0 c).before 19 t d = iblk m hO c 19 t :=
  before0_19_of m hO (dats m hO 0 c) (arrays_eq m hO c 19) (after19 m hO c) t d
theorem after20 (hO : Ok m) (c : Dev nD) (t : Fin (cfgM m hO).N) : (dats m hO 0 c).after 20 t = iblk m hO c 20 t := by dsimp only [dats]; try rfl
theorem before20 (hO : Ok m) (c : Dev nD) (t : Fin (cfgM m hO).N) (d) : (dats m hO 0 c).before 20 t d = iblk m hO c 20 t :=
  before0_20_of m hO (dats m hO 0 c) (arrays_eq m hO c 20) (after20 m hO c) t d
theorem after21 (hO : Ok m) (c : Dev nD) (t : Fin (cfgM m hO).N) : (dats m hO 0 c).after 21 t = iblk m hO c 21 t := by dsimp only [dats]; try rfl
theorem before21 (hO : Ok m) (c : Dev nD) (t : Fin (cfgM m hO).N) (d) : (dats m hO 0 c).before 21 t d = iblk m hO c 21 t :=
  before0_21_of m hO (dats m hO 0 c) (arrays_eq m hO c 21) (after21 m hO c) t d
theorem after22 (hO : Ok m) (c : Dev nD) (t : Fin (cfgM m hO).N) : (dats m hO 0 c).after 22 t = iblk m hO c 22 t := by dsimp only [dats]; try rfl
theorem before22 (hO : Ok m) (c : Dev nD) (t : Fin (cfgM m hO).N) (d) : (dats m hO 0 c).before 22 t d = iblk m hO c 22 t :=
  before0_22_of m hO (dats m hO 0 c) (arrays_eq m hO c 22) (after22 m hO c) t d
theorem after23 (hO : Ok m) (c : Dev nD) (t : Fin (cfgM m hO).N) : (dats m hO 0 c).after 23 t = iblk m hO c 23 t := by dsimp only [dats]; try rfl
theorem before23 (hO : Ok m) (c : Dev nD) (t : Fin (cfgM m hO).N) (d) : (dats m hO 0 c).before 23 t d = iblk m hO c 23 t :=
  before0_23_of m hO (dats m hO 0 c) (arrays_eq m hO c 23) (after23 m hO c) t d
theorem after24 (hO : Ok m) (c : Dev nD) (t : Fin (cfgM m hO).N) : (dats m hO 0 c).after 24 t = iblk m hO c 24 t := by dsimp only [dats]; try rfl
theorem before24 (hO : Ok m) (c : Dev nD) (t : Fin (cfgM m hO).N) (d) : (dats m hO 0 c).before 24 t d = iblk m hO c 24 t :=
  before0_24_of m hO (dats m hO 0 c) (arrays_eq m hO c 24) (after24 m hO c) t d
theorem after25 (hO : Ok m) (c : Dev nD) (t : Fin (cfgM m hO).N) : (dats m hO 0 c).after 25 t = iblk m hO c 25 t := by dsimp only [dats]; try rfl
theorem before25 (hO : Ok m) (c : Dev nD) (t : Fin (cfgM m hO).N) (d) : (dats m hO 0 c).before 25 t d = iblk m hO c 25 t :=
  before0_25_of m hO (dats m hO 0 c) (arrays_eq m hO c 25) (after25 m hO c) t d
theorem after26 (hO : Ok m) (c : Dev nD) (t : Fin (cfgM m hO).N) : (dats m hO 0 c).after 26 t = iblk m hO c 26 t := by dsimp only [dats]; try rfl
theorem before26 (hO : Ok m) (c : Dev nD) (t : Fin (cfgM m hO).N) (d) : (dats m hO 0 c).before 26 t d = iblk m hO c 26 t :=
  before0_26_of m hO (dats m hO 0 c) (arrays_eq m hO c 26) (after26 m hO c) t d
theorem after27 (hO : Ok m) (c : Dev nD) (t : Fin (cfgM m hO).N) : (dats m hO 0 c).after 27 t = iblk m hO c 27 t := by dsimp only [dats]; try rfl
theorem before27 (hO : Ok m) (c : Dev nD) (t : Fin (cfgM m hO).N) (d) : (dats m hO 0 c).before 27 t d = iblk m hO c 27 t :=
  before0_27_of m hO (dats m hO 0 c) (arrays_eq m hO c 27) (after27 m hO c) t d
theorem after28 (hO : Ok m) (c : Dev nD) (t : Fin (cfgM m hO).N) : (dats m hO 0 c).after 28 t = iblk m hO c 28 t := by dsimp only [dats]; try rfl
theorem before28 (hO : Ok m) (c : Dev nD) (t : Fin (cfgM m hO).N) (d) : (dats m hO 0 c).before 28 t d = iblk m hO c 28 t :=
  before0_28_of m hO (dats m hO 0 c) (arrays_eq m hO c 28) (after28 m hO c) t d
theorem after29 (hO : Ok m) (c : Dev nD) (t : Fin (cfgM m hO).N) : (dats m hO 0 c).after 29 t = iblk m hO c 29 t := by dsimp only [dats]; try rfl
theorem before29 (hO : Ok m) (c : Dev nD) (t : Fin (cfgM m hO).N) (d) : (dats m hO 0 c).before 29 t d = iblk m hO c 29 t :=
  before0_29_of m hO (dats m hO 0 c) (arrays_eq m hO c 29) (after29 m hO c) t d
theorem after30 (hO : Ok m) (c : Dev nD) (t : Fin (cfgM m hO).N) : (dats m hO 0 c).after 30 t = iblk m hO c 30 t := by dsimp only [dats]; try rfl
theorem before30 (hO : Ok m) (c : Dev nD) (t : Fin (cfgM m hO).N) (d) : (dats m hO 0 c).before 30 t d = iblk m hO c 30 t :=
  before0_30_of m hO (dats m hO 0 c) (arrays_eq m hO c 30) (after30 m hO c) t d
theorem after31 (hO : Ok m) (c : Dev nD) (t : Fin (cfgM m hO).N) : (dats m hO 0 c).after 31 t = iblk m hO c 31 t := by dsimp only [dats]; try rfl
theorem before31 (hO : Ok m) (c : Dev nD) (t : Fin (cfgM m hO).N) (d) : (dats m hO 0 c).before 31 t d = iblk m hO c 31 t :=
  before0_31_of m hO (dats m hO 0 c) (arrays_eq m hO c 31) (after31 m hO c) t d
theorem after32 (hO : Ok m) (c : Dev nD) (t : Fin (cfgM m hO).N) : (dats m hO 0 c).after 32 t = iblk m hO c 32 t := by dsimp only [dats]; try rfl
theorem before32 (hO : Ok m) (c : Dev nD) (t : Fin (cfgM m hO).N) (d) : (dats m hO 0 c).before 32 t d = iblk m hO c 32 t :=
  before0_32_of m hO (dats m hO 0 c) (arrays_eq m hO c 32) (after32 m hO c) t d

/-- What the body is given at a point, -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d)))

/-- and what it gives back. -/
def returned (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t))

set_option maxHeartbeats 8000000 in
/-- The body at any point, by its one run on that point's pages. -/
theorem body_at (hO : Ok m) (c : Dev nD) (t : Fin (cfgM m hO).N) :
    given m hO c t ⊢ wp frame (wpE (defs₀ (F := F)) Variants.none c none) Set.univ (bodyAt0 (adm m hO) t) (fun _ => returned m hO c t) := by
  unfold given returned bodyAt0
  simp only [before0, before1, before2, before3, before4, before5, before6, before7, before8, before9, before10, before11, before12, before13, before14, before15, before16, before17, before18, before19, before20, before21, before22, before23, before24, before25, before26, before27, before28, before29, before30, before31, before32]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9, after10, after11, after12, after13, after14, after15, after16, after17, after18, after19, after20, after21, after22, after23, after24, after25, after26, after27, after28, after29, after30, after31, after32, after33]
  rw [show (dats m hO 0 c).Φ t.castSucc = iprop(Pipeline.ΦA spec0 c ∗ Pipeline.ΦT pre0 (tbl m) c) from rfl, PhiT0_eq]
  unfold pagesAt
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [HT]; · iexact HT
  iintro ⟨H0, H1, H2, H3, H4, H5, H6, H7, H8, H9, H10, H11, H12, H13, H14, H15, H16, H17, H18, H19, H20, H21, H22, H23, H24, H25, H26, H27, H28, H29, H30, H31, H32, H33, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 8000000 in
/-- That triple as the launch asks for it. -/
theorem body_obligation (hO : Ok m) (c : Dev nD) :
    BodyObligation (dats (F := F) m hO 0 c) (defs₀ (F := F)) Variants.none () Set.univ := fun t => by
  rw [bigSep_W0, bigSep_W0, body_row m hO]
  exact triple_restated (body_at m hO c t) rfl .rfl fun _ => .rfl

-- the library's run is matched against the statement by unfolding plain definitions in its implicit arguments' types
set_option backward.isDefEq.respectTransparency.types false in
/-- Every execution ends, the staged arrays as `dats` says and the counters at zero. -/
theorem launch_run (hO : Ok m) : θ_run defs (onTc (τ := τ) (main (F := F))) (s₀ m ρ) (fun r =>
    (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := arrays_eq m hO) (hpf := V_pre m)
    (hΦ := fun _ _ => rfl)

/-- The arguments end as launched and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩)
    (launch_run m ρ hO)

/-- The pooled array ends at what the points left in it. -/
theorem run (hO : Ok m) : θ_run defs (onTc (τ := τ) (main (F := F))) ⟨m, fun _ => 0, ρ⟩ (fun r => ∀ c : Dev nD,
      r.2.mem ((c.tc : Thread nD τ).loc main_v4) = (dats m hO 0 c).arrAt 33 (cfgM m hO).N) :=
  (θ_run defs _ _).mono (fun _ h c => (h.1 c).1 (33 : Fin 34)) (launch_run m ρ hO)

end Cert.Proof.CmpPoolIdealRun

end
-- ==== Proof.CmpPoolPages.lean ====
/- The pages that a step of the pooling reads: where the table points, and what the step's windows hold of the cache. -/
module

public import proofs.«01_k».proof.Defs
public import proofs.«01_k».proof.Proof.CmpPoolIdealLaunch
public import Idealize.ShloMosaic.Lib.Pipeline.ValueKit
public import Idealize.ShloMosaic.Lib.Pointwise

@[expose] public section

set_option maxRecDepth 16384

noncomputable section

namespace Cert.Proof.CmpPoolPages

open Idealize.ShloMosaic Idealize.SL.Sem Idealize.ShloMosaic.TcCoe
open Cert.CmpPoolIdeal Cert.CmpPoolIdeal.Gen Cert.Proof.CmpPoolIdealRun
open Idealize.ShloMosaic.Pipeline (Dat)

variable (m : (ℓ : Loc nD τ sig) → Buf (Elt Ideal) ℓ) (ρ : Dev nD → PrngReg)

/-- The block index of a page in the pool stays in the pool. -/
theorem page_in {v : BitVec 32} (h : v.toNat < 1280) (a : Fin 6) :
    ((![(0#32).toNat, v.toNat, (0#32).toNat, (0#32).toNat, (0#32).toNat, (0#32).toNat] : Fin 6 → ℕ) a + 1) * S1x1x2x4x64x128.size a
      ≤ S2x1280x2x4x64x128.size a := by
  fin_cases a
  · show (0 + 1) * 1 ≤ 2; omega
  · show (v.toNat + 1) * 1 ≤ 1280; omega
  · show (0 + 1) * 2 ≤ 2; omega
  · show (0 + 1) * 4 ≤ 4; omega
  · show (0 + 1) * 64 ≤ 64; omega
  · show (0 + 1) * 128 ≤ 128; omega

set_option maxHeartbeats 4000000 in
/-- So a table of pages of the pool meets the side condition. -/
theorem ok_of_range (h : ∀ x, (m ((0 : Dev nD).tc.loc main_arg1) x : BitVec 32).toNat < 1280) : Ok m := by
  have h' : ∀ x, (tbl m 0 x : BitVec 32).toNat < 1280 := fun x => by
    have e : tbl m 0 = m ((0 : Dev nD).tc.loc main_arg1) := V_main_arg1 m 0
    rw [e]; exact h x
  unfold Ok ok0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨page_in (h' _), .inl rfl⟩

/-- Where a step reads the table: its row's own words, in order. -/
theorem word_at : ∀ (t : Fin grid0.N) (n : Fin 32),
    k0_off1 (grid0.coords t) (BitVec.ofNat 32 n.val) = ![t.val / 4, t.val % 4 * 32 + n.val] := by decide +kernel

theorem word_emb (t : Fin grid0.N) (n : Fin 32) (h1 : ∀ a, k0_off1 (grid0.coords t) (BitVec.ofNat 32 n.val) a + S1x1.size a ≤ S8x128.size a)
    (z : S1x1.Idx) :
    (Rect.unit (s := S8x128) (k0_off1 (grid0.coords t) (BitVec.ofNat 32 n.val)) S1x1.size h1).emb z
      = ix2 ⟨t.val / 4, by have : t.val < 32 := t.isLt; omega⟩ ⟨t.val % 4 * 32 + n.val, by omega⟩ := by
  funext a
  refine Fin.ext ?_
  rw [Rect.emb_apply]
  refine (congrArg (fun o => o + 1 * (z a).val) (congrFun (word_at t n) a)).trans ?_
  have hz : (z a).val < S1x1.size a := (z a).isLt
  fin_cases a
  · have h0 : (z 0).val < 1 := hz
    show t.val / 4 + 1 * (z 0).val = t.val / 4; omega
  · have h0 : (z 1).val < 1 := hz
    show t.val % 4 * 32 + n.val + 1 * (z 1).val = t.val % 4 * 32 + n.val; omega

/-- The page a step's window is over. -/
def pageOf (m : (ℓ : Loc nD τ sig) → Buf (Elt Ideal) ℓ) (hr : ∀ x, (m ((0 : Dev nD).tc.loc main_arg1) x : BitVec 32).toNat < 1280) (t : Fin grid0.N) (n : Fin 32) : Fin 1280 :=
  ⟨(m ((0 : Dev nD).tc.loc main_arg1) (ix2 ⟨t.val / 4, by have : t.val < 32 := t.isLt; omega⟩ ⟨t.val % 4 * 32 + n.val, by omega⟩) : BitVec 32).toNat, hr _⟩

theorem index_of (hr : ∀ x, (m ((0 : Dev nD).tc.loc main_arg1) x : BitVec 32).toNat < 1280) (t : Fin grid0.N) (n : Fin 32)
    (h1 : ∀ a, k0_off1 (grid0.coords t) (BitVec.ofNat 32 n.val) a + S1x1.size a ≤ S8x128.size a) (h2) :
    (![0, BitVec.toNat ((tbl m).at 0 (Rect.unit (s := S8x128) (k0_off1 (grid0.coords t) (BitVec.ofNat 32 n.val)) S1x1.size h1) h2), 0, 0, 0, 0] : Fin 6 → ℕ)
      = ![0, (pageOf m hr t n).val, 0, 0, 0, 0] := by
  refine congrArg (fun x : ℕ => (![0, x, 0, 0, 0, 0] : Fin 6 → ℕ)) ?_
  show BitVec.toNat (V m 0 main_arg1 _) = _
  rw [V_main_arg1]
  exact congrArg (fun x => BitVec.toNat (m ((0 : Dev nD).tc.loc main_arg1) x)) (word_emb t n h1 _)

section Pages

variable (hO : Ok m) (hr : ∀ x, (m ((0 : Dev nD).tc.loc main_arg1) x : BitVec 32).toNat < 1280) (c : Dev nD)

/-- Page 0 of a step. -/
theorem page0_at (t : Fin grid0.N) (kv : Fin 2) (h : Fin 4) (d : Fin 64) (k : Fin 128) :
    iblk m hO c 0 t (ix6 0 0 kv h d k) = V m c main_v0 (ix6 0 (pageOf m hr t 0) kv h d k) := by
  blk_simp [iblk]
  congr 1
  have e : ((cfgM m hO).win 0).index t = ![0, (pageOf m hr t 0).val, 0, 0, 0, 0] := index_of m hr t 0 _ _
  blk_ext [e]

/-- Page 1 of a step. -/
theorem page1_at (t : Fin grid0.N) (kv : Fin 2) (h : Fin 4) (d : Fin 64) (k : Fin 128) :
    iblk m hO c 1 t (ix6 0 0 kv h d k) = V m c main_v0 (ix6 0 (pageOf m hr t 1) kv h d k) := by
  blk_simp [iblk]
  congr 1
  have e : ((cfgM m hO).win 1).index t = ![0, (pageOf m hr t 1).val, 0, 0, 0, 0] := index_of m hr t 1 _ _
  blk_ext [e]

/-- Page 2 of a step. -/
theorem page2_at (t : Fin grid0.N) (kv : Fin 2) (h : Fin 4) (d : Fin 64) (k : Fin 128) :
    iblk m hO c 2 t (ix6 0 0 kv h d k) = V m c main_v0 (ix6 0 (pageOf m hr t 2) kv h d k) := by
  blk_simp [iblk]
  congr 1
  have e : ((cfgM m hO).win 2).index t = ![0, (pageOf m hr t 2).val, 0, 0, 0, 0] := index_of m hr t 2 _ _
  blk_ext [e]

/-- Page 3 of a step. -/
theorem page3_at (t : Fin grid0.N) (kv : Fin 2) (h : Fin 4) (d : Fin 64) (k : Fin 128) :
    iblk m hO c 3 t (ix6 0 0 kv h d k) = V m c main_v0 (ix6 0 (pageOf m hr t 3) kv h d k) := by
  blk_simp [iblk]
  congr 1
  have e : ((cfgM m hO).win 3).index t = ![0, (pageOf m hr t 3).val, 0, 0, 0, 0] := index_of m hr t 3 _ _
  blk_ext [e]

/-- Page 4 of a step. -/
theorem page4_at (t : Fin grid0.N) (kv : Fin 2) (h : Fin 4) (d : Fin 64) (k : Fin 128) :
    iblk m hO c 4 t (ix6 0 0 kv h d k) = V m c main_v0 (ix6 0 (pageOf m hr t 4) kv h d k) := by
  blk_simp [iblk]
  congr 1
  have e : ((cfgM m hO).win 4).index t = ![0, (pageOf m hr t 4).val, 0, 0, 0, 0] := index_of m hr t 4 _ _
  blk_ext [e]

/-- Page 5 of a step. -/
theorem page5_at (t : Fin grid0.N) (kv : Fin 2) (h : Fin 4) (d : Fin 64) (k : Fin 128) :
    iblk m hO c 5 t (ix6 0 0 kv h d k) = V m c main_v0 (ix6 0 (pageOf m hr t 5) kv h d k) := by
  blk_simp [iblk]
  congr 1
  have e : ((cfgM m hO).win 5).index t = ![0, (pageOf m hr t 5).val, 0, 0, 0, 0] := index_of m hr t 5 _ _
  blk_ext [e]

/-- Page 6 of a step. -/
theorem page6_at (t : Fin grid0.N) (kv : Fin 2) (h : Fin 4) (d : Fin 64) (k : Fin 128) :
    iblk m hO c 6 t (ix6 0 0 kv h d k) = V m c main_v0 (ix6 0 (pageOf m hr t 6) kv h d k) := by
  blk_simp [iblk]
  congr 1
  have e : ((cfgM m hO).win 6).index t = ![0, (pageOf m hr t 6).val, 0, 0, 0, 0] := index_of m hr t 6 _ _
  blk_ext [e]

/-- Page 7 of a step. -/
theorem page7_at (t : Fin grid0.N) (kv : Fin 2) (h : Fin 4) (d : Fin 64) (k : Fin 128) :
    iblk m hO c 7 t (ix6 0 0 kv h d k) = V m c main_v0 (ix6 0 (pageOf m hr t 7) kv h d k) := by
  blk_simp [iblk]
  congr 1
  have e : ((cfgM m hO).win 7).index t = ![0, (pageOf m hr t 7).val, 0, 0, 0, 0] := index_of m hr t 7 _ _
  blk_ext [e]

/-- Page 8 of a step. -/
theorem page8_at (t : Fin grid0.N) (kv : Fin 2) (h : Fin 4) (d : Fin 64) (k : Fin 128) :
    iblk m hO c 8 t (ix6 0 0 kv h d k) = V m c main_v0 (ix6 0 (pageOf m hr t 8) kv h d k) := by
  blk_simp [iblk]
  congr 1
  have e : ((cfgM m hO).win 8).index t = ![0, (pageOf m hr t 8).val, 0, 0, 0, 0] := index_of m hr t 8 _ _
  blk_ext [e]

/-- Page 9 of a step. -/
theorem page9_at (t : Fin grid0.N) (kv : Fin 2) (h : Fin 4) (d : Fin 64) (k : Fin 128) :
    iblk m hO c 9 t (ix6 0 0 kv h d k) = V m c main_v0 (ix6 0 (pageOf m hr t 9) kv h d k) := by
  blk_simp [iblk]
  congr 1
  have e : ((cfgM m hO).win 9).index t = ![0, (pageOf m hr t 9).val, 0, 0, 0, 0] := index_of m hr t 9 _ _
  blk_ext [e]

/-- Page 10 of a step. -/
theorem page10_at (t : Fin grid0.N) (kv : Fin 2) (h : Fin 4) (d : Fin 64) (k : Fin 128) :
    iblk m hO c 10 t (ix6 0 0 kv h d k) = V m c main_v0 (ix6 0 (pageOf m hr t 10) kv h d k) := by
  blk_simp [iblk]
  congr 1
  have e : ((cfgM m hO).win 10).index t = ![0, (pageOf m hr t 10).val, 0, 0, 0, 0] := index_of m hr t 10 _ _
  blk_ext [e]

/-- Page 11 of a step. -/
theorem page11_at (t : Fin grid0.N) (kv : Fin 2) (h : Fin 4) (d : Fin 64) (k : Fin 128) :
    iblk m hO c 11 t (ix6 0 0 kv h d k) = V m c main_v0 (ix6 0 (pageOf m hr t 11) kv h d k) := by
  blk_simp [iblk]
  congr 1
  have e : ((cfgM m hO).win 11).index t = ![0, (pageOf m hr t 11).val, 0, 0, 0, 0] := index_of m hr t 11 _ _
  blk_ext [e]

/-- Page 12 of a step. -/
theorem page12_at (t : Fin grid0.N) (kv : Fin 2) (h : Fin 4) (d : Fin 64) (k : Fin 128) :
    iblk m hO c 12 t (ix6 0 0 kv h d k) = V m c main_v0 (ix6 0 (pageOf m hr t 12) kv h d k) := by
  blk_simp [iblk]
  congr 1
  have e : ((cfgM m hO).win 12).index t = ![0, (pageOf m hr t 12).val, 0, 0, 0, 0] := index_of m hr t 12 _ _
  blk_ext [e]

/-- Page 13 of a step. -/
theorem page13_at (t : Fin grid0.N) (kv : Fin 2) (h : Fin 4) (d : Fin 64) (k : Fin 128) :
    iblk m hO c 13 t (ix6 0 0 kv h d k) = V m c main_v0 (ix6 0 (pageOf m hr t 13) kv h d k) := by
  blk_simp [iblk]
  congr 1
  have e : ((cfgM m hO).win 13).index t = ![0, (pageOf m hr t 13).val, 0, 0, 0, 0] := index_of m hr t 13 _ _
  blk_ext [e]

/-- Page 14 of a step. -/
theorem page14_at (t : Fin grid0.N) (kv : Fin 2) (h : Fin 4) (d : Fin 64) (k : Fin 128) :
    iblk m hO c 14 t (ix6 0 0 kv h d k) = V m c main_v0 (ix6 0 (pageOf m hr t 14) kv h d k) := by
  blk_simp [iblk]
  congr 1
  have e : ((cfgM m hO).win 14).index t = ![0, (pageOf m hr t 14).val, 0, 0, 0, 0] := index_of m hr t 14 _ _
  blk_ext [e]

/-- Page 15 of a step. -/
theorem page15_at (t : Fin grid0.N) (kv : Fin 2) (h : Fin 4) (d : Fin 64) (k : Fin 128) :
    iblk m hO c 15 t (ix6 0 0 kv h d k) = V m c main_v0 (ix6 0 (pageOf m hr t 15) kv h d k) := by
  blk_simp [iblk]
  congr 1
  have e : ((cfgM m hO).win 15).index t = ![0, (pageOf m hr t 15).val, 0, 0, 0, 0] := index_of m hr t 15 _ _
  blk_ext [e]

/-- Page 16 of a step. -/
theorem page16_at (t : Fin grid0.N) (kv : Fin 2) (h : Fin 4) (d : Fin 64) (k : Fin 128) :
    iblk m hO c 16 t (ix6 0 0 kv h d k) = V m c main_v0 (ix6 0 (pageOf m hr t 16) kv h d k) := by
  blk_simp [iblk]
  congr 1
  have e : ((cfgM m hO).win 16).index t = ![0, (pageOf m hr t 16).val, 0, 0, 0, 0] := index_of m hr t 16 _ _
  blk_ext [e]

/-- Page 17 of a step. -/
theorem page17_at (t : Fin grid0.N) (kv : Fin 2) (h : Fin 4) (d : Fin 64) (k : Fin 128) :
    iblk m hO c 17 t (ix6 0 0 kv h d k) = V m c main_v0 (ix6 0 (pageOf m hr t 17) kv h d k) := by
  blk_simp [iblk]
  congr 1
  have e : ((cfgM m hO).win 17).index t = ![0, (pageOf m hr t 17).val, 0, 0, 0, 0] := index_of m hr t 17 _ _
  blk_ext [e]

/-- Page 18 of a step. -/
theorem page18_at (t : Fin grid0.N) (kv : Fin 2) (h : Fin 4) (d : Fin 64) (k : Fin 128) :
    iblk m hO c 18 t (ix6 0 0 kv h d k) = V m c main_v0 (ix6 0 (pageOf m hr t 18) kv h d k) := by
  blk_simp [iblk]
  congr 1
  have e : ((cfgM m hO).win 18).index t = ![0, (pageOf m hr t 18).val, 0, 0, 0, 0] := index_of m hr t 18 _ _
  blk_ext [e]

/-- Page 19 of a step. -/
theorem page19_at (t : Fin grid0.N) (kv : Fin 2) (h : Fin 4) (d : Fin 64) (k : Fin 128) :
    iblk m hO c 19 t (ix6 0 0 kv h d k) = V m c main_v0 (ix6 0 (pageOf m hr t 19) kv h d k) := by
  blk_simp [iblk]
  congr 1
  have e : ((cfgM m hO).win 19).index t = ![0, (pageOf m hr t 19).val, 0, 0, 0, 0] := index_of m hr t 19 _ _
  blk_ext [e]

/-- Page 20 of a step. -/
theorem page20_at (t : Fin grid0.N) (kv : Fin 2) (h : Fin 4) (d : Fin 64) (k : Fin 128) :
    iblk m hO c 20 t (ix6 0 0 kv h d k) = V m c main_v0 (ix6 0 (pageOf m hr t 20) kv h d k) := by
  blk_simp [iblk]
  congr 1
  have e : ((cfgM m hO).win 20).index t = ![0, (pageOf m hr t 20).val, 0, 0, 0, 0] := index_of m hr t 20 _ _
  blk_ext [e]

/-- Page 21 of a step. -/
theorem page21_at (t : Fin grid0.N) (kv : Fin 2) (h : Fin 4) (d : Fin 64) (k : Fin 128) :
    iblk m hO c 21 t (ix6 0 0 kv h d k) = V m c main_v0 (ix6 0 (pageOf m hr t 21) kv h d k) := by
  blk_simp [iblk]
  congr 1
  have e : ((cfgM m hO).win 21).index t = ![0, (pageOf m hr t 21).val, 0, 0, 0, 0] := index_of m hr t 21 _ _
  blk_ext [e]

/-- Page 22 of a step. -/
theorem page22_at (t : Fin grid0.N) (kv : Fin 2) (h : Fin 4) (d : Fin 64) (k : Fin 128) :
    iblk m hO c 22 t (ix6 0 0 kv h d k) = V m c main_v0 (ix6 0 (pageOf m hr t 22) kv h d k) := by
  blk_simp [iblk]
  congr 1
  have e : ((cfgM m hO).win 22).index t = ![0, (pageOf m hr t 22).val, 0, 0, 0, 0] := index_of m hr t 22 _ _
  blk_ext [e]

/-- Page 23 of a step. -/
theorem page23_at (t : Fin grid0.N) (kv : Fin 2) (h : Fin 4) (d : Fin 64) (k : Fin 128) :
    iblk m hO c 23 t (ix6 0 0 kv h d k) = V m c main_v0 (ix6 0 (pageOf m hr t 23) kv h d k) := by
  blk_simp [iblk]
  congr 1
  have e : ((cfgM m hO).win 23).index t = ![0, (pageOf m hr t 23).val, 0, 0, 0, 0] := index_of m hr t 23 _ _
  blk_ext [e]

/-- Page 24 of a step. -/
theorem page24_at (t : Fin grid0.N) (kv : Fin 2) (h : Fin 4) (d : Fin 64) (k : Fin 128) :
    iblk m hO c 24 t (ix6 0 0 kv h d k) = V m c main_v0 (ix6 0 (pageOf m hr t 24) kv h d k) := by
  blk_simp [iblk]
  congr 1
  have e : ((cfgM m hO).win 24).index t = ![0, (pageOf m hr t 24).val, 0, 0, 0, 0] := index_of m hr t 24 _ _
  blk_ext [e]

/-- Page 25 of a step. -/
theorem page25_at (t : Fin grid0.N) (kv : Fin 2) (h : Fin 4) (d : Fin 64) (k : Fin 128) :
    iblk m hO c 25 t (ix6 0 0 kv h d k) = V m c main_v0 (ix6 0 (pageOf m hr t 25) kv h d k) := by
  blk_simp [iblk]
  congr 1
  have e : ((cfgM m hO).win 25).index t = ![0, (pageOf m hr t 25).val, 0, 0, 0, 0] := index_of m hr t 25 _ _
  blk_ext [e]

/-- Page 26 of a step. -/
theorem page26_at (t : Fin grid0.N) (kv : Fin 2) (h : Fin 4) (d : Fin 64) (k : Fin 128) :
    iblk m hO c 26 t (ix6 0 0 kv h d k) = V m c main_v0 (ix6 0 (pageOf m hr t 26) kv h d k) := by
  blk_simp [iblk]
  congr 1
  have e : ((cfgM m hO).win 26).index t = ![0, (pageOf m hr t 26).val, 0, 0, 0, 0] := index_of m hr t 26 _ _
  blk_ext [e]

/-- Page 27 of a step. -/
theorem page27_at (t : Fin grid0.N) (kv : Fin 2) (h : Fin 4) (d : Fin 64) (k : Fin 128) :
    iblk m hO c 27 t (ix6 0 0 kv h d k) = V m c main_v0 (ix6 0 (pageOf m hr t 27) kv h d k) := by
  blk_simp [iblk]
  congr 1
  have e : ((cfgM m hO).win 27).index t = ![0, (pageOf m hr t 27).val, 0, 0, 0, 0] := index_of m hr t 27 _ _
  blk_ext [e]

/-- Page 28 of a step. -/
theorem page28_at (t : Fin grid0.N) (kv : Fin 2) (h : Fin 4) (d : Fin 64) (k : Fin 128) :
    iblk m hO c 28 t (ix6 0 0 kv h d k) = V m c main_v0 (ix6 0 (pageOf m hr t 28) kv h d k) := by
  blk_simp [iblk]
  congr 1
  have e : ((cfgM m hO).win 28).index t = ![0, (pageOf m hr t 28).val, 0, 0, 0, 0] := index_of m hr t 28 _ _
  blk_ext [e]

/-- Page 29 of a step. -/
theorem page29_at (t : Fin grid0.N) (kv : Fin 2) (h : Fin 4) (d : Fin 64) (k : Fin 128) :
    iblk m hO c 29 t (ix6 0 0 kv h d k) = V m c main_v0 (ix6 0 (pageOf m hr t 29) kv h d k) := by
  blk_simp [iblk]
  congr 1
  have e : ((cfgM m hO).win 29).index t = ![0, (pageOf m hr t 29).val, 0, 0, 0, 0] := index_of m hr t 29 _ _
  blk_ext [e]

/-- Page 30 of a step. -/
theorem page30_at (t : Fin grid0.N) (kv : Fin 2) (h : Fin 4) (d : Fin 64) (k : Fin 128) :
    iblk m hO c 30 t (ix6 0 0 kv h d k) = V m c main_v0 (ix6 0 (pageOf m hr t 30) kv h d k) := by
  blk_simp [iblk]
  congr 1
  have e : ((cfgM m hO).win 30).index t = ![0, (pageOf m hr t 30).val, 0, 0, 0, 0] := index_of m hr t 30 _ _
  blk_ext [e]

/-- Page 31 of a step. -/
theorem page31_at (t : Fin grid0.N) (kv : Fin 2) (h : Fin 4) (d : Fin 64) (k : Fin 128) :
    iblk m hO c 31 t (ix6 0 0 kv h d k) = V m c main_v0 (ix6 0 (pageOf m hr t 31) kv h d k) := by
  blk_simp [iblk]
  congr 1
  have e : ((cfgM m hO).win 31).index t = ![0, (pageOf m hr t 31).val, 0, 0, 0, 0] := index_of m hr t 31 _ _
  blk_ext [e]

set_option maxHeartbeats 4000000 in
/-- A step's pages. -/
theorem pagesAt_at (t : Fin grid0.N) (n : Fin 32) (kv : Fin 2) (h : Fin 4) (d : Fin 64) (k : Fin 128) :
    pagesAt m hO c t n.val (ix6 0 0 kv h d k) = V m c main_v0 (ix6 0 (pageOf m hr t n) kv h d k) := by
  fin_cases n
  · exact page0_at m hO hr c t kv h d k
  · exact page1_at m hO hr c t kv h d k
  · exact page2_at m hO hr c t kv h d k
  · exact page3_at m hO hr c t kv h d k
  · exact page4_at m hO hr c t kv h d k
  · exact page5_at m hO hr c t kv h d k
  · exact page6_at m hO hr c t kv h d k
  · exact page7_at m hO hr c t kv h d k
  · exact page8_at m hO hr c t kv h d k
  · exact page9_at m hO hr c t kv h d k
  · exact page10_at m hO hr c t kv h d k
  · exact page11_at m hO hr c t kv h d k
  · exact page12_at m hO hr c t kv h d k
  · exact page13_at m hO hr c t kv h d k
  · exact page14_at m hO hr c t kv h d k
  · exact page15_at m hO hr c t kv h d k
  · exact page16_at m hO hr c t kv h d k
  · exact page17_at m hO hr c t kv h d k
  · exact page18_at m hO hr c t kv h d k
  · exact page19_at m hO hr c t kv h d k
  · exact page20_at m hO hr c t kv h d k
  · exact page21_at m hO hr c t kv h d k
  · exact page22_at m hO hr c t kv h d k
  · exact page23_at m hO hr c t kv h d k
  · exact page24_at m hO hr c t kv h d k
  · exact page25_at m hO hr c t kv h d k
  · exact page26_at m hO hr c t kv h d k
  · exact page27_at m hO hr c t kv h d k
  · exact page28_at m hO hr c t kv h d k
  · exact page29_at m hO hr c t kv h d k
  · exact page30_at m hO hr c t kv h d k
  · exact page31_at m hO hr c t kv h d k

end Pages

theorem entry_cache (c : Dev nD) : V m c main_v0 = transpose S2x1280x2x4x64x128 [0, 1, 3, 4, 5, 2] (m ((c : Thread nD τ).loc main_arg0))
    transposes_S2x1280x128x2x4x64_S2x1280x2x4x64x128_0_1_3_4_5_2 := by
  unfold V
  after_results <;> rfl

/-- The pages' tokens as the cache holds them. -/
theorem cache_at (c : Dev nD) (g : Fin 1280) (kv : Fin 2) (h : Fin 4) (d : Fin 64) (k : Fin 128) :
    V m c main_v0 (ix6 0 g kv h d k) = (m ((c : Thread nD τ).loc main_arg0)) (ix6 0 g k kv h d) := by
  rw [entry_cache]
  pointwise []

end Cert.Proof.CmpPoolPages

end
-- ==== Proof.CmpPoolRef.lean ====
/- The reference's pooled past, read one entry at a time: which page of the cache an entry of the table names, and the thirty-two tokens
   that a pooled entry sums by their weights. -/
module

public import proofs.«01_k».proof.Defs
public import proofs.«01_k».proof.Proof.Gen.CmpPoolRefIdeal.Run
public import Idealize.ShloMosaic.Lib.Pointwise

@[expose] public section

set_option maxRecDepth 16384

noncomputable section

namespace Cert.Proof.CmpPoolRef

open Idealize.ShloMosaic Idealize.SL.Sem Idealize.ShloMosaic.TcCoe
open Cert.CmpPoolRefIdeal Cert.CmpPoolRefIdeal.Gen

/-- The places in the cache that the table names: the first layer, and the page, counted from the end where negative. -/
def pageIx (t : IVec S8x128 32) : IVec S8x128x2 32 :=
  concatenate S8x128x2 2 [
    ⟨S8x128x1, (broadcastInDim S8x128x1 ![0, 1] bcast_S8x128_S8x128x1_0_1 (id (broadcastInDim S8x128 ![] bcast_S_S8x128 (constantI S_ 32 0#32))))⟩,
    ⟨S8x128x1, (broadcastInDim S8x128x1 ![0, 1] bcast_S8x128_S8x128x1_0_1 (select (cmpi .slt t (broadcastInDim S8x128 ![] bcast_S_S8x128 (constantI S_ 32 0#32))) (addi t (broadcastInDim S8x128 ![] bcast_S_S8x128 (constantI S_ 32 1280#32))) t))⟩] concatenates_S8x128x1_S8x128x1_S8x128x2_d2

/-- The tokens of every sequence, page by page. -/
def tokens (x : FVec Ideal S2x1280x128x2x4x64 .f32) (t : IVec S8x128 32) : FVec Ideal S8x128x128x2x4x64 .f32 :=
  Host.gather gather_S2x1280x128x2x4x64_S8x128x2_S8x128x128x2x4x64_2345_01_n_n_01_2_111282464 x (pageIx t)

/-- The keys of every thirty-two tokens by their weights, -/
def keys (y : FVec Ideal S8x128x128x2x4x64 .f32) (w : FVec Ideal S2x32 .f32) : FVec Ideal S8x512x4x64 .f32 :=
  Host.dotGeneral dot_S8x512x32x4x64_S32_S8x512x4x64_2_0_0134_n_n_n none
    (shapeCast S8x512x32x4x64 (extractStridedSlice S8x512x32x1x4x64 ![0, 0, 0, 0, 0, 0]
      (shapeCast S8x512x32x2x4x64 (shapeCast S8x16384x2x4x64 y shapeCasts_S8x128x128x2x4x64_S8x16384x2x4x64) shapeCasts_S8x16384x2x4x64_S8x512x32x2x4x64)
      slices_S8x512x32x2x4x64_S8x512x32x1x4x64_0_0_0_0_0_0) shapeCasts_S8x512x32x1x4x64_S8x512x32x4x64)
    (shapeCast S32 (extractStridedSlice S1x32 ![0, 0] w slices_S2x32_S1x32_0_0) shapeCasts_S1x32_S32)

/-- and the values by theirs. -/
def values (y : FVec Ideal S8x128x128x2x4x64 .f32) (w : FVec Ideal S2x32 .f32) : FVec Ideal S8x512x4x64 .f32 :=
  Host.dotGeneral dot_S8x512x32x4x64_S32_S8x512x4x64_2_0_0134_n_n_n none
    (shapeCast S8x512x32x4x64 (extractStridedSlice S8x512x32x1x4x64 ![0, 0, 0, 1, 0, 0]
      (shapeCast S8x512x32x2x4x64 (shapeCast S8x16384x2x4x64 y shapeCasts_S8x128x128x2x4x64_S8x16384x2x4x64) shapeCasts_S8x16384x2x4x64_S8x512x32x2x4x64)
      slices_S8x512x32x2x4x64_S8x512x32x1x4x64_0_0_0_1_0_0) shapeCasts_S8x512x32x1x4x64_S8x512x32x4x64)
    (shapeCast S32 (extractStridedSlice S1x32 ![1, 0] w slices_S2x32_S1x32_1_0) shapeCasts_S1x32_S32)

/-- The two of them as the result holds them: a column per pooled entry. -/
def stacked (a b : FVec Ideal S8x512x4x64 .f32) : FVec Ideal S8x512x512 .f32 :=
  shapeCast S8x512x512 (transpose S8x2x4x64x512 [0, 1, 3, 4, 2] (concatenate S8x2x512x4x64 1 [
    ⟨S8x1x512x4x64, broadcastInDim S8x1x512x4x64 ![0, 2, 3, 4] bcast_S8x512x4x64_S8x1x512x4x64_0_2_3_4 a⟩,
    ⟨S8x1x512x4x64, broadcastInDim S8x1x512x4x64 ![0, 2, 3, 4] bcast_S8x512x4x64_S8x1x512x4x64_0_2_3_4 b⟩]
    concatenates_S8x1x512x4x64_S8x1x512x4x64_S8x2x512x4x64_d1) transposes_S8x2x512x4x64_S8x2x4x64x512_0_1_3_4_2) shapeCasts_S8x2x4x64x512_S8x512x512

/-- The reference's result. -/
def reference (x : FVec Ideal S2x1280x128x2x4x64 .f32) (t : IVec S8x128 32) (w : FVec Ideal S2x32 .f32) : FVec Ideal S8x512x512 .f32 :=
  stacked (keys (tokens x t) w) (values (tokens x t) w)

/-- The first place is the first layer, -/
theorem pageIx_layer (t : IVec S8x128 32) (b : Fin 8) (n : Fin 128) : pageIx t (ix3 b n 0) = 0#32 := by
  unfold pageIx
  pointwise []
  rfl

/-- and the second the page itself where it is one of the pool. -/
theorem pageIx_page (t : IVec S8x128 32) (b : Fin 8) (n : Fin 128) (h : (t (ix2 b n)).toNat < 1280) : pageIx t (ix3 b n 1) = t (ix2 b n) := by
  unfold pageIx
  pointwise []
  have e : IntOp.cmpi .slt (t (ix2 b n)) 0#32 = 0#1 := by
    have e' : (t (ix2 b n)).slt 0#32 = false := by
      simp only [BitVec.slt, decide_eq_false_iff_not, BitVec.toInt_eq_toNat_cond, BitVec.toNat_ofNat]
      split <;> omega
    simp only [IntOp.cmpi, e']
    rfl
  rw [e]
  rfl

theorem tokens_from (b : Fin 8) (n k : Fin 128) (v : Fin 2) (h : Fin 4) (d : Fin 64) (z : Fin 2)
    (hz : z.val < gather_S2x1280x128x2x4x64_S8x128x2_S8x128x128x2x4x64_2345_01_n_n_01_2_111282464.startIndexMap.length) :
    gather_S2x1280x128x2x4x64_S8x128x2_S8x128x128x2x4x64_2345_01_n_n_01_2_111282464.siIdx (ix6 b n k v h d) ⟨z.val, hz⟩ = ix3 b n z := by
  funext e
  refine Fin.ext ?_
  match e with
  | ⟨0, _⟩ => rfl
  | ⟨1, _⟩ => rfl
  | ⟨2, _⟩ => rfl

theorem tokens_at (x : FVec Ideal S2x1280x128x2x4x64 .f32) (t : IVec S8x128 32) (b : Fin 8) (n k : Fin 128) (v : Fin 2) (h : Fin 4) (d : Fin 64)
    (g : Fin 1280) (hg : (t (ix2 b n)).toNat = g.val) : tokens x t (ix6 b n k v h d) = x (ix6 0 g k v h d) := by
  unfold tokens Host.gather
  congr 1
  have hi : pageIx t (ix3 b n 1) = t (ix2 b n) := pageIx_page t b n (by omega)
  have h0 := pageIx_layer t b n
  funext e
  refine Fin.ext ?_
  show GatherDims.start _ (ix6 b n k v h d) (pageIx t) e + GatherDims.batchCoord _ (ix6 b n k v h d) e + GatherDims.offCoord _ (ix6 b n k v h d) e = _
  rw [GatherDims.batchCoord_eq_zero _ _ _ List.not_mem_nil]
  unfold GatherDims.start
  match e with
  | ⟨0, _⟩ =>
    rw [GatherDims.offCoord_eq_zero _ _ _ (by decide +revert), dif_pos (by decide +revert)]
    refine (congrArg (fun q => min (pageIx t q).toInt.toNat (2 - 1) + 0 + 0) (tokens_from b n k v h d 0 (by decide))).trans ?_
    dsimp only
    rw [h0]
    rfl
  | ⟨1, _⟩ =>
    rw [GatherDims.offCoord_eq_zero _ _ _ (by decide +revert), dif_pos (by decide +revert)]
    refine (congrArg (fun q => min (pageIx t q).toInt.toNat (1280 - 1) + 0 + 0) (tokens_from b n k v h d 1 (by decide))).trans ?_
    dsimp only
    rw [hi, BitVec.toInt_eq_toNat_cond, if_pos (by omega), Int.toNat_natCast, hg]
    show min g.val (1280 - 1) + 0 + 0 = g.val
    omega
  | ⟨2, _⟩ => rw [dif_neg (by decide +revert)]; exact Nat.zero_add _
  | ⟨3, _⟩ => rw [dif_neg (by decide +revert)]; exact Nat.zero_add _
  | ⟨4, _⟩ => rw [dif_neg (by decide +revert)]; exact Nat.zero_add _
  | ⟨5, _⟩ => rw [dif_neg (by decide +revert)]; exact Nat.zero_add _

theorem keys_at (y : FVec Ideal S8x128x128x2x4x64 .f32) (w : FVec Ideal S2x32 .f32) (b : Fin 8) (n : Fin 128) (a : Fin 4) (h : Fin 4) (d : Fin 64) :
    (keys y w (ix4 b ⟨n.val * 4 + a.val, by omega⟩ h d) : EReal)
      = ∑ l : Fin 32, y (ix6 b n ⟨a.val * 32 + l.val, by omega⟩ 0 h d) * w (ix2 0 l) := by
  unfold keys
  pointwise []
  refine Finset.sum_congr (M := EReal) rfl fun l _ => ?_
  congr 3
  exact Fin.ext (by dsimp only; omega)

theorem values_at (y : FVec Ideal S8x128x128x2x4x64 .f32) (w : FVec Ideal S2x32 .f32) (b : Fin 8) (n : Fin 128) (a : Fin 4) (h : Fin 4) (d : Fin 64) :
    (values y w (ix4 b ⟨n.val * 4 + a.val, by omega⟩ h d) : EReal)
      = ∑ l : Fin 32, y (ix6 b n ⟨a.val * 32 + l.val, by omega⟩ 1 h d) * w (ix2 1 l) := by
  unfold values
  pointwise []
  refine Finset.sum_congr (M := EReal) rfl fun l _ => ?_
  congr 3
  exact Fin.ext (by dsimp only; omega)

theorem stacked_keys (x y : FVec Ideal S8x512x4x64 .f32) (b : Fin 8) (n : Fin 512) (h : Fin 4) (d : Fin 64) :
    stacked x y (ix3 b ⟨h.val * 64 + d.val, by omega⟩ n) = x (ix4 b n h d) := by
  unfold stacked
  pointwise []
  exact dif_pos (by omega)

theorem stacked_values (x y : FVec Ideal S8x512x4x64 .f32) (b : Fin 8) (n : Fin 512) (h : Fin 4) (d : Fin 64) :
    stacked x y (ix3 b ⟨256 + h.val * 64 + d.val, by omega⟩ n) = y (ix4 b n h d) := by
  unfold stacked
  pointwise []
  exact dif_neg (by omega)

/-- An entry of the reference: thirty-two tokens of one page by their weights. -/
theorem reference_at (x : FVec Ideal S2x1280x128x2x4x64 .f32) (t : IVec S8x128 32) (w : FVec Ideal S2x32 .f32) (b : Fin 8) (n : Fin 128) (a : Fin 4)
    (v : Fin 2) (h : Fin 4) (d : Fin 64) (g : Fin 1280) (hg : (t (ix2 b n)).toNat = g.val) :
    (reference x t w (ix3 b ⟨v.val * 256 + h.val * 64 + d.val, by omega⟩ ⟨n.val * 4 + a.val, by omega⟩) : EReal)
      = ∑ l : Fin 32, x (ix6 0 g ⟨a.val * 32 + l.val, by omega⟩ v h d) * w (ix2 v l) := by
  unfold reference
  match v with
  | ⟨0, _⟩ =>
    refine Eq.trans (congrArg (fun r => stacked _ _ (ix3 b r _)) (Fin.ext (by dsimp only; omega))) ((stacked_keys _ _ b _ h d).trans ?_)
    rw [keys_at]
    simp only [tokens_at x t b n _ _ h d g hg]
    rfl
  | ⟨1, _⟩ =>
    refine Eq.trans (congrArg (fun r => stacked _ _ (ix3 b r _)) (Fin.ext (by dsimp only <;> omega))) ((stacked_values _ _ b _ h d).trans ?_)
    rw [values_at]
    simp only [tokens_at x t b n _ _ h d g hg]
    rfl

end Cert.Proof.CmpPoolRef

end
-- ==== Proof.CmpPool.lean ====
/- The pooled past of the first layer: every 32 tokens of the cached keys and values by their weights. Every point of the kernel's grid
   takes 32 pages of one sequence, four pooled blocks a page. -/
module

public import proofs.«01_k».proof.Defs
public import proofs.«01_k».proof.Proof.CmpPoolIdealLaunch
public import proofs.«01_k».proof.Proof.CmpPoolPages
public import proofs.«01_k».proof.Proof.CmpPoolRef
public import proofs.«01_k».proof.Proof.Gen.Pre_pages_in_pool
public import proofs.«01_k».proof.Proof.Gen.Pre_pages_in_pool_finite
public import Idealize.ShloMosaic.Lib.Pipeline.ValueKit
public import Idealize.ShloMosaic.Lib.Pointwise

@[expose] public section

set_option maxRecDepth 16384

noncomputable section

namespace Cert.Proof.CmpPool

open Idealize.ShloMosaic Idealize.SL.Sem Idealize.ShloMosaic.TcCoe
open Cert.CmpPoolIdeal Cert.CmpPoolIdeal.Gen Cert.Proof.CmpPoolIdealRun Cert.Proof.CmpPoolPages
open Idealize.ShloMosaic.Pipeline (Dat)

variable (m : (ℓ : Loc nD τ sig) → Buf (Elt Ideal) ℓ) (ρ : Dev nD → PrngReg)

/-- A word between 0 and 1280. -/
theorem word_in {v : BitVec 32} (h : IntOp.andi (IntOp.cmpi .sge v 0#32) (IntOp.cmpi .slt v 1280#32) = 1#1) : v.toNat < 1280 := by
  simp only [IntOp.andi, IntOp.cmpi] at h
  cases h1 : (0#32).sle v <;> cases h2 : v.slt 1280#32 <;> simp [h1, h2] at h
  simp only [BitVec.sle, BitVec.slt, decide_eq_true_eq, BitVec.toInt_eq_toNat_cond, BitVec.toNat_ofNat] at h1 h2
  split at h1 <;> omega

/-- The pooled block that a page's row belongs to, within its page. -/
theorem pay3_at (k j : Fin 128) : (k0_pay3 (ix2 k j) : BitVec 32) = BitVec.ofNat 32 (k.val / 32) := by
  unfold k0_pay3
  pointwise []
  clear j
  revert k
  decide +kernel

/-- A page's row and a column match where the column is that block's. -/
theorem matches_at : ∀ (n : Fin 32) (q : Fin 4) (j : Fin 128),
    IntOp.cmpi .eq (BitVec.ofNat 32 j.val) (IntOp.addi (BitVec.ofNat 32 (4 * n.val)) (BitVec.ofNat 32 q.val))
      = if j.val = 4 * n.val + q.val then 1#1 else 0#1 := by decide +kernel

theorem sel_at (n : ℕ) (hn : n < 32) (k j : Fin 128) :
    (sel (F := Ideal) (BitVec.ofNat 32 (4 * n)) (ix2 k j) : EReal) = if j.val = 4 * n + k.val / 32 then 1 else 0 := by
  unfold sel
  pointwise [pay3_at]
  have e := matches_at ⟨n, hn⟩ ⟨k.val / 32, by omega⟩ j
  dsimp only at e
  rw [e]
  split <;> rfl

/-- A sum over a page's rows is one over its four blocks. -/
theorem sum_blocks (f : Fin 128 → EReal) : ∑ k, f k = ∑ a : Fin 4, ∑ l : Fin 32, f ⟨a.val * 32 + l.val, by omega⟩ := by
  rw [← Fintype.sum_prod_type' (f := fun (a : Fin 4) (l : Fin 32) => f ⟨a.val * 32 + l.val, by omega⟩)]
  refine (Fintype.sum_equiv (finProdFinEquiv (m := 4) (n := 32)) _ _ fun x => ?_).symm
  congr 1
  refine Fin.ext ?_
  show x.1.val * 32 + x.2.val = x.2.val + 32 * x.1.val
  omega

theorem weighted_at (p : Vec Ideal S1x1x1x4x64x128 .f32) (w : Vec Ideal S1x128 .f32) (h : Fin 4) (d : Fin 64) (k : Fin 128) :
    (weighted p w (ix2 ⟨h.val * 64 + d.val, by omega⟩ k) : EReal) = p (ix6 0 0 0 h d k) * w (ix2 0 k) := by
  unfold weighted
  pointwise []

theorem addPage_at (s : FVec Ideal S128x128 .bf16) (y acc : FVec Ideal S256x128 .f32) (r : Fin 256) (j : Fin 128) :
    (addPage s y acc (ix2 r j) : EReal) = acc (ix2 r j) + (∑ k : Fin 128, y (ix2 r k) * s (ix2 k j))
      + ∑ k : Fin 128, (y (ix2 r k) - y (ix2 r k)) * s (ix2 k j) := by
  unfold addPage
  pointwise []

/-- What is finite less itself is zero. -/
theorem sub_self_of {y : EReal} (h : y - y = 0) : y ≠ ⊤ ∧ y ≠ ⊥ := by
  constructor <;> rintro rfl <;> simp at h

theorem mul_sub_self {x y : EReal} (hx : x - x = 0) (hy : y - y = 0) : x * y - x * y = 0 := by
  obtain ⟨h1, h2⟩ := sub_self_of hx
  obtain ⟨h3, h4⟩ := sub_self_of hy
  lift x to ℝ using ⟨h1, h2⟩
  lift y to ℝ using ⟨h3, h4⟩
  rw [← EReal.coe_mul, ← EReal.coe_sub, sub_self, EReal.coe_zero]

/-- The first pages added up are, column by column, the pooled blocks of those pages, and zero in the columns of the others. -/
theorem pooled_at (p : ℕ → Vec Ideal S1x1x1x4x64x128 .f32) (w : Vec Ideal S1x128 .f32)
    (hp : ∀ n < 32, ∀ h d k, (p n (ix6 0 0 0 h d k) : EReal) - p n (ix6 0 0 0 h d k) = 0) (hw : ∀ k, (w (ix2 0 k) : EReal) - w (ix2 0 k) = 0)
    (h : Fin 4) (d : Fin 64) (j : Fin 128) (n : ℕ) (hn : n ≤ 32) :
    (pooled p w n (ix2 ⟨h.val * 64 + d.val, by omega⟩ j) : EReal)
      = if j.val < 4 * n then ∑ l : Fin 32, p (j.val / 4) (ix6 0 0 0 h d ⟨j.val % 4 * 32 + l.val, by omega⟩) * w (ix2 0 ⟨j.val % 4 * 32 + l.val, by omega⟩)
        else 0 := by
  induction n with
  | zero =>
    unfold pooled
    pointwise []
    simp
  | succ n ih =>
    unfold pooled
    rw [addPage_at, ih (by omega)]
    simp only [weighted_at, mul_sub_self (hp n (by omega) _ _ _) (hw _), zero_mul, Finset.sum_const_zero, add_zero, sel_at n (by omega), mul_ite, mul_one, mul_zero, ite_self, Finset.sum_const_zero, add_zero]
    rw [sum_blocks]
    have hin : ∀ (a : Fin 4) (l : Fin 32), (a.val * 32 + l.val) / 32 = a.val := fun a l => by omega
    simp only [hin]
    rw [Finset.sum_comm]
    by_cases h0 : j.val < 4 * n
    · rw [if_pos h0, if_pos (by omega)]
      have hz : ∀ a : Fin 4, ¬ j.val = 4 * n + a.val := fun a => by omega
      simp only [hz, if_false, Finset.sum_const_zero, add_zero]
    · rw [if_neg h0, zero_add]
      by_cases h1 : j.val < 4 * (n + 1)
      · rw [if_pos h1]
        refine Finset.sum_congr (M := EReal) rfl fun l _ => ?_
        rw [Finset.sum_eq_single (⟨j.val % 4, by omega⟩ : Fin 4) (fun a _ ha => if_neg fun e => ha (Fin.ext (by dsimp only; omega))) (by simp)]
        rw [if_pos (by dsimp only; omega)]
        rw [show j.val / 4 = n by omega]
      · rw [if_neg h1]
        have hz : ∀ a : Fin 4, ¬ j.val = 4 * n + a.val := fun a => by omega
        simp only [hz, if_false, Finset.sum_const_zero]

/-- A page's keys, -/
theorem keys_at (x : Vec Ideal S1x1x2x4x64x128 .f32) (h : Fin 4) (d : Fin 64) (k : Fin 128) :
    View.ld x rKeys (ix6 0 0 0 h d k) = x (ix6 0 0 0 h d k) := by
  pointwise []

/-- its values, -/
theorem vals_at (x : Vec Ideal S1x1x2x4x64x128 .f32) (h : Fin 4) (d : Fin 64) (k : Fin 128) :
    View.ld x rVals (ix6 0 0 0 h d k) = x (ix6 0 0 1 h d k) := by
  pointwise []

theorem keyW_at (x : Vec Ideal S2x128 .f32) (k : Fin 128) : View.ld x rKeyW (ix2 0 k) = x (ix2 0 k) := by
  pointwise []

theorem valW_at (x : Vec Ideal S2x128 .f32) (k : Fin 128) : View.ld x rValW (ix2 0 k) = x (ix2 1 k) := by
  pointwise []

/-- The weights as the region finds them. -/
def tiled (w : FVec Ideal S2x32 .f32) : FVec Ideal S2x128 .f32 :=
  shapeCast S2x128 (broadcastInDim S1x2x4x32 ![0, 1, 2, 3] bcast_S1x2x1x32_S1x2x4x32_0_1_2_3
    (shapeCast S1x2x1x32 w shapeCasts_S2x32_S1x2x1x32)) shapeCasts_S1x2x4x32_S2x128

theorem tiled_at (w : FVec Ideal S2x32 .f32) (z : Fin 2) (a : Fin 4) (l : Fin 32) :
    (tiled w (ix2 z ⟨a.val * 32 + l.val, by omega⟩) : EReal) = w (ix2 z l) := by
  unfold tiled
  pointwise []

theorem entry_w (c : Dev nD) : V m c main_v3 = tiled (m ((c : Thread nD τ).loc main_arg2)) := by
  unfold V
  after_results <;> rfl

theorem w_at (hO : Ok m) (c : Dev nD) (t : Fin (cfgM m hO).N) (z : Fin 2) (k : Fin 128) :
    iblk m hO c 32 t (ix2 z k) = V m c main_v3 (ix2 z k) := by
  blk_simp [iblk]
  congr 1
  have e : ((cfgM m hO).win 32).index t = ![0, 0] := rfl
  blk_ext [e]

theorem cast_at (x : Vec Ideal S256x128 .f32) (z : Fin 1) (r : Fin 256) (j : Fin 128) :
    shapeCast S1x256x128 x shapeCasts_S256x128_S1x256x128 (ix3 z r j) = x (ix2 r j) := by
  pointwise []

theorem row_lt (h : Fin 4) (d : Fin 64) : h.val * 64 + d.val < 256 := by omega

/-- A step's block: an entry is thirty-two tokens of one of its pages by their weights. -/
theorem pool_at (p : ℕ → Vec Ideal S1x1x2x4x64x128 .f32) (w : Vec Ideal S2x128 .f32)
    (hp : ∀ n < 32, ∀ v h d k, (p n (ix6 0 0 v h d k) : EReal) - p n (ix6 0 0 v h d k) = 0) (hw : ∀ v k, (w (ix2 v k) : EReal) - w (ix2 v k) = 0)
    (z : Fin 1) (v : Fin 2) (h : Fin 4) (d : Fin 64) (j : Fin 128) :
    (pool p w (ix3 z ⟨v.val * 256 + h.val * 64 + d.val, by omega⟩ j) : EReal)
      = ∑ l : Fin 32, p (j.val / 4) (ix6 0 0 v h d ⟨j.val % 4 * 32 + l.val, by omega⟩) * w (ix2 v ⟨j.val % 4 * 32 + l.val, by omega⟩) := by
  unfold CmpPoolIdealRun.pool
  canon_tiles u e <;>
    obtain ⟨z', r', j', rfl⟩ : ∃ (z' : Fin 1) (r' : Fin 256) (j' : Fin 128), u = ix3 z' r' j' := ⟨u 0, u 1, u 2, eq_ix3 u⟩ <;>
    obtain rfl : j = j' := Fin.ext e2 <;>
    have hr := r'.isLt
  case piece0 =>
    have h1 : v.val * 256 + h.val * 64 + d.val = 256 + r'.val := e1
    obtain rfl : v = 1 := Fin.ext (show v.val = 1 by omega)
    obtain rfl : r' = ⟨h.val * 64 + d.val, row_lt h d⟩ := Fin.ext (show r'.val = h.val * 64 + d.val by have h2 : (1 : Fin 2).val = 1 := rfl; omega)
    refine (cast_at _ z' _ j).trans ?_
    rw [pooled_at _ _ (fun n hn h d k => by rw [vals_at]; exact hp n hn 1 h d k) (fun k => by rw [valW_at]; exact hw 1 k) h d j 32 le_rfl, if_pos (by omega)]
    exact Finset.sum_congr (M := EReal) rfl fun l _ => congrArg₂ (fun a b : EReal => a * b) (vals_at _ h d _) (valW_at _ _)
  case piece1 =>
    have h1 : v.val * 256 + h.val * 64 + d.val = r'.val := e1
    obtain rfl : v = 0 := Fin.ext (show v.val = 0 by omega)
    obtain rfl : r' = ⟨h.val * 64 + d.val, row_lt h d⟩ := Fin.ext (show r'.val = h.val * 64 + d.val by have h2 : (0 : Fin 2).val = 0 := rfl; omega)
    refine (cast_at _ z' _ j).trans ?_
    rw [pooled_at _ _ (fun n hn h d k => by rw [keys_at]; exact hp n hn 0 h d k) (fun k => by rw [keyW_at]; exact hw 0 k) h d j 32 le_rfl, if_pos (by omega)]
    exact Finset.sum_congr (M := EReal) rfl fun l _ => congrArg₂ (fun a b : EReal => a * b) (keys_at _ h d _) (keyW_at _ _)

/-- Where the result's window is. -/
theorem out_idx : ∀ t : Fin grid0.N, cc0_transform_33 (grid0.coords t) = ![t.val / 4, 0, t.val % 4] := by decide +kernel

/-- Every entry less itself is zero. -/
def Finite {s : Shape} (x : s.Idx → EReal) : Prop := ∀ i, x i - x i = 0

section Value

variable (hO : Ok m) (hr : ∀ x, (m ((0 : Dev nD).tc.loc main_arg1) x : BitVec 32).toNat < 1280)
  (hx : Finite (s := S2x1280x128x2x4x64) (m ((0 : Dev nD).tc.loc main_arg0))) (hw : Finite (s := S2x32) (m ((0 : Dev nD).tc.loc main_arg2)))

/-- The weights that a step reads, -/
theorem weight_at (c : Dev nD) (t : Fin grid0.N) (v : Fin 2) (a : Fin 4) (l : Fin 32) :
    (iblk m hO c 32 t (ix2 v ⟨a.val * 32 + l.val, by omega⟩) : EReal) = m ((c : Thread nD τ).loc main_arg2) (ix2 v l) := by
  rw [w_at, entry_w, tiled_at]

include hr hx hw

/-- and its block: the reference's. -/
theorem block_at (t : Fin grid0.N) (z : Fin 1) (v : Fin 2) (h : Fin 4) (d : Fin 64) (q : Fin 32) (a : Fin 4) :
    CmpPoolIdealRun.pool (pagesAt m hO 0 t) (iblk m hO 0 32 t) (ix3 z ⟨v.val * 256 + h.val * 64 + d.val, by omega⟩ ⟨q.val * 4 + a.val, by omega⟩)
      = CmpPoolRef.reference (m ((0 : Dev nD).tc.loc main_arg0)) (m ((0 : Dev nD).tc.loc main_arg1)) (m ((0 : Dev nD).tc.loc main_arg2))
          (ix3 (⟨t.val / 4, by have : t.val < 32 := t.isLt; omega⟩ : Fin 8) (⟨v.val * 256 + h.val * 64 + d.val, by omega⟩ : Fin 512)
            (⟨(⟨t.val % 4 * 32 + q.val, by omega⟩ : Fin 128).val * 4 + a.val, by dsimp only <;> omega⟩ : Fin 512)) := by
  have e1 : (q.val * 4 + a.val) / 4 = q.val := by omega
  have e2 : (q.val * 4 + a.val) % 4 = a.val := by omega
  refine (pool_at _ _ (fun n hn v h d k => ?_) (fun v k => ?_) z v h d ⟨q.val * 4 + a.val, by omega⟩).trans ?_
  · rw [pagesAt_at m hO hr 0 t ⟨n, hn⟩, cache_at]
    exact hx _
  · obtain ⟨b, l, rfl⟩ : ∃ (b : Fin 4) (l : Fin 32), k = ⟨b.val * 32 + l.val, by omega⟩ :=
      ⟨⟨k.val / 32, by omega⟩, ⟨k.val % 32, by omega⟩, Fin.ext (by dsimp only <;> omega)⟩
    rw [weight_at]
    exact hw _
  · refine Eq.trans ?_ (CmpPoolRef.reference_at _ _ _ ⟨t.val / 4, by have : t.val < 32 := t.isLt; omega⟩ ⟨t.val % 4 * 32 + q.val, by omega⟩ a v h d (pageOf m hr t q) rfl).symm
    simp only [e1, e2, weight_at, pagesAt_at m hO hr 0 t q]
    exact Finset.sum_congr (M := EReal) rfl fun l _ => congrArg (fun x : EReal => x * _) (cache_at m 0 _ v h d _)

/-- The array that the kernel leaves is the reference's. -/
theorem final (c : Dev nD) : (dats m hO 0 c).arrAt 33 (cfgM m hO).N
    = CmpPoolRef.reference (m ((c : Thread nD τ).loc main_arg0)) (m ((c : Thread nD τ).loc main_arg1)) (m ((c : Thread nD τ).loc main_arg2)) := by
  obtain rfl : c = 0 := Subsingleton.elim _ _
  have idx : ∀ t : Fin grid0.N, ((cfgM m hO).win 33).index t = ![t.val / 4, 0, t.val % 4] := out_idx
  have out : ∀ (t : Fin grid0.N) (z : Fin 1) (r : Fin 512) (j : Fin 128), ((((cfgM m hO).win 33).blk t).view.emb (ix3 z r j) : S8x512x512.Idx)
      = ix3 (⟨t.val / 4, by have : t.val < 32 := t.isLt; omega⟩ : Fin 8) r (⟨t.val % 4 * 128 + j.val, by omega⟩ : Fin 512) := fun t z r j => by
    have ht : t.val < 32 := t.isLt
    blk_ext [idx t]
  refine (dats m hO 0 0).arrAt_eq_of_emb 33 _ (fun t hf (y : S1x512x128.Idx) => ?_) (fun (i : S8x512x512.Idx) => ?_)
  · blk_simp
    obtain ⟨z, r, j, rfl⟩ : ∃ (z : Fin 1) (r : Fin 512) (j : Fin 128), y = ix3 z r j := ⟨y 0, y 1, y 2, eq_ix3 y⟩
    obtain ⟨v, h, d, rfl⟩ : ∃ (v : Fin 2) (h : Fin 4) (d : Fin 64), r = ⟨v.val * 256 + h.val * 64 + d.val, by omega⟩ :=
      ⟨⟨r.val / 256, by omega⟩, ⟨r.val % 256 / 64, by omega⟩, ⟨r.val % 64, by omega⟩, Fin.ext (by dsimp only <;> omega)⟩
    obtain ⟨q, a, rfl⟩ : ∃ (q : Fin 32) (a : Fin 4), j = ⟨q.val * 4 + a.val, by omega⟩ :=
      ⟨⟨j.val / 4, by omega⟩, ⟨j.val % 4, by omega⟩, Fin.ext (by dsimp only <;> omega)⟩
    rw [after33]
    refine (block_at m hO hr hx hw t z v h d q a).trans (congrArg (CmpPoolRef.reference _ _ _) ((out t z _ _).trans ?_).symm)
    exact congrArg (ix3 _ _) (Fin.ext (by dsimp only <;> omega))
  · obtain ⟨b, r, n, rfl⟩ : ∃ (b : Fin 8) (r n : Fin 512), i = ix3 b r n := ⟨i 0, i 1, i 2, eq_ix3 i⟩
    refine ⟨(⟨b.val * 4 + n.val / 128, by show _ < 32; omega⟩ : Fin grid0.N), flush0_33 (adm m hO) _, ?_⟩
    have e := out ⟨b.val * 4 + n.val / 128, by show _ < 32; omega⟩ 0 r ⟨n.val % 128, by omega⟩
    refine (congrArg (fun x => x ∈ (((cfgM m hO).win 33).blk _).view.set) (e.trans ?_)).mp (View.emb_mem_set _ _)
    congr 1 <;> exact Fin.ext (by dsimp only <;> omega)

end Value

/-- What the precondition says of the table, -/
theorem range_of {m : (ℓ : Loc nD τ sig) → Buf (Elt Ideal) ℓ} (h : Cert.Pre_CmpPoolIdeal_pages_in_pool_finite m) (x) :
    (m ((0 : Dev nD).tc.loc main_arg1) x : BitVec 32).toNat < 1280 := by
  have e := congrFun (h 0).1 x
  simp only [Cert.Pre_pages_in_pool_finite.fn] at e
  exact word_in e

/-- and of a number. -/
theorem zero_of {x : EReal} (h : FloatOps.cmpf (F := Ideal) (φ := .f32) .oeq (x - x : EReal) (0 : EReal) = 1#1) : x - x = 0 := by
  by_contra hn
  simp [FloatOps.cmpf, Ideal.cmp, hn] at h

theorem cache_finite {m : (ℓ : Loc nD τ sig) → Buf (Elt Ideal) ℓ} (h : Cert.Pre_CmpPoolIdeal_pages_in_pool_finite m) :
    Finite (s := S2x1280x128x2x4x64) (m ((0 : Dev nD).tc.loc main_arg0)) := fun i => by
  have e := congrFun (h 0).2.1 i
  simp only [Cert.Pre_pages_in_pool_finite.fn] at e
  simp [cmpf, subf, broadcastInDim, constant] at e
  exact zero_of e

theorem weights_finite {m : (ℓ : Loc nD τ sig) → Buf (Elt Ideal) ℓ} (h : Cert.Pre_CmpPoolIdeal_pages_in_pool_finite m) :
    Finite (s := S2x32) (m ((0 : Dev nD).tc.loc main_arg2)) := fun i => by
  have e := congrFun (h 0).2.2 i
  simp only [Cert.Pre_pages_in_pool_finite.fn] at e
  simp [cmpf, subf, broadcastInDim, constant] at e
  exact zero_of e

/-- On pages of the pool it runs, at ideal values -/
theorem frame_ideal : Cert.quiescent_CmpPoolIdeal := fun m g h => CmpPoolIdealRun.frame m g (ok_of_range m fun x => by
  have e := congrFun (h 0) x
  simp only [Cert.Pre_pages_in_pool.fn] at e
  exact word_in e)

theorem frame_ideal_finite : Cert.quiescent_CmpPoolIdeal_pre_pages_in_pool_finite := fun m g h =>
  CmpPoolIdealRun.frame m g (ok_of_range m (range_of h))

/-- The pooled past that the kernel leaves is the reference's. -/
theorem algebraic : Cert.algebraic_CmpPoolIdeal_CmpPoolRefIdeal_pre_pages_in_pool_finite := by
  intro m ρ m' ρ' hpre hagree
  have hr := range_of hpre
  have hO := ok_of_range m hr
  refine ⟨_, (θ_run Cert.CmpPoolIdeal.defs _ _).mono (fun _ h c => ⟨(h.1 c).1 (33 : Fin 34),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩) (launch_run m ρ hO), ?_⟩
  refine (θ_run Cert.CmpPoolRefIdeal.defs _ _).mono (fun _ h c => ⟨(h c).1.trans ?_, (h c).2⟩)
    (Cert.CmpPoolRefIdeal.Value.run (F := Ideal) m' ρ')
  refine Eq.trans ?_ (final m hO hr (cache_finite hpre) (weights_finite hpre) c).symm
  rw [← (hagree c).1, ← (hagree c).2.1, ← (hagree c).2.2]
  rfl

end Cert.Proof.CmpPool

end
-- ==== Proof.CmpPoolFrame.lean ====
/- The pooling as printed: on a table of pages of the pool its windows stay in the pool, and it runs. Of the reference: it runs as well. -/
module

public import proofs.«01_k».proof.Defs
public import proofs.«01_k».proof.Proof.CmpPoolLaunch
public import proofs.«01_k».proof.Proof.CmpPool

@[expose] public section

set_option maxRecDepth 16384

noncomputable section

namespace Cert.Proof.CmpPoolFrame

open Idealize.ShloMosaic Idealize.SL.Sem Idealize.ShloMosaic.TcCoe
open Cert.CmpPool Cert.CmpPool.Gen Cert.Proof.CmpPoolRun

variable (m : (ℓ : Loc nD τ sig) → Buf (Elt Bits) ℓ)

set_option maxHeartbeats 4000000 in
/-- A table of pages of the pool meets the side condition. -/
theorem ok_of_range (h : ∀ x, (m ((0 : Dev nD).tc.loc main_arg1) x : BitVec 32).toNat < 1280) : Ok m := by
  have h' : ∀ x, (tbl m 0 x : BitVec 32).toNat < 1280 := fun x => by
    have e : tbl m 0 = m ((0 : Dev nD).tc.loc main_arg1) := V_main_arg1 m 0
    rw [e]; exact h x
  unfold Ok ok0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨CmpPoolPages.page_in (h' _), .inl rfl⟩

theorem frame_bits : Cert.quiescent_CmpPool := fun m g h => CmpPoolRun.frame m g (ok_of_range m fun x => by
  have e := congrFun (h 0) x
  simp only [Cert.Pre_pages_in_pool.fn] at e
  exact CmpPool.word_in e)

/-- The reference runs, -/
theorem frame_ref : Cert.quiescent_CmpPoolRefIdeal :=
  fun m g _ => (θ_run Cert.CmpPoolRefIdeal.defs _ _).mono (fun r h => ⟨fun c => (h c).2, sem_eq_zero_of_no_sems (by decide) r.2⟩)
    (Cert.CmpPoolRefIdeal.Value.run (F := Ideal) m g)

/-- whatever its arguments. -/
theorem frame_ref_finite : Cert.quiescent_CmpPoolRefIdeal_pre_pages_in_pool_finite := fun m g _ => frame_ref m g trivial

end Cert.Proof.CmpPoolFrame

end
-- ==== Proof.InProj.lean ====
/- The projection into the layer's heads. Every point of the kernel's grid multiplies 1024 rows of the input by one
   1024-column tile of the weight, whose columns past the last are zero; the reference multiplies the whole input by the
   whole weight and pads the product. At the extended reals the two are the same array, because a sum of products with a
   zero factor is zero. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

noncomputable section

namespace Cert.Proof.InProj

open Idealize.ShloMosaic Idealize.SL.Sem Idealize.ShloMosaic.TcCoe
open Cert.InProjIdeal Cert.InProjIdeal.Gen
open Idealize.ShloMosaic.Pipeline (Dat)

variable (m : (ℓ : Loc nD τ sig) → Buf (Elt Ideal) ℓ) (ρ : Dev nD → PrngReg)

/-- The product, padded with zero columns and with its leading axes merged: the reference's result. -/
abbrev projected (x : FVec Ideal S4x2048x2048 .f32) (w : FVec Ideal S2048x5968 .f32) : FVec Ideal S8192x6144 .f32 :=
  shapeCast _ (pad Cert.InProjRefIdeal.S4x2048x6144 ![0, 0, 0] ![0, 0, 176] ![0, 0, 0]
    (Host.dotGeneral (F := Ideal) Cert.InProjRefIdeal.dot_S4x2048x2048_S2048x5968_S4x2048x5968_2_0_01_1_n_n none x w)
    (sitofp .f32 (constantI S_ 32 0#32)) Cert.InProjRefIdeal.Gen.pads_S4x2048x5968_S4x2048x6144_000_000_01760
    Cert.InProjRefIdeal.Gen.h_S_) Cert.InProjRefIdeal.Gen.shapeCasts_S4x2048x6144_S8192x6144

/-- The input with its two leading axes merged. -/
def rows (x : FVec Ideal S4x2048x2048 .f32) : FVec Ideal S8192x2048 .f32 :=
  shapeCast S8192x2048 x shapeCasts_S4x2048x2048_S8192x2048

/-- The weight padded with zero columns. -/
def padded (w : FVec Ideal S2048x5968 .f32) : FVec Ideal S2048x6144 .bf16 :=
  pad S2048x6144 ![0, 0] ![0, 176] ![0, 0] (truncf (F := Ideal) .bf16 w bitsLt_bf16_f32)
    (sitofp .bf16 (constantI S_ 32 0#32)) pads_S2048x5968_S2048x6144_000_01760 h_S_

/-- The region finds the merged input. -/
theorem rows_entry (c : Dev nD) : V m c main_v2 = rows (m ((c : Thread nD τ).loc main_arg0)) := by
  unfold V
  simp only [hostOps0, hostOps0_1, hostOps0_2, StableHlo.TRef.binary, StableHlo.TRef.unary, StableHlo.TRef.toBuf,
    StableHlo.TRef.ofBuf, cast_eq, List.flatten_cons, List.flatten_nil, List.append_nil, List.cons_append, List.nil_append]
  after_results <;> rfl

/-- It finds the padded weight. -/
theorem weight_entry (c : Dev nD) : V m c main_v1 = padded (m ((c : Thread nD τ).loc main_arg1)) := by
  unfold V
  simp only [hostOps0, hostOps0_1, hostOps0_2, StableHlo.TRef.binary, StableHlo.TRef.unary, StableHlo.TRef.toBuf,
    StableHlo.TRef.ofBuf, cast_eq, List.flatten_cons, List.flatten_nil, List.append_nil, List.cons_append, List.nil_append]
  after_results <;> rfl

theorem index_rows : ∀ t : Fin cfg0.N, win0_0.index t = ![win0_2.index t 0, 0] :=
  (by decide +kernel : ∀ t : Fin grid0.N, _)
theorem index_weight : ∀ t : Fin cfg0.N, win0_1.index t = ![0, win0_2.index t 1] :=
  (by decide +kernel : ∀ t : Fin grid0.N, _)
theorem index_bounds : ∀ t : Fin cfg0.N, win0_2.index t 0 < 8 ∧ win0_2.index t 1 < 6 :=
  (by decide +kernel : ∀ t : Fin grid0.N, _)

set_option maxRecDepth 16384

/-- A row of the point's input block is a row of the merged input. -/
theorem rows_at (c : Dev nD) (t : Fin cfg0.N) (r : Fin 1024) (k : Fin 2048) (i : Fin 8192)
    (h : i.val = win0_2.index t 0 * 1024 + r.val) :
    iblk m c 0 t (ix2 r k) = rows (m ((c : Thread nD τ).loc main_arg0)) (ix2 i k) := by
  blk_simp [iblk]
  rw [rows_entry]
  congr 1
  blk_ext [index_rows t]

/-- A column of the point's weight block is a column of the padded weight. -/
theorem weight_at (c : Dev nD) (t : Fin cfg0.N) (k : Fin 2048) (r : Fin 1024) (j : Fin 6144)
    (h : j.val = win0_2.index t 1 * 1024 + r.val) :
    iblk m c 1 t (ix2 k r) = padded (m ((c : Thread nD τ).loc main_arg1)) (ix2 k j) := by
  blk_simp [iblk]
  rw [weight_entry]
  congr 1
  blk_ext [index_weight t]

/-- The word zero is the number zero. -/
theorem sitofp_zero {φ : FTy} : (FloatOps.sitofp (F := Ideal) φ (0#32) : EReal) = 0 := by
  simp [FloatOps.sitofp]

/-- The padded weight's product with the merged input is the padded product. -/
theorem sum_padded (x : FVec Ideal S4x2048x2048 .f32) (w : FVec Ideal S2048x5968 .f32) (i : Fin 8192) (j : Fin 6144) :
    (∑ k : Fin 2048, rows x (ix2 i k) * padded w (ix2 k j)) = projected x w (ix2 i j) := by
  have hi := i.isLt
  pointwise [rows, padded, projected]
  by_cases h : j.val < 5968
  · rw [dif_pos (by omega)]
    exact Finset.sum_congr rfl fun k _ => by rw [dif_pos h]
  · rw [dif_neg (by omega)]
    refine Eq.trans (b := (0 : EReal)) (Finset.sum_eq_zero fun k _ => ?_) sitofp_zero.symm
    rw [dif_neg h]
    exact (congrArg _ sitofp_zero).trans (mul_zero _)

/-- The array the kernel leaves is the padded product. -/
theorem final (c : Dev nD) : (dats m 0 c).arrAt 2 cfg0.N
    = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  have hb := index_bounds t
  obtain ⟨r, s, rfl⟩ : ∃ (r s : Fin 1024), y = ix2 r s := ⟨y 0, y 1, eq_ix2 y⟩
  have hr := r.isLt
  have hs := s.isLt
  have e : ((cfg0.win 2).blk t).view.emb (ix2 r s)
      = ix2 (⟨win0_2.index t 0 * 1024 + r.val, by omega⟩ : Fin 8192) (⟨win0_2.index t 1 * 1024 + s.val, by omega⟩ : Fin 6144) := by
    blk_ext []
  refine Eq.trans ?_ ((sum_padded _ _ _ _).trans (congrArg (projected _ _) e.symm))
  unfold_payloads
  pointwise []
  refine Finset.sum_congr (M := EReal) rfl fun k _ => congrArg₂ (fun a b : EReal => a * b) ?_ ?_
  · exact rows_at m c t r k ⟨win0_2.index t 0 * 1024 + r.val, by omega⟩ rfl
  · exact weight_at m c t k s ⟨win0_2.index t 1 * 1024 + s.val, by omega⟩ rfl

/-- The two programs leave the same array. -/
theorem algebraic : Cert.algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun _ h c => ⟨(h c).1.trans ?_, (h c).2⟩)
    (Cert.InProjRefIdeal.Value.run (F := Ideal) m' ρ')
  rw [final, (hagree c).1, (hagree c).2]

end Cert.Proof.InProj

end
-- ==== Proof.InProjSample.lean ====
/- The projection into the layer's heads, of the sample's 32 rows. Every point of the kernel's grid multiplies all of them
   by one 1024-column tile of the padded weight; the argument is that of the prompt's projection. -/
module

public import proofs.«01_k».proof.Defs
public import proofs.«01_k».proof.Proof.Gen.InProjSampleIdeal.Value
public import proofs.«01_k».proof.Proof.Gen.InProjSampleRefIdeal.Run
public import Idealize.ShloMosaic.Lib.Pipeline.ValueKit
public import Idealize.ShloMosaic.Lib.Pointwise

@[expose] public section

noncomputable section

namespace Cert.Proof.InProjSample

open Idealize.ShloMosaic Idealize.SL.Sem Idealize.ShloMosaic.TcCoe
open Cert.InProjSampleIdeal Cert.InProjSampleIdeal.Gen
open Idealize.ShloMosaic.Pipeline (Dat)

variable (m : (ℓ : Loc nD τ sig) → Buf (Elt Ideal) ℓ) (ρ : Dev nD → PrngReg)

/-- The product, padded with zero columns and with its leading axes merged: the reference's result. -/
abbrev projected (x : FVec Ideal S8x4x2048 .f32) (w : FVec Ideal S2048x5968 .f32) : FVec Ideal S32x6144 .f32 :=
  shapeCast _ (pad Cert.InProjSampleRefIdeal.S8x4x6144 ![0, 0, 0] ![0, 0, 176] ![0, 0, 0]
    (Host.dotGeneral (F := Ideal) Cert.InProjSampleRefIdeal.dot_S8x4x2048_S2048x5968_S8x4x5968_2_0_01_1_n_n none x w)
    (sitofp .f32 (constantI S_ 32 0#32)) Cert.InProjSampleRefIdeal.Gen.pads_S8x4x5968_S8x4x6144_000_000_01760
    Cert.InProjSampleRefIdeal.Gen.h_S_) Cert.InProjSampleRefIdeal.Gen.shapeCasts_S8x4x6144_S32x6144

/-- The input with its two leading axes merged. -/
def rows (x : FVec Ideal S8x4x2048 .f32) : FVec Ideal S32x2048 .f32 :=
  shapeCast S32x2048 x shapeCasts_S8x4x2048_S32x2048

/-- The weight padded with zero columns. -/
def padded (w : FVec Ideal S2048x5968 .f32) : FVec Ideal S2048x6144 .bf16 :=
  pad S2048x6144 ![0, 0] ![0, 176] ![0, 0] (truncf (F := Ideal) .bf16 w bitsLt_bf16_f32)
    (sitofp .bf16 (constantI S_ 32 0#32)) pads_S2048x5968_S2048x6144_000_01760 h_S_

/-- The region finds the merged input. -/
theorem rows_entry (c : Dev nD) : V m c main_v2 = rows (m ((c : Thread nD τ).loc main_arg0)) := by
  unfold V
  simp only [hostOps0, hostOps0_1, hostOps0_2, StableHlo.TRef.binary, StableHlo.TRef.unary, StableHlo.TRef.toBuf,
    StableHlo.TRef.ofBuf, cast_eq, List.flatten_cons, List.flatten_nil, List.append_nil, List.cons_append, List.nil_append]
  after_results <;> rfl

/-- It finds the padded weight. -/
theorem weight_entry (c : Dev nD) : V m c main_v1 = padded (m ((c : Thread nD τ).loc main_arg1)) := by
  unfold V
  simp only [hostOps0, hostOps0_1, hostOps0_2, StableHlo.TRef.binary, StableHlo.TRef.unary, StableHlo.TRef.toBuf,
    StableHlo.TRef.ofBuf, cast_eq, List.flatten_cons, List.flatten_nil, List.append_nil, List.cons_append, List.nil_append]
  after_results <;> rfl

theorem index_rows : ∀ t : Fin cfg0.N, win0_0.index t = ![win0_2.index t 0, 0] :=
  (by decide +kernel : ∀ t : Fin grid0.N, _)
theorem index_weight : ∀ t : Fin cfg0.N, win0_1.index t = ![0, win0_2.index t 1] :=
  (by decide +kernel : ∀ t : Fin grid0.N, _)
theorem index_bounds : ∀ t : Fin cfg0.N, win0_2.index t 0 < 1 ∧ win0_2.index t 1 < 6 :=
  (by decide +kernel : ∀ t : Fin grid0.N, _)

set_option maxRecDepth 16384

/-- A row of the point's input block is a row of the merged input. -/
theorem rows_at (c : Dev nD) (t : Fin cfg0.N) (r : Fin 32) (k : Fin 2048) (i : Fin 32)
    (h : i.val = win0_2.index t 0 * 32 + r.val) :
    iblk m c 0 t (ix2 r k) = rows (m ((c : Thread nD τ).loc main_arg0)) (ix2 i k) := by
  blk_simp [iblk]
  rw [rows_entry]
  congr 1
  blk_ext [index_rows t]

/-- A column of the point's weight block is a column of the padded weight. -/
theorem weight_at (c : Dev nD) (t : Fin cfg0.N) (k : Fin 2048) (r : Fin 1024) (j : Fin 6144)
    (h : j.val = win0_2.index t 1 * 1024 + r.val) :
    iblk m c 1 t (ix2 k r) = padded (m ((c : Thread nD τ).loc main_arg1)) (ix2 k j) := by
  blk_simp [iblk]
  rw [weight_entry]
  congr 1
  blk_ext [index_weight t]

/-- The word zero is the number zero. -/
theorem sitofp_zero {φ : FTy} : (FloatOps.sitofp (F := Ideal) φ (0#32) : EReal) = 0 := by
  simp [FloatOps.sitofp]

/-- The padded weight's product with the merged input is the padded product. -/
theorem sum_padded (x : FVec Ideal S8x4x2048 .f32) (w : FVec Ideal S2048x5968 .f32) (i : Fin 32) (j : Fin 6144) :
    (∑ k : Fin 2048, rows x (ix2 i k) * padded w (ix2 k j)) = projected x w (ix2 i j) := by
  have hi := i.isLt
  pointwise [rows, padded, projected]
  by_cases h : j.val < 5968
  · rw [dif_pos (by omega)]
    exact Finset.sum_congr rfl fun k _ => by rw [dif_pos h]
  · rw [dif_neg (by omega)]
    refine Eq.trans (b := (0 : EReal)) (Finset.sum_eq_zero fun k _ => ?_) sitofp_zero.symm
    rw [dif_neg h]
    exact (congrArg _ sitofp_zero).trans (mul_zero _)

/-- The array the kernel leaves is the padded product. -/
theorem final (c : Dev nD) : (dats m 0 c).arrAt 2 cfg0.N
    = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  have hb := index_bounds t
  obtain ⟨r, s, rfl⟩ : ∃ (r : Fin 32) (s : Fin 1024), y = ix2 r s := ⟨y 0, y 1, eq_ix2 y⟩
  have hr := r.isLt
  have hs := s.isLt
  have e : ((cfg0.win 2).blk t).view.emb (ix2 r s)
      = ix2 (⟨win0_2.index t 0 * 32 + r.val, by omega⟩ : Fin 32) (⟨win0_2.index t 1 * 1024 + s.val, by omega⟩ : Fin 6144) := by
    blk_ext []
  refine Eq.trans ?_ ((sum_padded _ _ _ _).trans (congrArg (projected _ _) e.symm))
  unfold_payloads
  pointwise []
  refine Finset.sum_congr (M := EReal) rfl fun k _ => congrArg₂ (fun a b : EReal => a * b) ?_ ?_
  · exact rows_at m c t r k ⟨win0_2.index t 0 * 32 + r.val, by omega⟩ rfl
  · exact weight_at m c t k s ⟨win0_2.index t 1 * 1024 + s.val, by omega⟩ rfl

/-- The two programs leave the same array. -/
theorem algebraic : Cert.algebraic_InProjSampleIdeal_InProjSampleRefIdeal := by
  intro m ρ m' ρ' _ hagree
  refine ⟨_, Cert.InProjSampleIdeal.Value.run_blocks (F := Ideal) m ρ, ?_⟩
  refine (θ_run Cert.InProjSampleRefIdeal.defs _ _).mono (fun _ h c => ⟨(h c).1.trans ?_, (h c).2⟩)
    (Cert.InProjSampleRefIdeal.Value.run (F := Ideal) m' ρ')
  rw [final, (hagree c).1, (hagree c).2]

end Cert.Proof.InProjSample

end
-- ==== Proof.Norm.lean ====
/- The residual and layer norm that end a layer, of the prompt's rows. Every point of the kernel's grid normalises 256 of the
   rows, each the scaled residual plus the mixer's output. -/
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

namespace Cert.Proof.Norm

open Idealize.ShloMosaic Idealize.SL.Sem Idealize.ShloMosaic.TcCoe
open Cert.NormIdeal Cert.NormIdeal.Gen
open Idealize.ShloMosaic.Pipeline (Dat)

variable (m : (ℓ : Loc nD τ sig) → Buf (Elt Ideal) ℓ) (ρ : Dev nD → PrngReg)

/-- The scaled residual plus the mixer's output. -/
def summed (x f : FVec Ideal S4x2048x2048 .f32) : FVec Ideal S4x2048x2048 .f32 :=
  addf (mulf (broadcastInDim Cert.NormRefIdeal.S4x2048x2048 ![] Cert.NormRefIdeal.Gen.bcast_S_S4x2048x2048
    (constant Cert.NormRefIdeal.S_ .f32 0x3FB504F3#32)) x) f

/-- The mean of every row. -/
def means (z : FVec Ideal S4x2048x2048 .f32) : FVec Ideal Cert.NormRefIdeal.S4x2048x1 .f32 :=
  Host.divf (broadcastInDim Cert.NormRefIdeal.S4x2048x1 ![0, 1] Cert.NormRefIdeal.Gen.bcast_S4x2048_S4x2048x1_0_1
      (Host.reduceAdd z (constant Cert.NormRefIdeal.S_ .f32 0x00000000#32)
        Cert.NormRefIdeal.Gen.reducesTo_S4x2048x2048_S4x2048_d2 Cert.NormRefIdeal.Gen.h_S_))
    (broadcastInDim Cert.NormRefIdeal.S4x2048x1 ![] Cert.NormRefIdeal.Gen.bcast_S_S4x2048x1
      (constant Cert.NormRefIdeal.S_ .f32 0x45000000#32))

/-- Every row less its mean. -/
def centred (z : FVec Ideal S4x2048x2048 .f32) : FVec Ideal S4x2048x2048 .f32 :=
  subf z (broadcastInDim Cert.NormRefIdeal.S4x2048x2048 ![0, 1, 2]
    Cert.NormRefIdeal.Gen.bcast_S4x2048x1_S4x2048x2048_0_1_2 (means z))

/-- The layer norm of every row, with the leading axes merged. -/
def normed (z : FVec Ideal S4x2048x2048 .f32) (g b : FVec Ideal S2048 .f32) : FVec Ideal S8192x2048 .f32 :=
  shapeCast _ (addf (mulf (mulf (centred z)
      (broadcastInDim Cert.NormRefIdeal.S4x2048x2048 ![0, 1, 2]
        Cert.NormRefIdeal.Gen.bcast_S4x2048x1_S4x2048x2048_0_1_2
        (Host.rsqrt (addf (means (mulf (centred z) (centred z)))
          (broadcastInDim Cert.NormRefIdeal.S4x2048x1 ![] Cert.NormRefIdeal.Gen.bcast_S_S4x2048x1
            (constant Cert.NormRefIdeal.S_ .f32 0x3727C5AC#32))))))
      (broadcastInDim Cert.NormRefIdeal.S4x2048x2048 ![0, 1, 2]
        Cert.NormRefIdeal.Gen.bcast_S1x1x2048_S4x2048x2048_0_1_2
        (broadcastInDim Cert.NormRefIdeal.S1x1x2048 ![2] Cert.NormRefIdeal.Gen.bcast_S2048_S1x1x2048_2 g)))
    (broadcastInDim Cert.NormRefIdeal.S4x2048x2048 ![0, 1, 2]
      Cert.NormRefIdeal.Gen.bcast_S1x1x2048_S4x2048x2048_0_1_2
      (broadcastInDim Cert.NormRefIdeal.S1x1x2048 ![2] Cert.NormRefIdeal.Gen.bcast_S2048_S1x1x2048_2 b)))
    Cert.NormRefIdeal.Gen.shapeCasts_S4x2048x2048_S8192x2048

/-- A block's row of the layer norm is that of the reference, where the blocks read its rows. -/
theorem normed_block (vx vf : Vec Ideal S256x2048 .f32) (vg vb : Vec Ideal S1x2048 .f32) (x f : FVec Ideal S4x2048x2048 .f32)
    (g b : FVec Ideal S2048 .f32) (r : Fin 256) (j : Fin 2048) (i : Fin 8192)
    (hx : ∀ k, vx (ix2 r k) = x (ix3 ⟨i.val / 2048, by omega⟩ ⟨i.val % 2048, by omega⟩ k))
    (hf : ∀ k, vf (ix2 r k) = f (ix3 ⟨i.val / 2048, by omega⟩ ⟨i.val % 2048, by omega⟩ k))
    (hg : ∀ j, vg (ix2 0 j) = g (ix1 j)) (hb : ∀ j, vb (ix2 0 j) = b (ix1 j)) :
    k0_pay1 vx vf vg vb (ix2 r j) = normed (summed x f) g b (ix2 i j) := by
  unfold k0_pay1 normed
  pointwise [centred, means, summed]
  simp only [hx, hf, hg, hb]

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- What the region finds: the arguments, their leading axes merged. -/
theorem entry (c : Dev nD) :
    V m c main_v0 = shapeCast S8192x2048 (m ((c : Thread nD τ).loc main_arg0)) shapeCasts_S4x2048x2048_S8192x2048
    ∧ V m c main_v1 = shapeCast S8192x2048 (m ((c : Thread nD τ).loc main_arg1)) shapeCasts_S4x2048x2048_S8192x2048
    ∧ V m c main_v2 = shapeCast S1x2048 (m ((c : Thread nD τ).loc main_arg2)) shapeCasts_S2048_S1x2048
    ∧ V m c main_v3 = shapeCast S1x2048 (m ((c : Thread nD τ).loc main_arg3)) shapeCasts_S2048_S1x2048 := by
  refine ⟨?_, ?_, ?_, ?_⟩ <;> (unfold V; after_results <;> rfl)

/-- Merging the leading axes keeps the row `i` at `(i / 2048, i % 2048)`. -/
theorem merged (x : FVec Ideal S4x2048x2048 .f32) (i : Fin 8192) (k : Fin 2048) :
    shapeCast S8192x2048 x shapeCasts_S4x2048x2048_S8192x2048 (ix2 i k)
      = x (ix3 ⟨i.val / 2048, by omega⟩ ⟨i.val % 2048, by omega⟩ k) := by pointwise []

/-- The rows that a point's blocks read. -/
theorem x_at (c : Dev nD) (t : Fin cfg0.N) (r : Fin 256) (k : Fin 2048) (i : Fin 8192) (h : i.val = t.val * 256 + r.val) :
    iblk m c 0 t (ix2 r k) = m ((c : Thread nD τ).loc main_arg0) (ix3 ⟨i.val / 2048, by omega⟩ ⟨i.val % 2048, by omega⟩ k) := by
  have e : iblk m c 0 t (ix2 r k) = V m c main_v0 (ix2 i k) := by
    blk_simp [iblk]
    congr 1
    blk_ext [idx t]
  rw [e, (entry m c).1]
  exact merged _ i k

theorem f_at (c : Dev nD) (t : Fin cfg0.N) (r : Fin 256) (k : Fin 2048) (i : Fin 8192) (h : i.val = t.val * 256 + r.val) :
    iblk m c 1 t (ix2 r k) = m ((c : Thread nD τ).loc main_arg1) (ix3 ⟨i.val / 2048, by omega⟩ ⟨i.val % 2048, by omega⟩ k) := by
  have e : iblk m c 1 t (ix2 r k) = V m c main_v1 (ix2 i k) := by
    blk_simp [iblk]
    congr 1
    blk_ext [idx t]
  rw [e, (entry m c).2.1]
  exact merged _ i k

/-- Every point reads both vectors of the norm. -/
theorem g_at (c : Dev nD) (t : Fin cfg0.N) (j : Fin 2048) :
    iblk m c 2 t (ix2 0 j) = m ((c : Thread nD τ).loc main_arg2) (ix1 j) := by
  have e : iblk m c 2 t (ix2 0 j) = V m c main_v2 (ix2 0 j) := by
    blk_simp [iblk]
    congr 1
    blk_ext [idx t]
  rw [e, (entry m c).2.2.1]
  pointwise []

theorem b_at (c : Dev nD) (t : Fin cfg0.N) (j : Fin 2048) :
    iblk m c 3 t (ix2 0 j) = m ((c : Thread nD τ).loc main_arg3) (ix1 j) := by
  have e : iblk m c 3 t (ix2 0 j) = V m c main_v3 (ix2 0 j) := by
    blk_simp [iblk]
    congr 1
    blk_ext [idx t]
  rw [e, (entry m c).2.2.2]
  pointwise []

/-- The array the kernel leaves is the layer norm. -/
theorem final (c : Dev nD) : (dats m 0 c).arrAt 4 cfg0.N
    = normed (summed (m ((c : Thread nD τ).loc main_arg0)) (m ((c : Thread nD τ).loc main_arg1)))
      (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 256) (s : Fin 2048), y = ix2 r s := ⟨y 0, y 1, eq_ix2 y⟩
  rw [after0_4]
  frame_out
  have ht : t.val < 32 := t.isLt
  have hr := r.isLt
  have e : ((View.whole main_v4).slice (win0_4.rect t)).emb (ix2 r s)
      = ix2 (⟨t.val * 256 + r.val, by omega⟩ : Fin 8192) s := by blk_ext [idx t]
  refine Eq.trans ?_ (congrArg (normed _ _ _) e.symm)
  exact normed_block _ _ _ _ _ _ _ _ r s _ (fun k => x_at m c t r k _ rfl) (fun k => f_at m c t r k _ rfl)
    (g_at m c t) (b_at m c t)

/-- The kernel's output is the reference's. -/
theorem algebraic : Cert.algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨(h c).1.trans ?_, (h c).2⟩)
    (Cert.NormRefIdeal.Value.run (F := Ideal) m' ρ')
  obtain ⟨h0, h1, h2, h3⟩ := hagree c
  rw [final, h0, h1, h2, h3]
  rfl

end Cert.Proof.Norm

end
-- ==== Proof.NormSample.lean ====
/- The residual and layer norm that end a layer, of the sample's 32 rows. The kernel's one point normalises all of them; the
   argument is that of the prompt's rows. -/
module

public import proofs.«01_k».proof.Defs
public import proofs.«01_k».proof.Proof.Gen.NormSampleIdeal.Value
public import proofs.«01_k».proof.Proof.Gen.NormSampleRefIdeal.Run
public import Idealize.ShloMosaic.Lib.Pipeline.ValueKit
public import Idealize.ShloMosaic.Lib.Pointwise

@[expose] public section

set_option maxRecDepth 16384

noncomputable section

namespace Cert.Proof.NormSample

open Idealize.ShloMosaic Idealize.SL.Sem Idealize.ShloMosaic.TcCoe
open Cert.NormSampleIdeal Cert.NormSampleIdeal.Gen
open Idealize.ShloMosaic.Pipeline (Dat)

variable (m : (ℓ : Loc nD τ sig) → Buf (Elt Ideal) ℓ) (ρ : Dev nD → PrngReg)

/-- The scaled residual plus the mixer's output. -/
def summed (x f : FVec Ideal S8x4x2048 .f32) : FVec Ideal S8x4x2048 .f32 :=
  addf (mulf (broadcastInDim Cert.NormSampleRefIdeal.S8x4x2048 ![] Cert.NormSampleRefIdeal.Gen.bcast_S_S8x4x2048
    (constant Cert.NormSampleRefIdeal.S_ .f32 0x3FB504F3#32)) x) f

/-- The mean of every row. -/
def means (z : FVec Ideal S8x4x2048 .f32) : FVec Ideal Cert.NormSampleRefIdeal.S8x4x1 .f32 :=
  Host.divf (broadcastInDim Cert.NormSampleRefIdeal.S8x4x1 ![0, 1] Cert.NormSampleRefIdeal.Gen.bcast_S8x4_S8x4x1_0_1
      (Host.reduceAdd z (constant Cert.NormSampleRefIdeal.S_ .f32 0x00000000#32)
        Cert.NormSampleRefIdeal.Gen.reducesTo_S8x4x2048_S8x4_d2 Cert.NormSampleRefIdeal.Gen.h_S_))
    (broadcastInDim Cert.NormSampleRefIdeal.S8x4x1 ![] Cert.NormSampleRefIdeal.Gen.bcast_S_S8x4x1
      (constant Cert.NormSampleRefIdeal.S_ .f32 0x45000000#32))

/-- Every row less its mean. -/
def centred (z : FVec Ideal S8x4x2048 .f32) : FVec Ideal S8x4x2048 .f32 :=
  subf z (broadcastInDim Cert.NormSampleRefIdeal.S8x4x2048 ![0, 1, 2]
    Cert.NormSampleRefIdeal.Gen.bcast_S8x4x1_S8x4x2048_0_1_2 (means z))

/-- The layer norm of every row, with the leading axes merged. -/
def normed (z : FVec Ideal S8x4x2048 .f32) (g b : FVec Ideal S2048 .f32) : FVec Ideal S32x2048 .f32 :=
  shapeCast _ (addf (mulf (mulf (centred z)
      (broadcastInDim Cert.NormSampleRefIdeal.S8x4x2048 ![0, 1, 2]
        Cert.NormSampleRefIdeal.Gen.bcast_S8x4x1_S8x4x2048_0_1_2
        (Host.rsqrt (addf (means (mulf (centred z) (centred z)))
          (broadcastInDim Cert.NormSampleRefIdeal.S8x4x1 ![] Cert.NormSampleRefIdeal.Gen.bcast_S_S8x4x1
            (constant Cert.NormSampleRefIdeal.S_ .f32 0x3727C5AC#32))))))
      (broadcastInDim Cert.NormSampleRefIdeal.S8x4x2048 ![0, 1, 2]
        Cert.NormSampleRefIdeal.Gen.bcast_S1x1x2048_S8x4x2048_0_1_2
        (broadcastInDim Cert.NormSampleRefIdeal.S1x1x2048 ![2] Cert.NormSampleRefIdeal.Gen.bcast_S2048_S1x1x2048_2 g)))
    (broadcastInDim Cert.NormSampleRefIdeal.S8x4x2048 ![0, 1, 2]
      Cert.NormSampleRefIdeal.Gen.bcast_S1x1x2048_S8x4x2048_0_1_2
      (broadcastInDim Cert.NormSampleRefIdeal.S1x1x2048 ![2] Cert.NormSampleRefIdeal.Gen.bcast_S2048_S1x1x2048_2 b)))
    Cert.NormSampleRefIdeal.Gen.shapeCasts_S8x4x2048_S32x2048

/-- A block's row of the layer norm is that of the reference, where the blocks read its rows. -/
theorem normed_block (vx vf : Vec Ideal S32x2048 .f32) (vg vb : Vec Ideal S1x2048 .f32) (x f : FVec Ideal S8x4x2048 .f32)
    (g b : FVec Ideal S2048 .f32) (r : Fin 32) (j : Fin 2048) (i : Fin 32)
    (hx : ∀ k, vx (ix2 r k) = x (ix3 ⟨i.val / 4, by omega⟩ ⟨i.val % 4, by omega⟩ k))
    (hf : ∀ k, vf (ix2 r k) = f (ix3 ⟨i.val / 4, by omega⟩ ⟨i.val % 4, by omega⟩ k))
    (hg : ∀ j, vg (ix2 0 j) = g (ix1 j)) (hb : ∀ j, vb (ix2 0 j) = b (ix1 j)) :
    k0_pay1 vx vf vg vb (ix2 r j) = normed (summed x f) g b (ix2 i j) := by
  unfold k0_pay1 normed
  pointwise [centred, means, summed]
  simp only [hx, hf, hg, hb]

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- What the region finds: the arguments, their leading axes merged. -/
theorem entry (c : Dev nD) :
    V m c main_v0 = shapeCast S32x2048 (m ((c : Thread nD τ).loc main_arg0)) shapeCasts_S8x4x2048_S32x2048
    ∧ V m c main_v1 = shapeCast S32x2048 (m ((c : Thread nD τ).loc main_arg1)) shapeCasts_S8x4x2048_S32x2048
    ∧ V m c main_v2 = shapeCast S1x2048 (m ((c : Thread nD τ).loc main_arg2)) shapeCasts_S2048_S1x2048
    ∧ V m c main_v3 = shapeCast S1x2048 (m ((c : Thread nD τ).loc main_arg3)) shapeCasts_S2048_S1x2048 := by
  refine ⟨?_, ?_, ?_, ?_⟩ <;> (unfold V; after_results <;> rfl)

/-- Merging the leading axes keeps the row `i` at `(i / 4, i % 4)`. -/
theorem merged (x : FVec Ideal S8x4x2048 .f32) (i : Fin 32) (k : Fin 2048) :
    shapeCast S32x2048 x shapeCasts_S8x4x2048_S32x2048 (ix2 i k)
      = x (ix3 ⟨i.val / 4, by omega⟩ ⟨i.val % 4, by omega⟩ k) := by pointwise []

/-- The rows that a point's blocks read. -/
theorem x_at (c : Dev nD) (t : Fin cfg0.N) (r : Fin 32) (k : Fin 2048) (i : Fin 32) (h : i.val = t.val * 32 + r.val) :
    iblk m c 0 t (ix2 r k) = m ((c : Thread nD τ).loc main_arg0) (ix3 ⟨i.val / 4, by omega⟩ ⟨i.val % 4, by omega⟩ k) := by
  have e : iblk m c 0 t (ix2 r k) = V m c main_v0 (ix2 i k) := by
    blk_simp [iblk]
    congr 1
    blk_ext [idx t]
  rw [e, (entry m c).1]
  exact merged _ i k

theorem f_at (c : Dev nD) (t : Fin cfg0.N) (r : Fin 32) (k : Fin 2048) (i : Fin 32) (h : i.val = t.val * 32 + r.val) :
    iblk m c 1 t (ix2 r k) = m ((c : Thread nD τ).loc main_arg1) (ix3 ⟨i.val / 4, by omega⟩ ⟨i.val % 4, by omega⟩ k) := by
  have e : iblk m c 1 t (ix2 r k) = V m c main_v1 (ix2 i k) := by
    blk_simp [iblk]
    congr 1
    blk_ext [idx t]
  rw [e, (entry m c).2.1]
  exact merged _ i k

/-- Every point reads both vectors of the norm. -/
theorem g_at (c : Dev nD) (t : Fin cfg0.N) (j : Fin 2048) :
    iblk m c 2 t (ix2 0 j) = m ((c : Thread nD τ).loc main_arg2) (ix1 j) := by
  have e : iblk m c 2 t (ix2 0 j) = V m c main_v2 (ix2 0 j) := by
    blk_simp [iblk]
    congr 1
    blk_ext [idx t]
  rw [e, (entry m c).2.2.1]
  pointwise []

theorem b_at (c : Dev nD) (t : Fin cfg0.N) (j : Fin 2048) :
    iblk m c 3 t (ix2 0 j) = m ((c : Thread nD τ).loc main_arg3) (ix1 j) := by
  have e : iblk m c 3 t (ix2 0 j) = V m c main_v3 (ix2 0 j) := by
    blk_simp [iblk]
    congr 1
    blk_ext [idx t]
  rw [e, (entry m c).2.2.2]
  pointwise []

/-- The array the kernel leaves is the layer norm. -/
theorem final (c : Dev nD) : (dats m 0 c).arrAt 4 cfg0.N
    = normed (summed (m ((c : Thread nD τ).loc main_arg0)) (m ((c : Thread nD τ).loc main_arg1)))
      (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 32) (s : Fin 2048), y = ix2 r s := ⟨y 0, y 1, eq_ix2 y⟩
  rw [after0_4]
  frame_out
  have ht : t.val < 1 := t.isLt
  have hr := r.isLt
  have e : ((View.whole main_v4).slice (win0_4.rect t)).emb (ix2 r s)
      = ix2 (⟨t.val * 32 + r.val, by omega⟩ : Fin 32) s := by blk_ext [idx t]
  refine Eq.trans ?_ (congrArg (normed _ _ _) e.symm)
  exact normed_block _ _ _ _ _ _ _ _ r s _ (fun k => x_at m c t r k _ rfl) (fun k => f_at m c t r k _ rfl)
    (g_at m c t) (b_at m c t)

/-- The kernel's output is the reference's. -/
theorem algebraic : Cert.algebraic_NormSampleIdeal_NormSampleRefIdeal := by
  intro m ρ m' ρ' _ hagree
  refine ⟨_, Cert.NormSampleIdeal.Value.run_blocks (F := Ideal) m ρ, ?_⟩
  refine (θ_run Cert.NormSampleRefIdeal.defs _ _).mono (fun _ h c => ⟨(h c).1.trans ?_, (h c).2⟩)
    (Cert.NormSampleRefIdeal.Value.run (F := Ideal) m' ρ')
  obtain ⟨h0, h1, h2, h3⟩ := hagree c
  rw [final, h0, h1, h2, h3]
  rfl

end Cert.Proof.NormSample

end
-- ==== Proof.OutProj.lean ====
/- The projection out of the layer's heads, with its residual and layer norm. Every point of the kernel's grid multiplies
   256 rows of the two families' outputs by the two halves of the weight and normalises each row of the sum; the
   reference joins the two families first, so that one sum over 2048 terms is the kernel's two over 1024. -/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.Proof.OutProj

open Idealize.ShloMosaic Idealize.SL.Sem Idealize.ShloMosaic.TcCoe
open Cert.OutProjIdeal Cert.OutProjIdeal.Gen
open Idealize.ShloMosaic.Pipeline (Dat)

variable (m : (ℓ : Loc nD τ sig) → Buf (Elt Ideal) ℓ) (ρ : Dev nD → PrngReg)

/-- The scaled residual plus the projection of the two families joined. -/
def summed (yr yn : FVec Ideal S4x2048x1024 .f32) (x : FVec Ideal S4x2048x2048 .f32) (w : FVec Ideal S2048x2048 .f32) :
    FVec Ideal S4x2048x2048 .f32 :=
  addf (mulf (broadcastInDim Cert.OutProjRefIdeal.S4x2048x2048 ![] Cert.OutProjRefIdeal.Gen.bcast_S_S4x2048x2048
      (constant Cert.OutProjRefIdeal.S_ .f32 0x3FB504F3#32)) x)
    (Host.dotGeneral Cert.OutProjRefIdeal.dot_S4x2048x2048_S2048x2048_S4x2048x2048_2_0_01_1_n_n none
      (concatenate Cert.OutProjRefIdeal.S4x2048x2048 2 [⟨Cert.OutProjRefIdeal.S4x2048x1024, yr⟩,
        ⟨Cert.OutProjRefIdeal.S4x2048x1024, yn⟩] Cert.OutProjRefIdeal.Gen.concatenates_S4x2048x1024_S4x2048x1024_S4x2048x2048_d2) w)

/-- The mean of every row. -/
def means (z : FVec Ideal S4x2048x2048 .f32) : FVec Ideal Cert.OutProjRefIdeal.S4x2048x1 .f32 :=
  Host.divf (broadcastInDim Cert.OutProjRefIdeal.S4x2048x1 ![0, 1] Cert.OutProjRefIdeal.Gen.bcast_S4x2048_S4x2048x1_0_1
      (Host.reduceAdd z (constant Cert.OutProjRefIdeal.S_ .f32 0x00000000#32)
        Cert.OutProjRefIdeal.Gen.reducesTo_S4x2048x2048_S4x2048_d2 Cert.OutProjRefIdeal.Gen.h_S_))
    (broadcastInDim Cert.OutProjRefIdeal.S4x2048x1 ![] Cert.OutProjRefIdeal.Gen.bcast_S_S4x2048x1
      (constant Cert.OutProjRefIdeal.S_ .f32 0x45000000#32))

/-- Every row less its mean. -/
def centred (z : FVec Ideal S4x2048x2048 .f32) : FVec Ideal S4x2048x2048 .f32 :=
  subf z (broadcastInDim Cert.OutProjRefIdeal.S4x2048x2048 ![0, 1, 2]
    Cert.OutProjRefIdeal.Gen.bcast_S4x2048x1_S4x2048x2048_0_1_2 (means z))

/-- The layer norm of every row, with the leading axes merged. -/
def normed (z : FVec Ideal S4x2048x2048 .f32) (g b : FVec Ideal S2048 .f32) : FVec Ideal S8192x2048 .f32 :=
  shapeCast _ (addf (mulf (mulf (centred z)
      (broadcastInDim Cert.OutProjRefIdeal.S4x2048x2048 ![0, 1, 2]
        Cert.OutProjRefIdeal.Gen.bcast_S4x2048x1_S4x2048x2048_0_1_2
        (Host.rsqrt (addf (means (mulf (centred z) (centred z)))
          (broadcastInDim Cert.OutProjRefIdeal.S4x2048x1 ![] Cert.OutProjRefIdeal.Gen.bcast_S_S4x2048x1
            (constant Cert.OutProjRefIdeal.S_ .f32 0x3727C5AC#32))))))
      (broadcastInDim Cert.OutProjRefIdeal.S4x2048x2048 ![0, 1, 2]
        Cert.OutProjRefIdeal.Gen.bcast_S1x1x2048_S4x2048x2048_0_1_2
        (broadcastInDim Cert.OutProjRefIdeal.S1x1x2048 ![2] Cert.OutProjRefIdeal.Gen.bcast_S2048_S1x1x2048_2 g)))
    (broadcastInDim Cert.OutProjRefIdeal.S4x2048x2048 ![0, 1, 2]
      Cert.OutProjRefIdeal.Gen.bcast_S1x1x2048_S4x2048x2048_0_1_2
      (broadcastInDim Cert.OutProjRefIdeal.S1x1x2048 ![2] Cert.OutProjRefIdeal.Gen.bcast_S2048_S1x1x2048_2 b)))
    Cert.OutProjRefIdeal.Gen.shapeCasts_S4x2048x2048_S8192x2048

/-- The reference leaves the layer norm. -/
theorem reference_eq (m : (ℓ : Loc Cert.OutProjRefIdeal.nD Cert.OutProjRefIdeal.τ Cert.OutProjRefIdeal.sig) → Buf (Elt Ideal) ℓ)
    (c : Dev Cert.OutProjRefIdeal.nD) : Cert.OutProjRefIdeal.Value.res_main_v29 m c
      = normed (summed (m ((c.tc : Thread Cert.OutProjRefIdeal.nD Cert.OutProjRefIdeal.τ).loc Cert.OutProjRefIdeal.main_arg0))
          (m ((c.tc : Thread Cert.OutProjRefIdeal.nD Cert.OutProjRefIdeal.τ).loc Cert.OutProjRefIdeal.main_arg1))
          (m ((c.tc : Thread Cert.OutProjRefIdeal.nD Cert.OutProjRefIdeal.τ).loc Cert.OutProjRefIdeal.main_arg2))
          (m ((c.tc : Thread Cert.OutProjRefIdeal.nD Cert.OutProjRefIdeal.τ).loc Cert.OutProjRefIdeal.main_arg3)))
        (m ((c.tc : Thread Cert.OutProjRefIdeal.nD Cert.OutProjRefIdeal.τ).loc Cert.OutProjRefIdeal.main_arg4))
        (m ((c.tc : Thread Cert.OutProjRefIdeal.nD Cert.OutProjRefIdeal.τ).loc Cert.OutProjRefIdeal.main_arg5)) := by
  unfold Cert.OutProjRefIdeal.Value.res_main_v29 normed centred means summed
  rfl

/-- The sum at an entry, with the joined product split at the join. -/
theorem summed_at (yr yn : FVec Ideal S4x2048x1024 .f32) (x : FVec Ideal S4x2048x2048 .f32) (w : FVec Ideal S2048x2048 .f32)
    (i : Fin 4) (r j : Fin 2048) : summed yr yn x w (ix3 i r j)
      = Ideal.ofBits .f32 0x3FB504F3#32 * x (ix3 i r j)
        + (∑ k : Fin 1024, yr (ix3 i r k) * w (ix2 ⟨k.val, by omega⟩ j)
          + ∑ k : Fin 1024, yn (ix3 i r k) * w (ix2 ⟨1024 + k.val, by omega⟩ j)) := by
  unfold summed
  pointwise []

variable (v0 : Vec Ideal S256x1024 .f32) (v3 : Vec Ideal S1024x2048 .bf16) (v6 : Vec Ideal S256x1024 .f32)
  (v9 : Vec Ideal S1024x2048 .bf16) (v13 : Vec Ideal S256x2048 .f32)

/-- A block's centred row, where the block's sum is the row `s`. -/
theorem centred_block (r : Fin 256) (s : Fin 2048 → EReal)
    (h : ∀ j, Ideal.ofBits .f32 0x3FB504F3#32 * v13 (ix2 r j)
      + (∑ k, v0 (ix2 r k) * v3 (ix2 k j) + ∑ k, v6 (ix2 r k) * v9 (ix2 k j)) = s j) (j : Fin 2048) :
    k0_pay4 v0 v3 v6 v9 v13 (ix2 r j) = s j - Ideal.div (∑ k, s k) (Ideal.ofBits .f32 0x45000000#32) := by
  unfold k0_pay4
  pointwise []
  simp only [h]

/-- A block's row of the layer norm is that of the reference, where the blocks read its rows. -/
theorem normed_block (vg vb : Vec Ideal S1x2048 .f32) (yr yn : FVec Ideal S4x2048x1024 .f32) (x : FVec Ideal S4x2048x2048 .f32)
    (w : FVec Ideal S2048x2048 .f32) (g b : FVec Ideal S2048 .f32) (r : Fin 256) (j : Fin 2048) (i : Fin 8192)
    (h0 : ∀ k, v0 (ix2 r k) = yr (ix3 ⟨i.val / 2048, by omega⟩ ⟨i.val % 2048, by omega⟩ k))
    (h6 : ∀ k, v6 (ix2 r k) = yn (ix3 ⟨i.val / 2048, by omega⟩ ⟨i.val % 2048, by omega⟩ k))
    (h13 : ∀ k, v13 (ix2 r k) = x (ix3 ⟨i.val / 2048, by omega⟩ ⟨i.val % 2048, by omega⟩ k))
    (h3 : ∀ (k : Fin 1024) j, v3 (ix2 k j) = w (ix2 ⟨k.val, by omega⟩ j))
    (h9 : ∀ (k : Fin 1024) j, v9 (ix2 k j) = w (ix2 ⟨1024 + k.val, by omega⟩ j))
    (hg : ∀ j, vg (ix2 0 j) = g (ix1 j)) (hb : ∀ j, vb (ix2 0 j) = b (ix1 j)) :
    k0_pay1 (k0_pay2 vg) (k0_pay3 vb) (k0_pay4 v0 v3 v6 v9 v13) (k0_pay5 v0 v3 v6 v9 v13) (ix2 r j)
      = normed (summed yr yn x w) g b (ix2 i j) := by
  have e := centred_block v0 v3 v6 v9 v13 r
    (fun j => summed yr yn x w (ix3 ⟨i.val / 2048, by omega⟩ ⟨i.val % 2048, by omega⟩ j))
    (fun j => by simp only [summed_at, h0, h6, h13, h3, h9])
  unfold k0_pay5
  generalize k0_pay4 v0 v3 v6 v9 v13 = u at e ⊢
  generalize summed yr yn x w = z at e ⊢
  unfold k0_pay1 k0_pay2 k0_pay3 normed
  pointwise [centred, means]
  simp only [e, hg, hb]

/-- The windows' block indices. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- What the region finds: the arguments, their leading axes merged. -/
theorem entry (c : Dev nD) :
    V m c main_v0 = shapeCast S8192x1024 (m ((c : Thread nD τ).loc main_arg0)) shapeCasts_S4x2048x1024_S8192x1024
    ∧ V m c main_v1 = shapeCast S8192x1024 (m ((c : Thread nD τ).loc main_arg1)) shapeCasts_S4x2048x1024_S8192x1024
    ∧ V m c main_v2 = shapeCast S8192x2048 (m ((c : Thread nD τ).loc main_arg2)) shapeCasts_S4x2048x2048_S8192x2048
    ∧ V m c main_v3 = truncf (F := Ideal) .bf16 (m ((c : Thread nD τ).loc main_arg3)) bitsLt_bf16_f32
    ∧ V m c main_v4 = shapeCast S1x2048 (m ((c : Thread nD τ).loc main_arg4)) shapeCasts_S2048_S1x2048
    ∧ V m c main_v5 = shapeCast S1x2048 (m ((c : Thread nD τ).loc main_arg5)) shapeCasts_S2048_S1x2048 := by
  refine ⟨?_, ?_, ?_, ?_, ?_, ?_⟩ <;> (unfold V; after_results <;> rfl)

/-- Merging the leading axes keeps the row `i` at `(i / 2048, i % 2048)`. -/
theorem merged_narrow (x : FVec Ideal S4x2048x1024 .f32) (i : Fin 8192) (k : Fin 1024) :
    shapeCast S8192x1024 x shapeCasts_S4x2048x1024_S8192x1024 (ix2 i k)
      = x (ix3 ⟨i.val / 2048, by omega⟩ ⟨i.val % 2048, by omega⟩ k) := by pointwise []

theorem merged_wide (x : FVec Ideal S4x2048x2048 .f32) (i : Fin 8192) (k : Fin 2048) :
    shapeCast S8192x2048 x shapeCasts_S4x2048x2048_S8192x2048 (ix2 i k)
      = x (ix3 ⟨i.val / 2048, by omega⟩ ⟨i.val % 2048, by omega⟩ k) := by pointwise []

/-- The rows that a point's blocks read. -/
theorem yr_at (c : Dev nD) (t : Fin cfg0.N) (r : Fin 256) (k : Fin 1024) (i : Fin 8192) (h : i.val = t.val * 256 + r.val) :
    iblk m c 0 t (ix2 r k) = m ((c : Thread nD τ).loc main_arg0) (ix3 ⟨i.val / 2048, by omega⟩ ⟨i.val % 2048, by omega⟩ k) := by
  have e : iblk m c 0 t (ix2 r k) = V m c main_v0 (ix2 i k) := by
    blk_simp [iblk]
    congr 1
    blk_ext [idx t]
  rw [e, (entry m c).1]
  exact merged_narrow _ i k

theorem yn_at (c : Dev nD) (t : Fin cfg0.N) (r : Fin 256) (k : Fin 1024) (i : Fin 8192) (h : i.val = t.val * 256 + r.val) :
    iblk m c 1 t (ix2 r k) = m ((c : Thread nD τ).loc main_arg1) (ix3 ⟨i.val / 2048, by omega⟩ ⟨i.val % 2048, by omega⟩ k) := by
  have e : iblk m c 1 t (ix2 r k) = V m c main_v1 (ix2 i k) := by
    blk_simp [iblk]
    congr 1
    blk_ext [idx t]
  rw [e, (entry m c).2.1]
  exact merged_narrow _ i k

theorem x_at (c : Dev nD) (t : Fin cfg0.N) (r : Fin 256) (k : Fin 2048) (i : Fin 8192) (h : i.val = t.val * 256 + r.val) :
    iblk m c 2 t (ix2 r k) = m ((c : Thread nD τ).loc main_arg2) (ix3 ⟨i.val / 2048, by omega⟩ ⟨i.val % 2048, by omega⟩ k) := by
  have e : iblk m c 2 t (ix2 r k) = V m c main_v2 (ix2 i k) := by
    blk_simp [iblk]
    congr 1
    blk_ext [idx t]
  rw [e, (entry m c).2.2.1]
  exact merged_wide _ i k

/-- Every point reads the whole weight and both vectors of the norm. -/
theorem w_at (c : Dev nD) (t : Fin cfg0.N) (k j : Fin 2048) :
    iblk m c 3 t (ix2 k j) = m ((c : Thread nD τ).loc main_arg3) (ix2 k j) := by
  have e : iblk m c 3 t (ix2 k j) = V m c main_v3 (ix2 k j) := by
    blk_simp [iblk]
    congr 1
    blk_ext [idx t]
  rw [e, (entry m c).2.2.2.1]
  pointwise []

theorem g_at (c : Dev nD) (t : Fin cfg0.N) (j : Fin 2048) :
    iblk m c 4 t (ix2 0 j) = m ((c : Thread nD τ).loc main_arg4) (ix1 j) := by
  have e : iblk m c 4 t (ix2 0 j) = V m c main_v4 (ix2 0 j) := by
    blk_simp [iblk]
    congr 1
    blk_ext [idx t]
  rw [e, (entry m c).2.2.2.2.1]
  pointwise []

theorem b_at (c : Dev nD) (t : Fin cfg0.N) (j : Fin 2048) :
    iblk m c 5 t (ix2 0 j) = m ((c : Thread nD τ).loc main_arg5) (ix1 j) := by
  have e : iblk m c 5 t (ix2 0 j) = V m c main_v5 (ix2 0 j) := by
    blk_simp [iblk]
    congr 1
    blk_ext [idx t]
  rw [e, (entry m c).2.2.2.2.2]
  pointwise []

/-- The upper half of the weight. -/
theorem upper_at (c : Dev nD) (t : Fin cfg0.N) (k : Fin 1024) (j : Fin 2048) :
    View.ld (iblk m c 3 t) r0_1 (ix2 k j) = m ((c : Thread nD τ).loc main_arg3) (ix2 ⟨k.val, by omega⟩ j) := by
  refine Eq.trans (congrArg (iblk m c 3 t) ?_) (w_at m c t _ _)
  blk_ext [] <;> exact (Rect.idx_unit_val _ _ _ _ _).trans (by simp [ix2])

/-- The lower half of the weight. -/
theorem lower_at (c : Dev nD) (t : Fin cfg0.N) (k : Fin 1024) (j : Fin 2048) :
    View.ld (iblk m c 3 t) r0_2 (ix2 k j) = m ((c : Thread nD τ).loc main_arg3) (ix2 ⟨1024 + k.val, by omega⟩ j) := by
  refine Eq.trans (congrArg (iblk m c 3 t) ?_) (w_at m c t _ _)
  blk_ext [] <;> exact (Rect.idx_unit_val _ _ _ _ _).trans (by simp [ix2])

/-- The array the kernel leaves is the layer norm. -/
theorem final (c : Dev nD) : (dats m 0 c).arrAt 6 cfg0.N
    = normed (summed (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  refine (dats m 0 c).arrAt_eq_of_covers 6 _ (by decide +kernel) fun t hf y => ?_
  blk_simp
  obtain ⟨r, s, rfl⟩ : ∃ (r : Fin 256) (s : Fin 2048), y = ix2 r s := ⟨y 0, y 1, eq_ix2 y⟩
  rw [after0_6]
  frame_out
  have ht : t.val < 32 := t.isLt
  have hr := r.isLt
  have e : ((View.whole main_v6).slice (win0_6.rect t)).emb (ix2 r s)
      = ix2 (⟨t.val * 256 + r.val, by omega⟩ : Fin 8192) s := by blk_ext [idx t]
  refine Eq.trans ?_ (congrArg (normed _ _ _) e.symm)
  exact normed_block _ _ _ _ _ _ _ _ _ _ _ _ _ r s _ (fun k => yr_at m c t r k _ rfl) (fun k => yn_at m c t r k _ rfl)
    (fun k => x_at m c t r k _ rfl) (upper_at m c t) (lower_at m c t) (g_at m c t) (b_at m c t)

/-- The kernel's output is the reference's. -/
theorem algebraic : Cert.algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun _ h c => ⟨(h c).1.trans ?_, (h c).2⟩)
    (Cert.OutProjRefIdeal.Value.run (F := Ideal) m' ρ')
  obtain ⟨h0, h1, h2, h3, h4, h5⟩ := hagree c
  rw [final, reference_eq, h0, h1, h2, h3, h4, h5]

end Cert.Proof.OutProj

end
-- ==== Proof.OutProjSample.lean ====
/- The projection out of the layer's heads, with its residual and layer norm, of the sample's 32 rows. The kernel's one point
   multiplies all of them by the two halves of the weight; the argument is that of the prompt's rows. -/
module

public import proofs.«01_k».proof.Defs
public import proofs.«01_k».proof.Proof.Gen.OutProjSampleIdeal.Value
public import proofs.«01_k».proof.Proof.Gen.OutProjSampleRefIdeal.Run
public import Idealize.ShloMosaic.Lib.Pipeline.ValueKit
public import Idealize.ShloMosaic.Lib.Pointwise

@[expose] public section

set_option maxRecDepth 16384

noncomputable section

namespace Cert.Proof.OutProjSample

open Idealize.ShloMosaic Idealize.SL.Sem Idealize.ShloMosaic.TcCoe
open Cert.OutProjSampleIdeal Cert.OutProjSampleIdeal.Gen
open Idealize.ShloMosaic.Pipeline (Dat)

variable (m : (ℓ : Loc nD τ sig) → Buf (Elt Ideal) ℓ) (ρ : Dev nD → PrngReg)

/-- The scaled residual plus the projection of the two families joined. -/
def summed (yr yn : FVec Ideal S8x4x1024 .f32) (x : FVec Ideal S8x4x2048 .f32) (w : FVec Ideal S2048x2048 .f32) :
    FVec Ideal S8x4x2048 .f32 :=
  addf (mulf (broadcastInDim Cert.OutProjSampleRefIdeal.S8x4x2048 ![] Cert.OutProjSampleRefIdeal.Gen.bcast_S_S8x4x2048
      (constant Cert.OutProjSampleRefIdeal.S_ .f32 0x3FB504F3#32)) x)
    (Host.dotGeneral Cert.OutProjSampleRefIdeal.dot_S8x4x2048_S2048x2048_S8x4x2048_2_0_01_1_n_n none
      (concatenate Cert.OutProjSampleRefIdeal.S8x4x2048 2 [⟨Cert.OutProjSampleRefIdeal.S8x4x1024, yr⟩,
        ⟨Cert.OutProjSampleRefIdeal.S8x4x1024, yn⟩] Cert.OutProjSampleRefIdeal.Gen.concatenates_S8x4x1024_S8x4x1024_S8x4x2048_d2) w)

/-- The mean of every row. -/
def means (z : FVec Ideal S8x4x2048 .f32) : FVec Ideal Cert.OutProjSampleRefIdeal.S8x4x1 .f32 :=
  Host.divf (broadcastInDim Cert.OutProjSampleRefIdeal.S8x4x1 ![0, 1] Cert.OutProjSampleRefIdeal.Gen.bcast_S8x4_S8x4x1_0_1
      (Host.reduceAdd z (constant Cert.OutProjSampleRefIdeal.S_ .f32 0x00000000#32)
        Cert.OutProjSampleRefIdeal.Gen.reducesTo_S8x4x2048_S8x4_d2 Cert.OutProjSampleRefIdeal.Gen.h_S_))
    (broadcastInDim Cert.OutProjSampleRefIdeal.S8x4x1 ![] Cert.OutProjSampleRefIdeal.Gen.bcast_S_S8x4x1
      (constant Cert.OutProjSampleRefIdeal.S_ .f32 0x45000000#32))

/-- Every row less its mean. -/
def centred (z : FVec Ideal S8x4x2048 .f32) : FVec Ideal S8x4x2048 .f32 :=
  subf z (broadcastInDim Cert.OutProjSampleRefIdeal.S8x4x2048 ![0, 1, 2]
    Cert.OutProjSampleRefIdeal.Gen.bcast_S8x4x1_S8x4x2048_0_1_2 (means z))

/-- The layer norm of every row, with the leading axes merged. -/
def normed (z : FVec Ideal S8x4x2048 .f32) (g b : FVec Ideal S2048 .f32) : FVec Ideal S32x2048 .f32 :=
  shapeCast _ (addf (mulf (mulf (centred z)
      (broadcastInDim Cert.OutProjSampleRefIdeal.S8x4x2048 ![0, 1, 2]
        Cert.OutProjSampleRefIdeal.Gen.bcast_S8x4x1_S8x4x2048_0_1_2
        (Host.rsqrt (addf (means (mulf (centred z) (centred z)))
          (broadcastInDim Cert.OutProjSampleRefIdeal.S8x4x1 ![] Cert.OutProjSampleRefIdeal.Gen.bcast_S_S8x4x1
            (constant Cert.OutProjSampleRefIdeal.S_ .f32 0x3727C5AC#32))))))
      (broadcastInDim Cert.OutProjSampleRefIdeal.S8x4x2048 ![0, 1, 2]
        Cert.OutProjSampleRefIdeal.Gen.bcast_S1x1x2048_S8x4x2048_0_1_2
        (broadcastInDim Cert.OutProjSampleRefIdeal.S1x1x2048 ![2] Cert.OutProjSampleRefIdeal.Gen.bcast_S2048_S1x1x2048_2 g)))
    (broadcastInDim Cert.OutProjSampleRefIdeal.S8x4x2048 ![0, 1, 2]
      Cert.OutProjSampleRefIdeal.Gen.bcast_S1x1x2048_S8x4x2048_0_1_2
      (broadcastInDim Cert.OutProjSampleRefIdeal.S1x1x2048 ![2] Cert.OutProjSampleRefIdeal.Gen.bcast_S2048_S1x1x2048_2 b)))
    Cert.OutProjSampleRefIdeal.Gen.shapeCasts_S8x4x2048_S32x2048

/-- The reference leaves the layer norm. -/
theorem reference_eq (m : (ℓ : Loc Cert.OutProjSampleRefIdeal.nD Cert.OutProjSampleRefIdeal.τ Cert.OutProjSampleRefIdeal.sig) → Buf (Elt Ideal) ℓ)
    (c : Dev Cert.OutProjSampleRefIdeal.nD) : Cert.OutProjSampleRefIdeal.Value.res_main_v29 m c
      = normed (summed (m ((c.tc : Thread Cert.OutProjSampleRefIdeal.nD Cert.OutProjSampleRefIdeal.τ).loc Cert.OutProjSampleRefIdeal.main_arg0))
          (m ((c.tc : Thread Cert.OutProjSampleRefIdeal.nD Cert.OutProjSampleRefIdeal.τ).loc Cert.OutProjSampleRefIdeal.main_arg1))
          (m ((c.tc : Thread Cert.OutProjSampleRefIdeal.nD Cert.OutProjSampleRefIdeal.τ).loc Cert.OutProjSampleRefIdeal.main_arg2))
          (m ((c.tc : Thread Cert.OutProjSampleRefIdeal.nD Cert.OutProjSampleRefIdeal.τ).loc Cert.OutProjSampleRefIdeal.main_arg3)))
        (m ((c.tc : Thread Cert.OutProjSampleRefIdeal.nD Cert.OutProjSampleRefIdeal.τ).loc Cert.OutProjSampleRefIdeal.main_arg4))
        (m ((c.tc : Thread Cert.OutProjSampleRefIdeal.nD Cert.OutProjSampleRefIdeal.τ).loc Cert.OutProjSampleRefIdeal.main_arg5)) := by
  unfold Cert.OutProjSampleRefIdeal.Value.res_main_v29 normed centred means summed
  rfl

/-- The sum at an entry, with the joined product split at the join. -/
theorem summed_at (yr yn : FVec Ideal S8x4x1024 .f32) (x : FVec Ideal S8x4x2048 .f32) (w : FVec Ideal S2048x2048 .f32)
    (i : Fin 8) (r : Fin 4) (j : Fin 2048) : summed yr yn x w (ix3 i r j)
      = Ideal.ofBits .f32 0x3FB504F3#32 * x (ix3 i r j)
        + (∑ k : Fin 1024, yr (ix3 i r k) * w (ix2 ⟨k.val, by omega⟩ j)
          + ∑ k : Fin 1024, yn (ix3 i r k) * w (ix2 ⟨1024 + k.val, by omega⟩ j)) := by
  unfold summed
  pointwise []

variable (v0 : Vec Ideal S32x1024 .f32) (v3 : Vec Ideal S1024x2048 .bf16) (v6 : Vec Ideal S32x1024 .f32)
  (v9 : Vec Ideal S1024x2048 .bf16) (v13 : Vec Ideal S32x2048 .f32)

/-- A block's centred row, where the block's sum is the row `s`. -/
theorem centred_block (r : Fin 32) (s : Fin 2048 → EReal)
    (h : ∀ j, Ideal.ofBits .f32 0x3FB504F3#32 * v13 (ix2 r j)
      + (∑ k, v0 (ix2 r k) * v3 (ix2 k j) + ∑ k, v6 (ix2 r k) * v9 (ix2 k j)) = s j) (j : Fin 2048) :
    k0_pay4 v0 v3 v6 v9 v13 (ix2 r j) = s j - Ideal.div (∑ k, s k) (Ideal.ofBits .f32 0x45000000#32) := by
  unfold k0_pay4
  pointwise []
  simp only [h]

/-- A block's row of the layer norm is that of the reference, where the blocks read its rows. -/
theorem normed_block (vg vb : Vec Ideal S1x2048 .f32) (yr yn : FVec Ideal S8x4x1024 .f32) (x : FVec Ideal S8x4x2048 .f32)
    (w : FVec Ideal S2048x2048 .f32) (g b : FVec Ideal S2048 .f32) (r : Fin 32) (j : Fin 2048) (i : Fin 32)
    (h0 : ∀ k, v0 (ix2 r k) = yr (ix3 ⟨i.val / 4, by omega⟩ ⟨i.val % 4, by omega⟩ k))
    (h6 : ∀ k, v6 (ix2 r k) = yn (ix3 ⟨i.val / 4, by omega⟩ ⟨i.val % 4, by omega⟩ k))
    (h13 : ∀ k, v13 (ix2 r k) = x (ix3 ⟨i.val / 4, by omega⟩ ⟨i.val % 4, by omega⟩ k))
    (h3 : ∀ (k : Fin 1024) j, v3 (ix2 k j) = w (ix2 ⟨k.val, by omega⟩ j))
    (h9 : ∀ (k : Fin 1024) j, v9 (ix2 k j) = w (ix2 ⟨1024 + k.val, by omega⟩ j))
    (hg : ∀ j, vg (ix2 0 j) = g (ix1 j)) (hb : ∀ j, vb (ix2 0 j) = b (ix1 j)) :
    k0_pay1 (k0_pay2 vg) (k0_pay3 vb) (k0_pay4 v0 v3 v6 v9 v13) (k0_pay5 v0 v3 v6 v9 v13) (ix2 r j)
      = normed (summed yr yn x w) g b (ix2 i j) := by
  have e := centred_block v0 v3 v6 v9 v13 r
    (fun j => summed yr yn x w (ix3 ⟨i.val / 4, by omega⟩ ⟨i.val % 4, by omega⟩ j))
    (fun j => by simp only [summed_at, h0, h6, h13, h3, h9])
  unfold k0_pay5
  generalize k0_pay4 v0 v3 v6 v9 v13 = u at e ⊢
  generalize summed yr yn x w = z at e ⊢
  unfold k0_pay1 k0_pay2 k0_pay3 normed
  pointwise [centred, means]
  simp only [e, hg, hb]

/-- The windows' block indices. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- What the region finds: the arguments, their leading axes merged. -/
theorem entry (c : Dev nD) :
    V m c main_v0 = shapeCast S32x1024 (m ((c : Thread nD τ).loc main_arg0)) shapeCasts_S8x4x1024_S32x1024
    ∧ V m c main_v1 = shapeCast S32x1024 (m ((c : Thread nD τ).loc main_arg1)) shapeCasts_S8x4x1024_S32x1024
    ∧ V m c main_v2 = shapeCast S32x2048 (m ((c : Thread nD τ).loc main_arg2)) shapeCasts_S8x4x2048_S32x2048
    ∧ V m c main_v3 = truncf (F := Ideal) .bf16 (m ((c : Thread nD τ).loc main_arg3)) bitsLt_bf16_f32
    ∧ V m c main_v4 = shapeCast S1x2048 (m ((c : Thread nD τ).loc main_arg4)) shapeCasts_S2048_S1x2048
    ∧ V m c main_v5 = shapeCast S1x2048 (m ((c : Thread nD τ).loc main_arg5)) shapeCasts_S2048_S1x2048 := by
  refine ⟨?_, ?_, ?_, ?_, ?_, ?_⟩ <;> (unfold V; after_results <;> rfl)

/-- Merging the leading axes keeps the row `i` at `(i / 4, i % 4)`. -/
theorem merged_narrow (x : FVec Ideal S8x4x1024 .f32) (i : Fin 32) (k : Fin 1024) :
    shapeCast S32x1024 x shapeCasts_S8x4x1024_S32x1024 (ix2 i k)
      = x (ix3 ⟨i.val / 4, by omega⟩ ⟨i.val % 4, by omega⟩ k) := by pointwise []

theorem merged_wide (x : FVec Ideal S8x4x2048 .f32) (i : Fin 32) (k : Fin 2048) :
    shapeCast S32x2048 x shapeCasts_S8x4x2048_S32x2048 (ix2 i k)
      = x (ix3 ⟨i.val / 4, by omega⟩ ⟨i.val % 4, by omega⟩ k) := by pointwise []

/-- The rows that a point's blocks read. -/
theorem yr_at (c : Dev nD) (t : Fin cfg0.N) (r : Fin 32) (k : Fin 1024) (i : Fin 32) (h : i.val = t.val * 32 + r.val) :
    iblk m c 0 t (ix2 r k) = m ((c : Thread nD τ).loc main_arg0) (ix3 ⟨i.val / 4, by omega⟩ ⟨i.val % 4, by omega⟩ k) := by
  have e : iblk m c 0 t (ix2 r k) = V m c main_v0 (ix2 i k) := by
    blk_simp [iblk]
    congr 1
    blk_ext [idx t]
  rw [e, (entry m c).1]
  exact merged_narrow _ i k

theorem yn_at (c : Dev nD) (t : Fin cfg0.N) (r : Fin 32) (k : Fin 1024) (i : Fin 32) (h : i.val = t.val * 32 + r.val) :
    iblk m c 1 t (ix2 r k) = m ((c : Thread nD τ).loc main_arg1) (ix3 ⟨i.val / 4, by omega⟩ ⟨i.val % 4, by omega⟩ k) := by
  have e : iblk m c 1 t (ix2 r k) = V m c main_v1 (ix2 i k) := by
    blk_simp [iblk]
    congr 1
    blk_ext [idx t]
  rw [e, (entry m c).2.1]
  exact merged_narrow _ i k

theorem x_at (c : Dev nD) (t : Fin cfg0.N) (r : Fin 32) (k : Fin 2048) (i : Fin 32) (h : i.val = t.val * 32 + r.val) :
    iblk m c 2 t (ix2 r k) = m ((c : Thread nD τ).loc main_arg2) (ix3 ⟨i.val / 4, by omega⟩ ⟨i.val % 4, by omega⟩ k) := by
  have e : iblk m c 2 t (ix2 r k) = V m c main_v2 (ix2 i k) := by
    blk_simp [iblk]
    congr 1
    blk_ext [idx t]
  rw [e, (entry m c).2.2.1]
  exact merged_wide _ i k

/-- Every point reads the whole weight and both vectors of the norm. -/
theorem w_at (c : Dev nD) (t : Fin cfg0.N) (k j : Fin 2048) :
    iblk m c 3 t (ix2 k j) = m ((c : Thread nD τ).loc main_arg3) (ix2 k j) := by
  have e : iblk m c 3 t (ix2 k j) = V m c main_v3 (ix2 k j) := by
    blk_simp [iblk]
    congr 1
    blk_ext [idx t]
  rw [e, (entry m c).2.2.2.1]
  pointwise []

theorem g_at (c : Dev nD) (t : Fin cfg0.N) (j : Fin 2048) :
    iblk m c 4 t (ix2 0 j) = m ((c : Thread nD τ).loc main_arg4) (ix1 j) := by
  have e : iblk m c 4 t (ix2 0 j) = V m c main_v4 (ix2 0 j) := by
    blk_simp [iblk]
    congr 1
    blk_ext [idx t]
  rw [e, (entry m c).2.2.2.2.1]
  pointwise []

theorem b_at (c : Dev nD) (t : Fin cfg0.N) (j : Fin 2048) :
    iblk m c 5 t (ix2 0 j) = m ((c : Thread nD τ).loc main_arg5) (ix1 j) := by
  have e : iblk m c 5 t (ix2 0 j) = V m c main_v5 (ix2 0 j) := by
    blk_simp [iblk]
    congr 1
    blk_ext [idx t]
  rw [e, (entry m c).2.2.2.2.2]
  pointwise []

/-- The upper half of the weight. -/
theorem upper_at (c : Dev nD) (t : Fin cfg0.N) (k : Fin 1024) (j : Fin 2048) :
    View.ld (iblk m c 3 t) r0_1 (ix2 k j) = m ((c : Thread nD τ).loc main_arg3) (ix2 ⟨k.val, by omega⟩ j) := by
  refine Eq.trans (congrArg (iblk m c 3 t) ?_) (w_at m c t _ _)
  blk_ext [] <;> exact (Rect.idx_unit_val _ _ _ _ _).trans (by simp [ix2])

/-- The lower half of the weight. -/
theorem lower_at (c : Dev nD) (t : Fin cfg0.N) (k : Fin 1024) (j : Fin 2048) :
    View.ld (iblk m c 3 t) r0_2 (ix2 k j) = m ((c : Thread nD τ).loc main_arg3) (ix2 ⟨1024 + k.val, by omega⟩ j) := by
  refine Eq.trans (congrArg (iblk m c 3 t) ?_) (w_at m c t _ _)
  blk_ext [] <;> exact (Rect.idx_unit_val _ _ _ _ _).trans (by simp [ix2])

/-- The array the kernel leaves is the layer norm. -/
theorem final (c : Dev nD) : (dats m 0 c).arrAt 6 cfg0.N
    = normed (summed (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  refine (dats m 0 c).arrAt_eq_of_covers 6 _ (by decide +kernel) fun t hf y => ?_
  blk_simp
  obtain ⟨r, s, rfl⟩ : ∃ (r : Fin 32) (s : Fin 2048), y = ix2 r s := ⟨y 0, y 1, eq_ix2 y⟩
  rw [after0_6]
  frame_out
  have ht : t.val < 1 := t.isLt
  have hr := r.isLt
  have e : ((View.whole main_v6).slice (win0_6.rect t)).emb (ix2 r s)
      = ix2 (⟨t.val * 32 + r.val, by omega⟩ : Fin 32) s := by blk_ext [idx t]
  refine Eq.trans ?_ (congrArg (normed _ _ _) e.symm)
  exact normed_block _ _ _ _ _ _ _ _ _ _ _ _ _ r s _ (fun k => yr_at m c t r k _ rfl) (fun k => yn_at m c t r k _ rfl)
    (fun k => x_at m c t r k _ rfl) (upper_at m c t) (lower_at m c t) (g_at m c t) (b_at m c t)

/-- The kernel's output is the reference's. -/
theorem algebraic : Cert.algebraic_OutProjSampleIdeal_OutProjSampleRefIdeal := by
  intro m ρ m' ρ' _ hagree
  refine ⟨_, Cert.OutProjSampleIdeal.Value.run_blocks (F := Ideal) m ρ, ?_⟩
  refine (θ_run Cert.OutProjSampleRefIdeal.defs _ _).mono (fun _ h c => ⟨(h c).1.trans ?_, (h c).2⟩)
    (Cert.OutProjSampleRefIdeal.Value.run (F := Ideal) m' ρ')
  obtain ⟨h0, h1, h2, h3, h4, h5⟩ := hagree c
  rw [final, reference_eq, h0, h1, h2, h3, h4, h5]

end Cert.Proof.OutProjSample

end
-- ==== Proof.ScoresRun.lean ====
/- The scores call at the ideal values: one run of its body. The two score blocks are named by the eight tiles the body stores
   into each; of the statistics block only that it ends at some contents is said. -/
module

public import proofs.«01_k».proof.Proof.Gen.ScoresIdeal.Frame
public import proofs.«01_k».proof.Proof.Gen.ScoresIdeal.Skeleton
public import proofs.«01_k».proof.Proof.Gen.ScoresIdeal.Loops

@[expose] public section

set_option maxRecDepth 16384

noncomputable section

namespace Cert.Proof.ScoresRun

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The boxes the body reads and writes. -/

/-- All of the block of rows. -/
abbrev rX : Rect S256x2048 := Rect.unit (s := S256x2048) ![0, 0] S256x2048.size inb_S256x2048_S256x2048_0_0
/-- All of the query weights. -/
abbrev rW : Rect S2048x2048 := Rect.unit (s := S2048x2048) ![0, 0] S2048x2048.size inb_S2048x2048_S2048x2048_0_0
/-! The key table of each half of a head (first index), -/
abbrev rK0 : Rect S16x128x128 := Rect.unit (s := S16x128x128) ![0, 0, 0] S1x128x128.size inb_S16x128x128_S1x128x128_0_0_0
abbrev rK1 : Rect S16x128x128 := Rect.unit (s := S16x128x128) ![1, 0, 0] S1x128x128.size inb_S16x128x128_S1x128x128_1_0_0
abbrev rK2 : Rect S16x128x128 := Rect.unit (s := S16x128x128) ![2, 0, 0] S1x128x128.size inb_S16x128x128_S1x128x128_2_0_0
abbrev rK3 : Rect S16x128x128 := Rect.unit (s := S16x128x128) ![3, 0, 0] S1x128x128.size inb_S16x128x128_S1x128x128_3_0_0
abbrev rK4 : Rect S16x128x128 := Rect.unit (s := S16x128x128) ![4, 0, 0] S1x128x128.size inb_S16x128x128_S1x128x128_4_0_0
abbrev rK5 : Rect S16x128x128 := Rect.unit (s := S16x128x128) ![5, 0, 0] S1x128x128.size inb_S16x128x128_S1x128x128_5_0_0
abbrev rK6 : Rect S16x128x128 := Rect.unit (s := S16x128x128) ![6, 0, 0] S1x128x128.size inb_S16x128x128_S1x128x128_6_0_0
abbrev rK7 : Rect S16x128x128 := Rect.unit (s := S16x128x128) ![7, 0, 0] S1x128x128.size inb_S16x128x128_S1x128x128_7_0_0
abbrev rK8 : Rect S16x128x128 := Rect.unit (s := S16x128x128) ![8, 0, 0] S1x128x128.size inb_S16x128x128_S1x128x128_8_0_0
abbrev rK9 : Rect S16x128x128 := Rect.unit (s := S16x128x128) ![9, 0, 0] S1x128x128.size inb_S16x128x128_S1x128x128_9_0_0
abbrev rK10 : Rect S16x128x128 := Rect.unit (s := S16x128x128) ![10, 0, 0] S1x128x128.size inb_S16x128x128_S1x128x128_10_0_0
abbrev rK11 : Rect S16x128x128 := Rect.unit (s := S16x128x128) ![11, 0, 0] S1x128x128.size inb_S16x128x128_S1x128x128_11_0_0
abbrev rK12 : Rect S16x128x128 := Rect.unit (s := S16x128x128) ![12, 0, 0] S1x128x128.size inb_S16x128x128_S1x128x128_12_0_0
abbrev rK13 : Rect S16x128x128 := Rect.unit (s := S16x128x128) ![13, 0, 0] S1x128x128.size inb_S16x128x128_S1x128x128_13_0_0
abbrev rK14 : Rect S16x128x128 := Rect.unit (s := S16x128x128) ![14, 0, 0] S1x128x128.size inb_S16x128x128_S1x128x128_14_0_0
abbrev rK15 : Rect S16x128x128 := Rect.unit (s := S16x128x128) ![15, 0, 0] S1x128x128.size inb_S16x128x128_S1x128x128_15_0_0
/-! and the tile of each head in a block of scores. -/
abbrev rT0 : Rect S8x128x256 := Rect.unit (s := S8x128x256) ![0, 0, 0] S1x128x256.size inb_S8x128x256_S1x128x256_0_0_0
abbrev rT1 : Rect S8x128x256 := Rect.unit (s := S8x128x256) ![1, 0, 0] S1x128x256.size inb_S8x128x256_S1x128x256_1_0_0
abbrev rT2 : Rect S8x128x256 := Rect.unit (s := S8x128x256) ![2, 0, 0] S1x128x256.size inb_S8x128x256_S1x128x256_2_0_0
abbrev rT3 : Rect S8x128x256 := Rect.unit (s := S8x128x256) ![3, 0, 0] S1x128x256.size inb_S8x128x256_S1x128x256_3_0_0
abbrev rT4 : Rect S8x128x256 := Rect.unit (s := S8x128x256) ![4, 0, 0] S1x128x256.size inb_S8x128x256_S1x128x256_4_0_0
abbrev rT5 : Rect S8x128x256 := Rect.unit (s := S8x128x256) ![5, 0, 0] S1x128x256.size inb_S8x128x256_S1x128x256_5_0_0
abbrev rT6 : Rect S8x128x256 := Rect.unit (s := S8x128x256) ![6, 0, 0] S1x128x256.size inb_S8x128x256_S1x128x256_6_0_0
abbrev rT7 : Rect S8x128x256 := Rect.unit (s := S8x128x256) ![7, 0, 0] S1x128x256.size inb_S8x128x256_S1x128x256_7_0_0

/-- The block's queries: its rows through the query weights. -/
abbrev queries (x0 : Vec F S256x2048 .f32) (x1 : Vec F S2048x2048 .bf16) : FVec F S256x2048 .bf16 :=
  k0_pay99 (View.ld x0 rX) (View.ld x1 rW)

/-- The first score block as the body leaves it: one tile a head, the last stored first. -/
def first (x0 : Vec F S256x2048 .f32) (x1 : Vec F S2048x2048 .bf16) (x2 : Vec F S16x128x128 .bf16) : Vec F S8x128x256 .f32 :=
  View.canon [
    ⟨rT7, k0_pay145 (queries x0 x1) (View.ld x2 rK14)⟩,
    ⟨rT6, k0_pay139 (queries x0 x1) (View.ld x2 rK12)⟩,
    ⟨rT5, k0_pay133 (k0_pay130 (View.ld x2 rK10)) (k0_pay131 (queries x0 x1)) (constant S128x256 .f32 0x00000000#32)⟩,
    ⟨rT4, k0_pay125 (queries x0 x1) (View.ld x2 rK8)⟩,
    ⟨rT3, k0_pay119 (queries x0 x1) (View.ld x2 rK6)⟩,
    ⟨rT2, k0_pay113 (queries x0 x1) (View.ld x2 rK4)⟩,
    ⟨rT1, k0_pay107 (queries x0 x1) (View.ld x2 rK2)⟩,
    ⟨rT0, k0_pay101 (View.ld x0 rX) (View.ld x1 rW) (View.ld x2 rK0)⟩]

/-- The second score block as the body leaves it. -/
def second (x0 : Vec F S256x2048 .f32) (x1 : Vec F S2048x2048 .bf16) (x2 : Vec F S16x128x128 .bf16) : Vec F S8x128x256 .f32 :=
  View.canon [
    ⟨rT7, k0_pay148 (queries x0 x1) (View.ld x2 rK15)⟩,
    ⟨rT6, k0_pay142 (queries x0 x1) (View.ld x2 rK13)⟩,
    ⟨rT5, k0_pay136 (queries x0 x1) (View.ld x2 rK11)⟩,
    ⟨rT4, k0_pay128 (queries x0 x1) (View.ld x2 rK9)⟩,
    ⟨rT3, k0_pay122 (k0_pay121 (queries x0 x1) (View.ld x2 rK7))⟩,
    ⟨rT2, k0_pay116 (queries x0 x1) (View.ld x2 rK5)⟩,
    ⟨rT1, k0_pay110 (queries x0 x1) (View.ld x2 rK3)⟩,
    ⟨rT0, k0_pay104 (View.ld x0 rX) (View.ld x1 rW) (View.ld x2 rK1)⟩]

/-- Eight tiles, one a head, leave no entry of a score block unwritten. -/
theorem tiles_cover (p0 p1 p2 p3 p4 p5 p6 p7 : Vec F S1x128x256 .f32) (y : S8x128x256.Idx) :
    ∃ pc ∈ ([⟨rT7, p7⟩, ⟨rT6, p6⟩, ⟨rT5, p5⟩, ⟨rT4, p4⟩, ⟨rT3, p3⟩, ⟨rT2, p2⟩, ⟨rT1, p1⟩, ⟨rT0, p0⟩] :
      List (View.Piece (Elt F) S8x128x256 .f32)), y ∈ pc.1.set :=
  View.cover_of_tiled [⟨rT7, p7⟩, ⟨rT6, p6⟩, ⟨rT5, p5⟩, ⟨rT4, p4⟩, ⟨rT3, p3⟩, ⟨rT2, p2⟩, ⟨rT1, p1⟩, ⟨rT0, p0⟩]
    S1x128x256.size (by rfl) y

set_option maxHeartbeats 4000000 in
/-- One run of the body from any contents of its outputs and scratch: the inputs are kept, the score blocks end at
    `first` and `second` of them. -/
theorem body_run (c : Dev nD) (i : grid0.Coords) (arg1 : Memref sig .tc .vmem S256x2048 .f32) (harg1 : arg1.IsWhole)
    (arg2 : Memref sig .tc .vmem S2048x2048 .bf16) (harg2 : arg2.IsWhole)
    (arg3 : Memref sig .tc .vmem S16x128x128 .bf16) (harg3 : arg3.IsWhole)
    (arg4 : Memref sig .tc .vmem S8x128x256 .f32) (harg4 : arg4.IsWhole)
    (arg5 : Memref sig .tc .vmem S8x128x256 .f32) (harg5 : arg5.IsWhole)
    (arg6 : Memref sig .tc .vmem S4x8x256 .f32) (harg6 : arg6.IsWhole)
    (arg7 : Memref sig .tc .vmem S16x128x256 .f32) (harg7 : arg7.IsWhole)
    (arg8 : Memref sig .tc .vmem S8x56x256 .f32) (harg8 : arg8.IsWhole)
    (arg9 : Memref sig .tc .vmem S16x16x256 .f32) (harg9 : arg9.IsWhole)
    (arg10 : Memref sig .tc .vmem S8x16x256 .f32) (harg10 : arg10.IsWhole)
    (x0 : Vec F S256x2048 .f32) (x1 : Vec F S2048x2048 .bf16) (x2 : Vec F S16x128x128 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (first x0 x1 x2)
            ∗ owns (c : Thread nD τ) arg5 fullShare (second x0 x1 x2) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
        (cc0_peer_scores i arg1 harg1 arg2 harg2 arg3 harg3 arg4 harg4 arg5 harg5 arg6 harg6 arg7 harg7 arg8 harg8 arg9 harg9 arg10 harg10) K := by
  simp only [cc0_peer_scores_eq_skeleton]; unfold cc0_peer_scores_skel
  simp only [k0_part54_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    exact View.read_writes_eq_canon _ _ _ (tiles_cover _ _ _ _ _ _ _ _)
  isplitl [H4]
  · iexists _; isplitr; swap; · iexact H4
    ipureintro
    exact View.read_writes_eq_canon _ _ _ (tiles_cover _ _ _ _ _ _ _ _)
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

end Cert.Proof.ScoresRun

end
-- ==== Proof.ScoresLaunch.lean ====
/- The scores call at the ideal values: the whole launch. Every point of its grid runs the body on that point's blocks, and the two
   score arrays end at what the points leave in them; the statistics array is left out of what is said. -/
module

public import proofs.«01_k».proof.Proof.ScoresRun
public import Idealize.ShloMosaic.Lib.Claim

@[expose] public section

set_option maxRecDepth 16384

noncomputable section

namespace Cert.Proof.ScoresRun

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of the statistics (window 5). -/
def unsaid : Fin 6 → Bool := fun w => w.val == 5

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => first (iblk m c 0 t) (iblk m c 1 t) (iblk m c 2 t)
    | ⟨4, _⟩ => second (iblk m c 0 t) (iblk m c 1 t) (iblk m c 2 t)
    | ⟨5, h⟩ => Pipeline.Dat.unnamed (cfg := cfg0) ⟨5, h⟩ t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = first (iblk m c 0 t) (iblk m c 1 t) (iblk m c 2 t) := by dsimp only [dats]
theorem after4 (c : Dev nD) (t : Fin cfg0.N) :
    (dats m 0 c).after 4 t = second (iblk m c 0 t) (iblk m c 1 t) (iblk m c 2 t) := by dsimp only [dats]

theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d

/-- The pipeline's invariant is the four scratch buffers at some contents beside the generator register. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- and what it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

set_option maxHeartbeats 800000 in
/-- The body at any point, by its one run on that point's blocks. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unsaid := fun t => by
  rw [bigSep_W0, bigSep_W0, body_row]
  exact triple_restated (body_at m c t) rfl .rfl fun _ => .rfl

-- the library's run is matched against the statement by unfolding plain definitions in its implicit arguments' types
set_option backward.isDefEq.respectTransparency.types false in
/-- Every execution ends, the staged arrays as `dats` says and the counters at zero. -/
theorem launch_run : θ_run defs (onTc (τ := τ) (main (F := F))) (s₀ m ρ) (fun r =>
    (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := arrays_eq m) (hΦ := fun _ _ => rfl)

/-- Every execution ends with the two score arrays at what the points left in them, the arguments as launched and the
    counters at zero. -/
theorem run : θ_run defs (onTc (τ := τ) (main (F := F))) ⟨m, fun _ => 0, ρ⟩ (fun r => (∀ c : Dev nD,
      (r.2.mem ((c.tc : Thread nD τ).loc main_v4_0) = (dats m 0 c).arrAt 3 cfg0.N
        ∧ r.2.mem ((c.tc : Thread nD τ).loc main_v4_1) = (dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨⟨((dats m 0 c).toRForget_arrAt_iff rfl cfg0.N _).mp ((h.1 c).1 3),
      ((dats m 0 c).toRForget_arrAt_iff rfl cfg0.N _).mp ((h.1 c).1 4)⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (launch_run m ρ)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.Proof.ScoresRun

end
-- ==== Proof.Scores.lean ====
/- The scores of the layer's routing: every row's query, cut into the halves of the eight heads, against the 128 keys of
   each half. Every point of the kernel's grid forms the queries of 256 rows and stores one tile of scores a half of a
   head; the reference forms them all at once and turns each half to keys by rows. -/
module

public import proofs.«01_k».proof.Defs
public import proofs.«01_k».proof.Proof.ScoresLaunch
public import proofs.«01_k».proof.Proof.Gen.ScoresRefIdeal.Run
public import Idealize.ShloMosaic.Lib.Pipeline.ValueKit
public import Idealize.ShloMosaic.Lib.Pointwise

@[expose] public section

set_option maxRecDepth 16384

noncomputable section

namespace Cert.Proof.Scores

open Idealize.ShloMosaic Idealize.SL.Sem Idealize.ShloMosaic.TcCoe
open Cert.ScoresIdeal Cert.ScoresIdeal.Gen Cert.Proof.ScoresRun
open Idealize.ShloMosaic.Pipeline (Dat)

variable (m : (ℓ : Loc nD τ sig) → Buf (Elt Ideal) ℓ) (ρ : Dev nD → PrngReg)

/-- The queries of all rows. -/
def projected (x : FVec Ideal S4x2048x2048 .f32) (w : FVec Ideal S2048x2048 .f32) : FVec Ideal S8192x2048 .f32 :=
  Host.dotGeneral Cert.ScoresRefIdeal.dot_S8192x2048_S2048x2048_S8192x2048_1_0_0_1_n_n none
    (shapeCast Cert.ScoresRefIdeal.S8192x2048 x Cert.ScoresRefIdeal.Gen.shapeCasts_S4x2048x2048_S8192x2048) w

/-- The scores of queries `q` against the keys `k`, by row, head, half and key. -/
def scored (q : FVec Ideal S8192x2048 .f32) (k : FVec Ideal S8x2x128x128 .f32) :
    FVec Ideal Cert.ScoresRefIdeal.S8192x8x2x128 .f32 :=
  transpose Cert.ScoresRefIdeal.S8192x8x2x128 [3, 0, 1, 2]
    (Host.dotGeneral Cert.ScoresRefIdeal.dot_S8x2x128x128_S8192x8x2x128_S8x2x128x8192_3_3_2_0_01_12 none k
      (shapeCast Cert.ScoresRefIdeal.S8192x8x2x128 q Cert.ScoresRefIdeal.Gen.shapeCasts_S8192x2048_S8192x8x2x128))
    Cert.ScoresRefIdeal.Gen.transposes_S8x2x128x8192_S8192x8x2x128_3_0_1_2

/-- The first half's scores, by head, key and row: the reference's first result, -/
def firstScores (s : FVec Ideal Cert.ScoresRefIdeal.S8192x8x2x128 .f32) : FVec Ideal S8x128x8192 .f32 :=
  transpose Cert.ScoresRefIdeal.S8x128x8192 [1, 2, 0]
    (shapeCast Cert.ScoresRefIdeal.S8192x8x128 (extractStridedSlice Cert.ScoresRefIdeal.S8192x8x1x128 ![0, 0, 0, 0] s
        Cert.ScoresRefIdeal.Gen.slices_S8192x8x2x128_S8192x8x1x128_0_0_0_0)
      Cert.ScoresRefIdeal.Gen.shapeCasts_S8192x8x1x128_S8192x8x128)
    Cert.ScoresRefIdeal.Gen.transposes_S8192x8x128_S8x128x8192_1_2_0

/-- and the second half's, its second. -/
def secondScores (s : FVec Ideal Cert.ScoresRefIdeal.S8192x8x2x128 .f32) : FVec Ideal S8x128x8192 .f32 :=
  transpose Cert.ScoresRefIdeal.S8x128x8192 [1, 2, 0]
    (shapeCast Cert.ScoresRefIdeal.S8192x8x128 (extractStridedSlice Cert.ScoresRefIdeal.S8192x8x1x128 ![0, 0, 1, 0] s
        Cert.ScoresRefIdeal.Gen.slices_S8192x8x2x128_S8192x8x1x128_0_0_1_0)
      Cert.ScoresRefIdeal.Gen.shapeCasts_S8192x8x1x128_S8192x8x128)
    Cert.ScoresRefIdeal.Gen.transposes_S8192x8x128_S8x128x8192_1_2_0

/-- A query's entry. -/
theorem projected_at (x : FVec Ideal S4x2048x2048 .f32) (w : FVec Ideal S2048x2048 .f32) (n : Fin 8192) (l : Fin 2048) :
    projected x w (ix2 n l)
      = ∑ j : Fin 2048, x (ix3 ⟨n.val / 2048, by omega⟩ ⟨n.val % 2048, by omega⟩ j) * w (ix2 j l) := by
  unfold projected
  pointwise []

/-- A score, with the place of its head and half among a query's columns. -/
theorem scored_at (q : FVec Ideal S8192x2048 .f32) (k : FVec Ideal S8x2x128x128 .f32) (n : Fin 8192) (h : Fin 8) (b : Fin 2)
    (j : Fin 128) : scored q k (ix4 n h b j)
      = ∑ d : Fin 128, k (ix4 h b j d) * q (ix2 n ⟨h.val * 256 + b.val * 128 + d.val, by omega⟩) := by
  unfold scored
  pointwise []

theorem firstScores_at (s : FVec Ideal Cert.ScoresRefIdeal.S8192x8x2x128 .f32) (h : Fin 8) (j : Fin 128) (n : Fin 8192) :
    firstScores s (ix3 h j n) = s (ix4 n h 0 j) := by
  unfold firstScores
  pointwise []

theorem secondScores_at (s : FVec Ideal Cert.ScoresRefIdeal.S8192x8x2x128 .f32) (h : Fin 8) (j : Fin 128) (n : Fin 8192) :
    secondScores s (ix3 h j n) = s (ix4 n h 1 j) := by
  unfold secondScores
  pointwise []

/-- A block's queries. -/
theorem queries_at (v0 : Vec Ideal S256x2048 .f32) (v3 : Vec Ideal S2048x2048 .bf16) (r : Fin 256) (l : Fin 2048) :
    k0_pay99 v0 v3 (ix2 r l) = ∑ j : Fin 2048, v0 (ix2 r j) * v3 (ix2 j l) := by
  unfold k0_pay99
  pointwise []

/-- The score of row `r` of a block against key `j` of half `p`, the halves of the heads counted through. -/
def score (q : FVec Ideal S256x2048 .bf16) (k : Vec Ideal S16x128x128 .bf16) (p : Fin 16) (j : Fin 128) (r : Fin 256) : EReal :=
  ∑ d : Fin 128, k (ix3 p j d) * q (ix2 r ⟨p.val * 128 + d.val, by omega⟩)

/-- A tile's product, where `k` is the keys of one half and the half's columns of the queries start at `o`. -/
theorem product_at (q : FVec Ideal S256x2048 .bf16) (k : Vec Ideal S1x128x128 .bf16) (o : ℕ)
    (hs : S256x2048.Slices ![0, o] S256x128) (ho : o + 128 ≤ 2048) (z : Fin 1) (j : Fin 128) (r : Fin 256) :
    shapeCast S1x128x256 (matmul dot_S128x128_S256x128_S128x256_1_1_0_0_n_n none
        (shapeCast S128x128 k shapeCasts_S1x128x128_S128x128 : FVec Ideal S128x128 .bf16)
        (extractStridedSlice S256x128 ![0, o] q hs) (constant (F := Ideal) S128x256 .f32 0x00000000#32))
        shapeCasts_S128x256_S1x128x256 (ix3 z j r)
      = ∑ d : Fin 128, k (ix3 0 j d) * q (ix2 r ⟨o + d.val, by omega⟩) := by
  pointwise []

/-- The keys of one half. -/
theorem keys_at (k : Vec Ideal S16x128x128 .bf16) (s : ℕ) (hk : s < 16)
    (hin : ∀ a, (![s, 0, 0] : Fin 3 → ℕ) a + S1x128x128.size a ≤ S16x128x128.size a) (j d : Fin 128) :
    View.ld k (Rect.unit (s := S16x128x128) ![s, 0, 0] S1x128x128.size hin) (ix3 0 j d) = k (ix3 ⟨s, hk⟩ j d) := by
  refine congrArg k ?_
  blk_ext [] <;> exact (Rect.idx_unit_val _ _ _ _ _).trans (by simp [ix3])

/-- A tile of the scores of half `p`. -/
theorem tile_at (q : FVec Ideal S256x2048 .bf16) (k : Vec Ideal S16x128x128 .bf16) (p : Fin 16) (s o : ℕ)
    (hin : ∀ a, (![s, 0, 0] : Fin 3 → ℕ) a + S1x128x128.size a ≤ S16x128x128.size a)
    (hs : S256x2048.Slices ![0, o] S256x128) (hp : s = p.val) (ho : o = p.val * 128) (z : Fin 1) (j : Fin 128) (r : Fin 256) :
    shapeCast S1x128x256 (matmul dot_S128x128_S256x128_S128x256_1_1_0_0_n_n none
        (shapeCast S128x128 (View.ld k (Rect.unit (s := S16x128x128) ![s, 0, 0] S1x128x128.size hin))
          shapeCasts_S1x128x128_S128x128 : FVec Ideal S128x128 .bf16)
        (extractStridedSlice S256x128 ![0, o] q hs) (constant (F := Ideal) S128x256 .f32 0x00000000#32))
        shapeCasts_S128x256_S1x128x256 (ix3 z j r) = score q k p j r := by
  subst hp ho
  refine (product_at q _ _ hs (by omega) z j r).trans (Finset.sum_congr (M := EReal) rfl fun d _ => ?_)
  rw [keys_at k p.val p.isLt hin j d]

variable (x0 : Vec Ideal S256x2048 .f32) (x1 : Vec Ideal S2048x2048 .bf16) (x2 : Vec Ideal S16x128x128 .bf16)

/-- The first score block holds every head's first half, -/
theorem first_at (h : Fin 8) (j : Fin 128) (r : Fin 256) :
    first x0 x1 x2 (ix3 h j r) = score (queries x0 x1) x2 ⟨h.val * 2, by omega⟩ j r := by
  unfold first
  canon_tiles u e <;>
    obtain ⟨z, j', r', rfl⟩ : ∃ (z : Fin 1) (j' : Fin 128) (r' : Fin 256), u = ix3 z j' r' := ⟨u 0, u 1, u 2, eq_ix3 u⟩ <;>
    obtain rfl : j = j' := Fin.ext e1 <;>
    obtain rfl : r = r' := Fin.ext e2
  case piece0 =>
    have h' : h.val = 7 + z.val := e0
    exact tile_at _ _ _ _ _ inb_S16x128x128_S1x128x128_14_0_0 slices_S256x2048_o0_1792_S256x128 (by dsimp only; omega) (by dsimp only; omega) z j r
  case piece1 =>
    have h' : h.val = 6 + z.val := e0
    exact tile_at _ _ _ _ _ inb_S16x128x128_S1x128x128_12_0_0 slices_S256x2048_o0_1536_S256x128 (by dsimp only; omega) (by dsimp only; omega) z j r
  case piece2 =>
    have h' : h.val = 5 + z.val := e0
    exact tile_at _ _ _ _ _ inb_S16x128x128_S1x128x128_10_0_0 slices_S256x2048_o0_1280_S256x128 (by dsimp only; omega) (by dsimp only; omega) z j r
  case piece3 =>
    have h' : h.val = 4 + z.val := e0
    exact tile_at _ _ _ _ _ inb_S16x128x128_S1x128x128_8_0_0 slices_S256x2048_o0_1024_S256x128 (by dsimp only; omega) (by dsimp only; omega) z j r
  case piece4 =>
    have h' : h.val = 3 + z.val := e0
    exact tile_at _ _ _ _ _ inb_S16x128x128_S1x128x128_6_0_0 slices_S256x2048_o0_768_S256x128 (by dsimp only; omega) (by dsimp only; omega) z j r
  case piece5 =>
    have h' : h.val = 2 + z.val := e0
    exact tile_at _ _ _ _ _ inb_S16x128x128_S1x128x128_4_0_0 slices_S256x2048_o0_512_S256x128 (by dsimp only; omega) (by dsimp only; omega) z j r
  case piece6 =>
    have h' : h.val = 1 + z.val := e0
    exact tile_at _ _ _ _ _ inb_S16x128x128_S1x128x128_2_0_0 slices_S256x2048_o0_256_S256x128 (by dsimp only; omega) (by dsimp only; omega) z j r
  case piece7 =>
    have h' : h.val = z.val := e0
    exact tile_at _ _ _ _ _ inb_S16x128x128_S1x128x128_0_0_0 slices_S256x2048_o0_0_S256x128 (by dsimp only; omega) (by dsimp only; omega) z j r

/-- and the second every head's second half. -/
theorem second_at (h : Fin 8) (j : Fin 128) (r : Fin 256) :
    second x0 x1 x2 (ix3 h j r) = score (queries x0 x1) x2 ⟨h.val * 2 + 1, by omega⟩ j r := by
  unfold second
  canon_tiles u e <;>
    obtain ⟨z, j', r', rfl⟩ : ∃ (z : Fin 1) (j' : Fin 128) (r' : Fin 256), u = ix3 z j' r' := ⟨u 0, u 1, u 2, eq_ix3 u⟩ <;>
    obtain rfl : j = j' := Fin.ext e1 <;>
    obtain rfl : r = r' := Fin.ext e2
  case piece0 =>
    have h' : h.val = 7 + z.val := e0
    exact tile_at _ _ _ _ _ inb_S16x128x128_S1x128x128_15_0_0 slices_S256x2048_o0_1920_S256x128 (by dsimp only; omega) (by dsimp only; omega) z j r
  case piece1 =>
    have h' : h.val = 6 + z.val := e0
    exact tile_at _ _ _ _ _ inb_S16x128x128_S1x128x128_13_0_0 slices_S256x2048_o0_1664_S256x128 (by dsimp only; omega) (by dsimp only; omega) z j r
  case piece2 =>
    have h' : h.val = 5 + z.val := e0
    exact tile_at _ _ _ _ _ inb_S16x128x128_S1x128x128_11_0_0 slices_S256x2048_o0_1408_S256x128 (by dsimp only; omega) (by dsimp only; omega) z j r
  case piece3 =>
    have h' : h.val = 4 + z.val := e0
    exact tile_at _ _ _ _ _ inb_S16x128x128_S1x128x128_9_0_0 slices_S256x2048_o0_1152_S256x128 (by dsimp only; omega) (by dsimp only; omega) z j r
  case piece4 =>
    have h' : h.val = 3 + z.val := e0
    exact tile_at _ _ _ _ _ inb_S16x128x128_S1x128x128_7_0_0 slices_S256x2048_o0_896_S256x128 (by dsimp only; omega) (by dsimp only; omega) z j r
  case piece5 =>
    have h' : h.val = 2 + z.val := e0
    exact tile_at _ _ _ _ _ inb_S16x128x128_S1x128x128_5_0_0 slices_S256x2048_o0_640_S256x128 (by dsimp only; omega) (by dsimp only; omega) z j r
  case piece6 =>
    have h' : h.val = 1 + z.val := e0
    exact tile_at _ _ _ _ _ inb_S16x128x128_S1x128x128_3_0_0 slices_S256x2048_o0_384_S256x128 (by dsimp only; omega) (by dsimp only; omega) z j r
  case piece7 =>
    have h' : h.val = z.val := e0
    exact tile_at _ _ _ _ _ inb_S16x128x128_S1x128x128_1_0_0 slices_S256x2048_o0_128_S256x128 (by dsimp only; omega) (by dsimp only; omega) z j r

/-- The windows' block indices. -/
theorem idx : ∀ t : Fin cfg0.N, win0_0.index t = ![t.val, 0] ∧ win0_1.index t = ![0, 0] ∧ win0_2.index t = ![0, 0, 0]
    ∧ win0_3.index t = ![0, 0, t.val] ∧ win0_4.index t = ![0, 0, t.val] :=
  (by decide +kernel : ∀ t : Fin grid0.N, _)

/-- What the region finds: the arguments, the rows' leading axes merged and the keys' too. -/
theorem entry (c : Dev nD) :
    V m c main_v0 = shapeCast S8192x2048 (m ((c : Thread nD τ).loc main_arg0)) shapeCasts_S4x2048x2048_S8192x2048
    ∧ V m c main_v1 = truncf (F := Ideal) .bf16 (m ((c : Thread nD τ).loc main_arg1)) bitsLt_bf16_f32
    ∧ V m c main_v3 = truncf (F := Ideal) .bf16
        (shapeCast S16x128x128 (m ((c : Thread nD τ).loc main_arg2)) shapeCasts_S8x2x128x128_S16x128x128) bitsLt_bf16_f32 := by
  refine ⟨?_, ?_, ?_⟩ <;> (unfold V; after_results <;> rfl)

theorem merged_rows (x : FVec Ideal S4x2048x2048 .f32) (i : Fin 8192) (k : Fin 2048) :
    shapeCast S8192x2048 x shapeCasts_S4x2048x2048_S8192x2048 (ix2 i k)
      = x (ix3 ⟨i.val / 2048, by omega⟩ ⟨i.val % 2048, by omega⟩ k) := by pointwise []

theorem merged_keys (k : FVec Ideal S8x2x128x128 .f32) (p : Fin 16) (h : Fin 8) (b : Fin 2) (e : p.val = h.val * 2 + b.val)
    (j d : Fin 128) :
    truncf (F := Ideal) .bf16 (shapeCast S16x128x128 k shapeCasts_S8x2x128x128_S16x128x128) bitsLt_bf16_f32 (ix3 p j d)
      = k (ix4 h b j d) := by
  pointwise []
  blk_ext []

/-- The rows that a point reads; every point reads all the weights and keys. -/
theorem x_at (c : Dev nD) (t : Fin cfg0.N) (r : Fin 256) (k : Fin 2048) (i : Fin 8192) (h : i.val = t.val * 256 + r.val) :
    iblk m c 0 t (ix2 r k) = m ((c : Thread nD τ).loc main_arg0) (ix3 ⟨i.val / 2048, by omega⟩ ⟨i.val % 2048, by omega⟩ k) := by
  have e : iblk m c 0 t (ix2 r k) = V m c main_v0 (ix2 i k) := by
    blk_simp [iblk]
    congr 1
    blk_ext [idx t]
  rw [e, (entry m c).1]
  exact merged_rows _ i k

theorem w_at (c : Dev nD) (t : Fin cfg0.N) (k j : Fin 2048) :
    iblk m c 1 t (ix2 k j) = m ((c : Thread nD τ).loc main_arg1) (ix2 k j) := by
  have e : iblk m c 1 t (ix2 k j) = V m c main_v1 (ix2 k j) := by
    blk_simp [iblk]
    congr 1
    blk_ext [idx t]
  rw [e, (entry m c).2.1]
  pointwise []

theorem k_at (c : Dev nD) (t : Fin cfg0.N) (p : Fin 16) (h : Fin 8) (b : Fin 2) (e : p.val = h.val * 2 + b.val) (j d : Fin 128) :
    iblk m c 2 t (ix3 p j d) = m ((c : Thread nD τ).loc main_arg2) (ix4 h b j d) := by
  have e' : iblk m c 2 t (ix3 p j d) = V m c main_v3 (ix3 p j d) := by
    blk_simp [iblk]
    congr 1
    blk_ext [idx t]
  rw [e', (entry m c).2.2]
  exact merged_keys _ p h b e j d

/-- A block's score is the reference's, where the blocks read its rows, weights and keys. -/
theorem score_eq (x : FVec Ideal S4x2048x2048 .f32) (w : FVec Ideal S2048x2048 .f32) (k : FVec Ideal S8x2x128x128 .f32)
    (p : Fin 16) (h : Fin 8) (b : Fin 2) (hp : p.val = h.val * 2 + b.val) (j : Fin 128) (r : Fin 256) (i : Fin 8192)
    (hx : ∀ l, x0 (ix2 r l) = x (ix3 ⟨i.val / 2048, by omega⟩ ⟨i.val % 2048, by omega⟩ l))
    (hw : ∀ l n, x1 (ix2 l n) = w (ix2 l n)) (hk : ∀ d, x2 (ix3 p j d) = k (ix4 h b j d)) :
    score (queries x0 x1) x2 p j r = scored (projected x w) k (ix4 i h b j) := by
  rw [scored_at]
  unfold score
  refine Finset.sum_congr (M := EReal) rfl fun d _ => ?_
  rw [hk, projected_at]
  refine congrArg (fun a : EReal => k (ix4 h b j d) * a)
    ((queries_at _ _ r _).trans (Finset.sum_congr (M := EReal) rfl fun l _ => ?_))
  refine congrArg₂ (fun a b : EReal => a * b) ?_ ?_
  · exact (congrArg x0 (by blk_ext [] <;> exact (Rect.idx_unit_val _ _ _ _ _).trans (by simp [ix2]))).trans (hx l)
  · refine Eq.trans (congrArg x1 (a₂ := ix2 l ⟨p.val * 128 + d.val, by omega⟩) ?_) ((hw l _).trans (congrArg w ?_))
    · blk_ext [] <;> exact (Rect.idx_unit_val _ _ _ _ _).trans (by simp [ix2])
    · blk_ext [hp] <;> omega

/-- The first array of scores the kernel leaves is the reference's first, -/
theorem final_first (c : Dev nD) : (dats m 0 c).arrAt 3 cfg0.N
    = firstScores (scored (projected (m ((c : Thread nD τ).loc main_arg0)) (m ((c : Thread nD τ).loc main_arg1)))
        (m ((c : Thread nD τ).loc main_arg2))) := by
  refine (dats m 0 c).arrAt_eq_of_covers 3 _ (by decide +kernel) fun t hf y => ?_
  blk_simp
  obtain ⟨h, j, r, rfl⟩ : ∃ (h : Fin 8) (j : Fin 128) (r : Fin 256), y = ix3 h j r := ⟨y 0, y 1, y 2, eq_ix3 y⟩
  rw [after3]
  have ht : t.val < 32 := t.isLt
  have hr := r.isLt
  have e : ((View.whole main_v4_0).slice (win0_3.rect t)).emb (ix3 h j r)
      = ix3 h j (⟨t.val * 256 + r.val, by omega⟩ : Fin 8192) := by blk_ext [idx t]
  refine Eq.trans ?_ (congrArg (firstScores _) e.symm)
  rw [firstScores_at]
  exact (first_at _ _ _ h j r).trans (score_eq _ _ _ _ _ _ _ h 0 rfl j r _ (fun l => x_at m c t r l _ rfl)
    (w_at m c t) (k_at m c t _ h 0 rfl j))

/-- and the second its second. -/
theorem final_second (c : Dev nD) : (dats m 0 c).arrAt 4 cfg0.N
    = secondScores (scored (projected (m ((c : Thread nD τ).loc main_arg0)) (m ((c : Thread nD τ).loc main_arg1)))
        (m ((c : Thread nD τ).loc main_arg2))) := by
  refine (dats m 0 c).arrAt_eq_of_covers 4 _ (by decide +kernel) fun t hf y => ?_
  blk_simp
  obtain ⟨h, j, r, rfl⟩ : ∃ (h : Fin 8) (j : Fin 128) (r : Fin 256), y = ix3 h j r := ⟨y 0, y 1, y 2, eq_ix3 y⟩
  rw [after4]
  have ht : t.val < 32 := t.isLt
  have hr := r.isLt
  have e : ((View.whole main_v4_1).slice (win0_4.rect t)).emb (ix3 h j r)
      = ix3 h j (⟨t.val * 256 + r.val, by omega⟩ : Fin 8192) := by blk_ext [idx t]
  refine Eq.trans ?_ (congrArg (secondScores _) e.symm)
  rw [secondScores_at]
  exact (second_at _ _ _ h j r).trans (score_eq _ _ _ _ _ _ _ h 1 rfl j r _ (fun l => x_at m c t r l _ rfl)
    (w_at m c t) (k_at m c t _ h 1 rfl j))

/-- The two programs leave the same scores. -/
theorem algebraic : Cert.algebraic_ScoresIdeal_ScoresRefIdeal := by
  intro m ρ m' ρ' _ hagree
  refine ⟨fun c => (dats m 0 c).arrAt 3 cfg0.N, fun c => (dats m 0 c).arrAt 4 cfg0.N,
    (θ_run Cert.ScoresIdeal.defs _ _).mono (fun _ h c => ⟨(h.1 c).1.1, (h.1 c).1.2, (h.1 c).2⟩) (run (F := Ideal) m ρ), ?_⟩
  refine (θ_run Cert.ScoresRefIdeal.defs _ _).mono (fun _ h c => ⟨(h c).1.trans ?_, (h c).2.1.trans ?_, (h c).2.2⟩)
    (Cert.ScoresRefIdeal.Value.run (F := Ideal) m' ρ')
  · obtain ⟨h0, h1, h2⟩ := hagree c
    refine Eq.trans ?_ (final_first m c).symm
    rw [h0, h1, h2]
    rfl
  · obtain ⟨h0, h1, h2⟩ := hagree c
    refine Eq.trans ?_ (final_second m c).symm
    rw [h0, h1, h2]
    rfl

end Cert.Proof.Scores

end
-- ==== Proof.ScoresBits.lean ====
/- The scores call at the chip's number formats: that every execution ends, with the arguments as launched and the
   counters at zero. Nothing is said of what it leaves in its outputs. -/
module

public import proofs.«01_k».proof.Proof.Gen.Scores.Frame
public import proofs.«01_k».proof.Proof.Gen.Scores.Skeleton
public import proofs.«01_k».proof.Proof.Gen.Scores.Loops
public import Idealize.ShloMosaic.Lib.Claim

@[expose] public section

set_option maxRecDepth 16384

noncomputable section

namespace Cert.Proof.ScoresBits

open Cert.Scores Cert.Scores.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One run of the body from any contents of its outputs and scratch: the inputs are kept. -/
theorem body_run (c : Dev nD) (i : grid0.Coords) (arg1 : Memref sig .tc .vmem S256x2048 .f32) (harg1 : arg1.IsWhole)
    (arg2 : Memref sig .tc .vmem S2048x2048 .bf16) (harg2 : arg2.IsWhole)
    (arg3 : Memref sig .tc .vmem S16x128x128 .bf16) (harg3 : arg3.IsWhole)
    (arg4 : Memref sig .tc .vmem S8x128x256 .f32) (harg4 : arg4.IsWhole)
    (arg5 : Memref sig .tc .vmem S8x128x256 .f32) (harg5 : arg5.IsWhole)
    (arg6 : Memref sig .tc .vmem S4x8x256 .f32) (harg6 : arg6.IsWhole)
    (arg7 : Memref sig .tc .vmem S16x128x256 .f32) (harg7 : arg7.IsWhole)
    (arg8 : Memref sig .tc .vmem S8x56x256 .f32) (harg8 : arg8.IsWhole)
    (arg9 : Memref sig .tc .vmem S16x16x256 .f32) (harg9 : arg9.IsWhole)
    (arg10 : Memref sig .tc .vmem S8x16x256 .f32) (harg10 : arg10.IsWhole)
    (x0 : Vec F S256x2048 .f32) (x1 : Vec F S2048x2048 .bf16) (x2 : Vec F S16x128x128 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
        (cc0_peer_scores i arg1 harg1 arg2 harg2 arg3 harg3 arg4 harg4 arg5 harg5 arg6 harg6 arg7 harg7 arg8 harg8 arg9 harg9 arg10 harg10) K := by
  simp only [cc0_peer_scores_eq_skeleton]; unfold cc0_peer_scores_skel
  simp only [k0_part54_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- Nothing is said of the three outputs. -/
def unsaid : Fin 6 → Bool := fun w => w.val == 3 || w.val == 4 || w.val == 5

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d

/-- The pipeline's invariant is the four scratch buffers at some contents beside the generator register. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))

/-- and what it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d))

set_option maxHeartbeats 800000 in
/-- The body at any point, by its one run on that point's blocks. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unsaid := fun t => by
  rw [bigSep_W0, bigSep_W0, body_row]
  exact triple_restated (body_at m c t) rfl .rfl fun _ => .rfl

-- the library's run is matched against the statement by unfolding plain definitions in its implicit arguments' types
set_option backward.isDefEq.respectTransparency.types false in
/-- Every execution ends, the staged arrays as `dats` says and the counters at zero. -/
theorem launch_run : θ_run defs (onTc (τ := τ) (main (F := F))) (s₀ m ρ) (fun r =>
    (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := arrays_eq m) (hΦ := fun _ _ => rfl)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (launch_run m ρ)

end Cert.Proof.ScoresBits

end
-- ==== Proof.lean ====
/- The claims, assembled: most frames come from the generated modules, those of the scores from `Proof.ScoresBits` and
   `Proof.ScoresLaunch`, those of the pooling from `Proof.CmpPoolFrame` and `Proof.CmpPool`, and the values from the module of each call. -/
module

public import proofs.«01_k».proof.Defs
public import proofs.«01_k».proof.Proof.Gen.InProj.Frame
public import proofs.«01_k».proof.Proof.Gen.OutProj.Frame
public import proofs.«01_k».proof.Proof.Gen.InProjSample.Frame
public import proofs.«01_k».proof.Proof.Gen.Norm.Frame
public import proofs.«01_k».proof.Proof.Gen.NormSample.Frame
public import proofs.«01_k».proof.Proof.Gen.CmpAttn.Frame
public import proofs.«01_k».proof.Proof.CmpAttn
public import proofs.«01_k».proof.Proof.CmpPool
public import proofs.«01_k».proof.Proof.CmpPoolFrame
public import proofs.«01_k».proof.Proof.InProj
public import proofs.«01_k».proof.Proof.InProjSample
public import proofs.«01_k».proof.Proof.Norm
public import proofs.«01_k».proof.Proof.NormSample
public import proofs.«01_k».proof.Proof.OutProj
public import proofs.«01_k».proof.Proof.OutProjSample
public import proofs.«01_k».proof.Proof.Gen.OutProjSample.Frame
public import proofs.«01_k».proof.Proof.Scores
public import proofs.«01_k».proof.Proof.ScoresBits
public import Idealize.ShloMosaic.Lib.Claim

@[expose] public section

noncomputable section

namespace Cert.Proof

open Idealize.ShloMosaic Idealize.SL.Sem

/-- The reference leaves its arguments, and declares no semaphore. -/
theorem inProjRef_quiescent : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

/-- The reference leaves its arguments, and declares no semaphore. -/
theorem outProjRef_quiescent : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

/-- The reference leaves its arguments, and declares no semaphore. -/
theorem scoresRef_quiescent : Cert.quiescent_ScoresRefIdeal := fun m g _ =>
  (θ_run Cert.ScoresRefIdeal.defs _ _).mono (fun r h => ⟨fun c => (h c).2.2, sem_eq_zero_of_no_sems (by decide) r.2⟩)
    (Cert.ScoresRefIdeal.Value.run (F := Ideal) m g)

/-- The reference leaves its arguments, and declares no semaphore. -/
theorem inProjSampleRef_quiescent : Cert.quiescent_InProjSampleRefIdeal := fun m g _ =>
  (θ_run Cert.InProjSampleRefIdeal.defs _ _).mono (fun r h => ⟨fun c => (h c).2, sem_eq_zero_of_no_sems (by decide) r.2⟩)
    (Cert.InProjSampleRefIdeal.Value.run (F := Ideal) m g)

/-- The reference leaves its arguments, and declares no semaphore. -/
theorem normRef_quiescent : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The reference leaves its arguments, and declares no semaphore. -/
theorem normSampleRef_quiescent : Cert.quiescent_NormSampleRefIdeal := fun m g _ =>
  (θ_run Cert.NormSampleRefIdeal.defs _ _).mono (fun r h => ⟨fun c => (h c).2, sem_eq_zero_of_no_sems (by decide) r.2⟩)
    (Cert.NormSampleRefIdeal.Value.run (F := Ideal) m g)

/-- The reference leaves its arguments, and declares no semaphore. -/
theorem cmpAttnRef_quiescent : Cert.quiescent_CmpAttnRefIdeal := fun m g _ =>
  (θ_run Cert.CmpAttnRefIdeal.defs _ _).mono (fun r h => ⟨fun c => (h c).2, sem_eq_zero_of_no_sems (by decide) r.2⟩)
    (Cert.CmpAttnRefIdeal.Value.run (F := Ideal) m g)

/-- The reference leaves its arguments, and declares no semaphore. -/
theorem outProjSampleRef_quiescent : Cert.quiescent_OutProjSampleRefIdeal := fun m g _ =>
  (θ_run Cert.OutProjSampleRefIdeal.defs _ _).mono (fun r h => ⟨fun c => (h c).2, sem_eq_zero_of_no_sems (by decide) r.2⟩)
    (Cert.OutProjSampleRefIdeal.Value.run (F := Ideal) m g)

theorem claim : Cert.Claim :=
  ⟨Cert.InProj.Gen.facts, Cert.InProjIdeal.Gen.facts, Cert.InProjRefIdeal.Gen.facts,
    Cert.OutProj.Gen.facts, Cert.OutProjIdeal.Gen.facts, Cert.OutProjRefIdeal.Gen.facts,
    Cert.Scores.Gen.facts, Cert.ScoresIdeal.Gen.facts, Cert.ScoresRefIdeal.Gen.facts,
    Cert.InProjSample.Gen.facts, Cert.InProjSampleIdeal.Gen.facts, Cert.InProjSampleRefIdeal.Gen.facts,
    Cert.Norm.Gen.facts, Cert.NormIdeal.Gen.facts, Cert.NormRefIdeal.Gen.facts,
    Cert.NormSample.Gen.facts, Cert.NormSampleIdeal.Gen.facts, Cert.NormSampleRefIdeal.Gen.facts,
    Cert.CmpAttn.Gen.facts, Cert.CmpAttnIdeal.Gen.facts, Cert.CmpAttnRefIdeal.Gen.facts,
    Cert.OutProjSample.Gen.facts, Cert.OutProjSampleIdeal.Gen.facts, Cert.OutProjSampleRefIdeal.Gen.facts,
    Cert.CmpPool.Gen.facts, Cert.CmpPoolIdeal.Gen.facts, Cert.CmpPoolRefIdeal.Gen.facts,
    Cert.Pre_pages_in_pool.Gen.facts, Cert.Pre_pages_in_pool_finite.Gen.facts,
    fun m g _ => Cert.InProj.Gen.frame m g, fun m g _ => Cert.InProjIdeal.Gen.frame m g, inProjRef_quiescent,
    fun m g _ => Cert.OutProj.Gen.frame m g, fun m g _ => Cert.OutProjIdeal.Gen.frame m g, outProjRef_quiescent,
    fun m g _ => ScoresBits.frame m g, fun m g _ => ScoresRun.frame m g, scoresRef_quiescent,
    fun m g _ => Cert.InProjSample.Gen.frame m g, fun m g _ => Cert.InProjSampleIdeal.Gen.frame m g, inProjSampleRef_quiescent,
    fun m g _ => Cert.Norm.Gen.frame m g, fun m g _ => Cert.NormIdeal.Gen.frame m g, normRef_quiescent,
    fun m g _ => Cert.NormSample.Gen.frame m g, fun m g _ => Cert.NormSampleIdeal.Gen.frame m g, normSampleRef_quiescent,
    fun m g _ => Cert.CmpAttn.Gen.frame m g, fun m g _ => Cert.CmpAttnIdeal.Gen.frame m g, cmpAttnRef_quiescent,
    fun m g _ => Cert.OutProjSample.Gen.frame m g, fun m g _ => Cert.OutProjSampleIdeal.Gen.frame m g, outProjSampleRef_quiescent,
    CmpPoolFrame.frame_bits, CmpPool.frame_ideal, CmpPool.frame_ideal_finite, CmpPoolFrame.frame_ref, CmpPoolFrame.frame_ref_finite,
    trivial, InProj.algebraic, trivial, OutProj.algebraic, trivial, Scores.algebraic,
    trivial, InProjSample.algebraic, trivial, Norm.algebraic, trivial, NormSample.algebraic,
    trivial, CmpAttn.algebraic, trivial, OutProjSample.algebraic,
    trivial, CmpPool.algebraic⟩

end Cert.Proof

end
